-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelFwd (m : (ℓ : Loc Cert.KernelFwd.nD Cert.KernelFwd.τ Cert.KernelFwd.sig) → Buf (Elt Bits) ℓ) : Prop :=
  True

def Pre_KernelFwdIdeal (m : (ℓ : Loc Cert.KernelFwdIdeal.nD Cert.KernelFwdIdeal.τ Cert.KernelFwdIdeal.sig) → Buf (Elt Ideal) ℓ) : Prop :=
  True

def Pre_KernelFwdIdeal_finite_fwd [hPre_finite_fwd : Cert.Pre_finite_fwd.Facts] (m : (ℓ : Loc Cert.KernelFwdIdeal.nD Cert.KernelFwdIdeal.τ Cert.KernelFwdIdeal.sig) → Buf (Elt Ideal) ℓ) : Prop :=
  ∀ c : Dev Cert.KernelFwdIdeal.nD,
    (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.2.2.2.2.1 = (fun _ => 1#1)
    ∧ (Cert.Pre_finite_fwd.fn (F := Ideal) (m ((c.tc : Thread Cert.KernelFwdIdeal.nD Cert.KernelFwdIdeal.τ).loc Cert.KernelFwdIdeal.main_arg0)) (m ((c.tc : Thread Cert.KernelFwdIdeal.nD Cert.KernelFwdIdeal.τ).loc Cert.KernelFwdIdeal.main_arg1)) (m ((c.tc : Thread Cert.KernelFwdIdeal.nD Cert.KernelFwdIdeal.τ).loc Cert.KernelFwdIdeal.main_arg2)) (m ((c.tc : Thread Cert.KernelFwdIdeal.nD Cert.KernelFwdIdeal.τ).loc Cert.KernelFwdIdeal.main_arg3)) (m ((c.tc : Thread Cert.KernelFwdIdeal.nD Cert.KernelFwdIdeal.τ).loc Cert.KernelFwdIdeal.main_arg4)) (m ((c.tc : Thread Cert.KernelFwdIdeal.nD Cert.KernelFwdIdeal.τ).loc Cert.KernelFwdIdeal.main_arg5)) (m ((c.tc : Thread Cert.KernelFwdIdeal.nD Cert.KernelFwdIdeal.τ).loc Cert.KernelFwdIdeal.main_arg6))).2.2.2.2.2.2 = (fun _ => 1#1)

def Pre_ReferenceFwdIdeal (m : (ℓ : Loc Cert.ReferenceFwdIdeal.nD Cert.ReferenceFwdIdeal.τ Cert.ReferenceFwdIdeal.sig) → Buf (Elt Ideal) ℓ) : Prop :=
  True

def Pre_ReferenceFwdIdeal_finite_fwd [hPre_finite_fwd : Cert.Pre_finite_fwd.Facts] (m : (ℓ : Loc Cert.ReferenceFwdIdeal.nD Cert.ReferenceFwdIdeal.τ Cert.ReferenceFwdIdeal.sig) → Buf (Elt Ideal) ℓ) : Prop :=
  ∀ c : Dev Cert.ReferenceFwdIdeal.nD,
    (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.2.2.2.2.1 = (fun _ => 1#1)
    ∧ (Cert.Pre_finite_fwd.fn (F := Ideal) (m ((c.tc : Thread Cert.ReferenceFwdIdeal.nD Cert.ReferenceFwdIdeal.τ).loc Cert.ReferenceFwdIdeal.main_arg0)) (m ((c.tc : Thread Cert.ReferenceFwdIdeal.nD Cert.ReferenceFwdIdeal.τ).loc Cert.ReferenceFwdIdeal.main_arg1)) (m ((c.tc : Thread Cert.ReferenceFwdIdeal.nD Cert.ReferenceFwdIdeal.τ).loc Cert.ReferenceFwdIdeal.main_arg2)) (m ((c.tc : Thread Cert.ReferenceFwdIdeal.nD Cert.ReferenceFwdIdeal.τ).loc Cert.ReferenceFwdIdeal.main_arg3)) (m ((c.tc : Thread Cert.ReferenceFwdIdeal.nD Cert.ReferenceFwdIdeal.τ).loc Cert.ReferenceFwdIdeal.main_arg4)) (m ((c.tc : Thread Cert.ReferenceFwdIdeal.nD Cert.ReferenceFwdIdeal.τ).loc Cert.ReferenceFwdIdeal.main_arg5)) (m ((c.tc : Thread Cert.ReferenceFwdIdeal.nD Cert.ReferenceFwdIdeal.τ).loc Cert.ReferenceFwdIdeal.main_arg6))).2.2.2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_KernelInIdeal_finite_in [hPre_finite_in : Cert.Pre_finite_in.Facts] (m : (ℓ : Loc Cert.KernelInIdeal.nD Cert.KernelInIdeal.τ Cert.KernelInIdeal.sig) → Buf (Elt Ideal) ℓ) : Prop :=
  ∀ c : Dev Cert.KernelInIdeal.nD,
    (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))).1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))).2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))).2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))).2.2.2.1 = (fun _ => 1#1)
    ∧ (Cert.Pre_finite_in.fn (F := Ideal) (m ((c.tc : Thread Cert.KernelInIdeal.nD Cert.KernelInIdeal.τ).loc Cert.KernelInIdeal.main_arg0)) (m ((c.tc : Thread Cert.KernelInIdeal.nD Cert.KernelInIdeal.τ).loc Cert.KernelInIdeal.main_arg1)) (m ((c.tc : Thread Cert.KernelInIdeal.nD Cert.KernelInIdeal.τ).loc Cert.KernelInIdeal.main_arg2)) (m ((c.tc : Thread Cert.KernelInIdeal.nD Cert.KernelInIdeal.τ).loc Cert.KernelInIdeal.main_arg3)) (m ((c.tc : Thread Cert.KernelInIdeal.nD Cert.KernelInIdeal.τ).loc Cert.KernelInIdeal.main_arg4)) (m ((c.tc : Thread Cert.KernelInIdeal.nD Cert.KernelInIdeal.τ).loc Cert.KernelInIdeal.main_arg5))).2.2.2.2 = (fun _ => 1#1)

def Pre_ReferenceInIdeal (m : (ℓ : Loc Cert.ReferenceInIdeal.nD Cert.ReferenceInIdeal.τ Cert.ReferenceInIdeal.sig) → Buf (Elt Ideal) ℓ) : Prop :=
  True

def Pre_ReferenceInIdeal_finite_in [hPre_finite_in : Cert.Pre_finite_in.Facts] (m : (ℓ : Loc Cert.ReferenceInIdeal.nD Cert.ReferenceInIdeal.τ Cert.ReferenceInIdeal.sig) → Buf (Elt Ideal) ℓ) : Prop :=
  ∀ c : Dev Cert.ReferenceInIdeal.nD,
    (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))).1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))).2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))).2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))).2.2.2.1 = (fun _ => 1#1)
    ∧ (Cert.Pre_finite_in.fn (F := Ideal) (m ((c.tc : Thread Cert.ReferenceInIdeal.nD Cert.ReferenceInIdeal.τ).loc Cert.ReferenceInIdeal.main_arg0)) (m ((c.tc : Thread Cert.ReferenceInIdeal.nD Cert.ReferenceInIdeal.τ).loc Cert.ReferenceInIdeal.main_arg1)) (m ((c.tc : Thread Cert.ReferenceInIdeal.nD Cert.ReferenceInIdeal.τ).loc Cert.ReferenceInIdeal.main_arg2)) (m ((c.tc : Thread Cert.ReferenceInIdeal.nD Cert.ReferenceInIdeal.τ).loc Cert.ReferenceInIdeal.main_arg3)) (m ((c.tc : Thread Cert.ReferenceInIdeal.nD Cert.ReferenceInIdeal.τ).loc Cert.ReferenceInIdeal.main_arg4)) (m ((c.tc : Thread Cert.ReferenceInIdeal.nD Cert.ReferenceInIdeal.τ).loc Cert.ReferenceInIdeal.main_arg5))).2.2.2.2 = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_finite_out [hPre_finite_out : Cert.Pre_finite_out.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))).1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))).2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))).2.2.1 = (fun _ => 1#1)
    ∧ (Cert.Pre_finite_out.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5))).2.2.2 = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_finite_out [hPre_finite_out : Cert.Pre_finite_out.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))).1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))).2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))).2.2.1 = (fun _ => 1#1)
    ∧ (Cert.Pre_finite_out.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5))).2.2.2 = (fun _ => 1#1)

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamwFfnIdeal (m : (ℓ : Loc Cert.AdamwFfnIdeal.nD Cert.AdamwFfnIdeal.τ Cert.AdamwFfnIdeal.sig) → Buf (Elt Ideal) ℓ) : Prop :=
  True

def Pre_AdamWdw (m : (ℓ : Loc Cert.AdamWdw.nD Cert.AdamWdw.τ Cert.AdamWdw.sig) → Buf (Elt Bits) ℓ) : Prop :=
  True

def Pre_AdamWdwIdeal (m : (ℓ : Loc Cert.AdamWdwIdeal.nD Cert.AdamWdwIdeal.τ Cert.AdamWdwIdeal.sig) → Buf (Elt Ideal) ℓ) : Prop :=
  True

def Pre_AdamwWdwIdeal (m : (ℓ : Loc Cert.AdamwWdwIdeal.nD Cert.AdamwWdwIdeal.τ Cert.AdamwWdwIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelFwd [hKernelFwd : Cert.KernelFwd.Facts] : Prop :=
  ∀ (m : (ℓ : Loc Cert.KernelFwd.nD Cert.KernelFwd.τ Cert.KernelFwd.sig) → Buf (Elt Bits) ℓ) (g : Dev Cert.KernelFwd.nD → PrngReg), Pre_KernelFwd m →
    θ_run (Cert.KernelFwd.defs (F := Bits)) (onTc (τ := Cert.KernelFwd.τ) (Cert.KernelFwd.main (F := Bits))) ⟨m, fun _ => 0, g⟩ (fun r => (∀ c : Dev Cert.KernelFwd.nD,
      r.2.mem ((c.tc : Thread Cert.KernelFwd.nD Cert.KernelFwd.τ).loc Cert.KernelFwd.main_arg0) = m ((c.tc : Thread Cert.KernelFwd.nD Cert.KernelFwd.τ).loc Cert.KernelFwd.main_arg0)
      ∧ r.2.mem ((c.tc : Thread Cert.KernelFwd.nD Cert.KernelFwd.τ).loc Cert.KernelFwd.main_arg1) = m ((c.tc : Thread Cert.KernelFwd.nD Cert.KernelFwd.τ).loc Cert.KernelFwd.main_arg1)
      ∧ r.2.mem ((c.tc : Thread Cert.KernelFwd.nD Cert.KernelFwd.τ).loc Cert.KernelFwd.main_arg2) = m ((c.tc : Thread Cert.KernelFwd.nD Cert.KernelFwd.τ).loc Cert.KernelFwd.main_arg2)
      ∧ r.2.mem ((c.tc : Thread Cert.KernelFwd.nD Cert.KernelFwd.τ).loc Cert.KernelFwd.main_arg3) = m ((c.tc : Thread Cert.KernelFwd.nD Cert.KernelFwd.τ).loc Cert.KernelFwd.main_arg3)
      ∧ r.2.mem ((c.tc : Thread Cert.KernelFwd.nD Cert.KernelFwd.τ).loc Cert.KernelFwd.main_arg4) = m ((c.tc : Thread Cert.KernelFwd.nD Cert.KernelFwd.τ).loc Cert.KernelFwd.main_arg4)
      ∧ r.2.mem ((c.tc : Thread Cert.KernelFwd.nD Cert.KernelFwd.τ).loc Cert.KernelFwd.main_arg5) = m ((c.tc : Thread Cert.KernelFwd.nD Cert.KernelFwd.τ).loc Cert.KernelFwd.main_arg5)
      ∧ r.2.mem ((c.tc : Thread Cert.KernelFwd.nD Cert.KernelFwd.τ).loc Cert.KernelFwd.main_arg6) = m ((c.tc : Thread Cert.KernelFwd.nD Cert.KernelFwd.τ).loc Cert.KernelFwd.main_arg6))
      ∧ r.2.sem = fun _ => 0)

def quiescent_KernelFwdIdeal [hKernelFwdIdeal : Cert.KernelFwdIdeal.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ r.2.sem = fun _ => 0)

def quiescent_KernelFwdIdeal_pre_finite_fwd [hKernelFwdIdeal : Cert.KernelFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg), Pre_KernelFwdIdeal_finite_fwd m →
    θ_run (Cert.KernelFwdIdeal.defs (F := Ideal)) (onTc (τ := Cert.KernelFwdIdeal.τ) (Cert.KernelFwdIdeal.main (F := Ideal))) ⟨m, fun _ => 0, g⟩ (fun r => (∀ c : Dev Cert.KernelFwdIdeal.nD,
      r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
      ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
      ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
      ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
      ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
      ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
      ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ r.2.sem = fun _ => 0)

def quiescent_ReferenceFwdIdeal [hReferenceFwdIdeal : Cert.ReferenceFwdIdeal.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6))
      ∧ r.2.sem = fun _ => 0)

def quiescent_ReferenceFwdIdeal_pre_finite_fwd [hReferenceFwdIdeal : Cert.ReferenceFwdIdeal.Facts] [hPre_finite_fwd : Cert.Pre_finite_fwd.Facts] : Prop :=
  ∀ (m : (ℓ : Loc Cert.ReferenceFwdIdeal.nD Cert.ReferenceFwdIdeal.τ Cert.ReferenceFwdIdeal.sig) → Buf (Elt Ideal) ℓ) (g : Dev Cert.ReferenceFwdIdeal.nD → PrngReg), Pre_ReferenceFwdIdeal_finite_fwd m →
    θ_run (Cert.ReferenceFwdIdeal.defs (F := Ideal)) (onTc (τ := Cert.ReferenceFwdIdeal.τ) (Cert.ReferenceFwdIdeal.main (F := Ideal))) ⟨m, fun _ => 0, g⟩ (fun r => (∀ c : Dev Cert.ReferenceFwdIdeal.nD,
      r.2.mem ((c.tc : Thread Cert.ReferenceFwdIdeal.nD Cert.ReferenceFwdIdeal.τ).loc Cert.ReferenceFwdIdeal.main_arg0) = m ((c.tc : Thread Cert.ReferenceFwdIdeal.nD Cert.ReferenceFwdIdeal.τ).loc Cert.ReferenceFwdIdeal.main_arg0)
      ∧ r.2.mem ((c.tc : Thread Cert.ReferenceFwdIdeal.nD Cert.ReferenceFwdIdeal.τ).loc Cert.ReferenceFwdIdeal.main_arg1) = m ((c.tc : Thread Cert.ReferenceFwdIdeal.nD Cert.ReferenceFwdIdeal.τ).loc Cert.ReferenceFwdIdeal.main_arg1)
      ∧ r.2.mem ((c.tc : Thread Cert.ReferenceFwdIdeal.nD Cert.ReferenceFwdIdeal.τ).loc Cert.ReferenceFwdIdeal.main_arg2) = m ((c.tc : Thread Cert.ReferenceFwdIdeal.nD Cert.ReferenceFwdIdeal.τ).loc Cert.ReferenceFwdIdeal.main_arg2)
      ∧ r.2.mem ((c.tc : Thread Cert.ReferenceFwdIdeal.nD Cert.ReferenceFwdIdeal.τ).loc Cert.ReferenceFwdIdeal.main_arg3) = m ((c.tc : Thread Cert.ReferenceFwdIdeal.nD Cert.ReferenceFwdIdeal.τ).loc Cert.ReferenceFwdIdeal.main_arg3)
      ∧ r.2.mem ((c.tc : Thread Cert.ReferenceFwdIdeal.nD Cert.ReferenceFwdIdeal.τ).loc Cert.ReferenceFwdIdeal.main_arg4) = m ((c.tc : Thread Cert.ReferenceFwdIdeal.nD Cert.ReferenceFwdIdeal.τ).loc Cert.ReferenceFwdIdeal.main_arg4)
      ∧ r.2.mem ((c.tc : Thread Cert.ReferenceFwdIdeal.nD Cert.ReferenceFwdIdeal.τ).loc Cert.ReferenceFwdIdeal.main_arg5) = m ((c.tc : Thread Cert.ReferenceFwdIdeal.nD Cert.ReferenceFwdIdeal.τ).loc Cert.ReferenceFwdIdeal.main_arg5)
      ∧ r.2.mem ((c.tc : Thread Cert.ReferenceFwdIdeal.nD Cert.ReferenceFwdIdeal.τ).loc Cert.ReferenceFwdIdeal.main_arg6) = m ((c.tc : Thread Cert.ReferenceFwdIdeal.nD Cert.ReferenceFwdIdeal.τ).loc Cert.ReferenceFwdIdeal.main_arg6))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_KernelInIdeal_pre_finite_in [hKernelInIdeal : Cert.KernelInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal_finite_in m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_ReferenceInIdeal_pre_finite_in [hReferenceInIdeal : Cert.ReferenceInIdeal.Facts] [hPre_finite_in : Cert.Pre_finite_in.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal_finite_in m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_KernelOutIdeal_pre_finite_out [hKernelOutIdeal : Cert.KernelOutIdeal.Facts] [hPre_finite_out : Cert.Pre_finite_out.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_finite_out m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_ReferenceOutIdeal_pre_finite_out [hReferenceOutIdeal : Cert.ReferenceOutIdeal.Facts] [hPre_finite_out : Cert.Pre_finite_out.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_finite_out m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamwFfnIdeal [hAdamwFfnIdeal : Cert.AdamwFfnIdeal.Facts] : Prop :=
  ∀ (m : (ℓ : Loc Cert.AdamwFfnIdeal.nD Cert.AdamwFfnIdeal.τ Cert.AdamwFfnIdeal.sig) → Buf (Elt Ideal) ℓ) (g : Dev Cert.AdamwFfnIdeal.nD → PrngReg), Pre_AdamwFfnIdeal m →
    θ_run (Cert.AdamwFfnIdeal.defs (F := Ideal)) (onTc (τ := Cert.AdamwFfnIdeal.τ) (Cert.AdamwFfnIdeal.main (F := Ideal))) ⟨m, fun _ => 0, g⟩ (fun r => (∀ c : Dev Cert.AdamwFfnIdeal.nD,
      r.2.mem ((c.tc : Thread Cert.AdamwFfnIdeal.nD Cert.AdamwFfnIdeal.τ).loc Cert.AdamwFfnIdeal.main_arg0) = m ((c.tc : Thread Cert.AdamwFfnIdeal.nD Cert.AdamwFfnIdeal.τ).loc Cert.AdamwFfnIdeal.main_arg0)
      ∧ r.2.mem ((c.tc : Thread Cert.AdamwFfnIdeal.nD Cert.AdamwFfnIdeal.τ).loc Cert.AdamwFfnIdeal.main_arg1) = m ((c.tc : Thread Cert.AdamwFfnIdeal.nD Cert.AdamwFfnIdeal.τ).loc Cert.AdamwFfnIdeal.main_arg1)
      ∧ r.2.mem ((c.tc : Thread Cert.AdamwFfnIdeal.nD Cert.AdamwFfnIdeal.τ).loc Cert.AdamwFfnIdeal.main_arg2) = m ((c.tc : Thread Cert.AdamwFfnIdeal.nD Cert.AdamwFfnIdeal.τ).loc Cert.AdamwFfnIdeal.main_arg2)
      ∧ r.2.mem ((c.tc : Thread Cert.AdamwFfnIdeal.nD Cert.AdamwFfnIdeal.τ).loc Cert.AdamwFfnIdeal.main_arg3) = m ((c.tc : Thread Cert.AdamwFfnIdeal.nD Cert.AdamwFfnIdeal.τ).loc Cert.AdamwFfnIdeal.main_arg3))
      ∧ r.2.sem = fun _ => 0)

def quiescent_AdamWdw [hAdamWdw : Cert.AdamWdw.Facts] : Prop :=
  ∀ (m : (ℓ : Loc Cert.AdamWdw.nD Cert.AdamWdw.τ Cert.AdamWdw.sig) → Buf (Elt Bits) ℓ) (g : Dev Cert.AdamWdw.nD → PrngReg), Pre_AdamWdw m →
    θ_run (Cert.AdamWdw.defs (F := Bits)) (onTc (τ := Cert.AdamWdw.τ) (Cert.AdamWdw.main (F := Bits))) ⟨m, fun _ => 0, g⟩ (fun r => (∀ c : Dev Cert.AdamWdw.nD,
      r.2.mem ((c.tc : Thread Cert.AdamWdw.nD Cert.AdamWdw.τ).loc Cert.AdamWdw.main_arg0) = m ((c.tc : Thread Cert.AdamWdw.nD Cert.AdamWdw.τ).loc Cert.AdamWdw.main_arg0)
      ∧ r.2.mem ((c.tc : Thread Cert.AdamWdw.nD Cert.AdamWdw.τ).loc Cert.AdamWdw.main_arg1) = m ((c.tc : Thread Cert.AdamWdw.nD Cert.AdamWdw.τ).loc Cert.AdamWdw.main_arg1)
      ∧ r.2.mem ((c.tc : Thread Cert.AdamWdw.nD Cert.AdamWdw.τ).loc Cert.AdamWdw.main_arg2) = m ((c.tc : Thread Cert.AdamWdw.nD Cert.AdamWdw.τ).loc Cert.AdamWdw.main_arg2)
      ∧ r.2.mem ((c.tc : Thread Cert.AdamWdw.nD Cert.AdamWdw.τ).loc Cert.AdamWdw.main_arg3) = m ((c.tc : Thread Cert.AdamWdw.nD Cert.AdamWdw.τ).loc Cert.AdamWdw.main_arg3))
      ∧ r.2.sem = fun _ => 0)

def quiescent_AdamWdwIdeal [hAdamWdwIdeal : Cert.AdamWdwIdeal.Facts] : Prop :=
  ∀ (m : (ℓ : Loc Cert.AdamWdwIdeal.nD Cert.AdamWdwIdeal.τ Cert.AdamWdwIdeal.sig) → Buf (Elt Ideal) ℓ) (g : Dev Cert.AdamWdwIdeal.nD → PrngReg), Pre_AdamWdwIdeal m →
    θ_run (Cert.AdamWdwIdeal.defs (F := Ideal)) (onTc (τ := Cert.AdamWdwIdeal.τ) (Cert.AdamWdwIdeal.main (F := Ideal))) ⟨m, fun _ => 0, g⟩ (fun r => (∀ c : Dev Cert.AdamWdwIdeal.nD,
      r.2.mem ((c.tc : Thread Cert.AdamWdwIdeal.nD Cert.AdamWdwIdeal.τ).loc Cert.AdamWdwIdeal.main_arg0) = m ((c.tc : Thread Cert.AdamWdwIdeal.nD Cert.AdamWdwIdeal.τ).loc Cert.AdamWdwIdeal.main_arg0)
      ∧ r.2.mem ((c.tc : Thread Cert.AdamWdwIdeal.nD Cert.AdamWdwIdeal.τ).loc Cert.AdamWdwIdeal.main_arg1) = m ((c.tc : Thread Cert.AdamWdwIdeal.nD Cert.AdamWdwIdeal.τ).loc Cert.AdamWdwIdeal.main_arg1)
      ∧ r.2.mem ((c.tc : Thread Cert.AdamWdwIdeal.nD Cert.AdamWdwIdeal.τ).loc Cert.AdamWdwIdeal.main_arg2) = m ((c.tc : Thread Cert.AdamWdwIdeal.nD Cert.AdamWdwIdeal.τ).loc Cert.AdamWdwIdeal.main_arg2)
      ∧ r.2.mem ((c.tc : Thread Cert.AdamWdwIdeal.nD Cert.AdamWdwIdeal.τ).loc Cert.AdamWdwIdeal.main_arg3) = m ((c.tc : Thread Cert.AdamWdwIdeal.nD Cert.AdamWdwIdeal.τ).loc Cert.AdamWdwIdeal.main_arg3))
      ∧ r.2.sem = fun _ => 0)

def quiescent_AdamwWdwIdeal [hAdamwWdwIdeal : Cert.AdamwWdwIdeal.Facts] : Prop :=
  ∀ (m : (ℓ : Loc Cert.AdamwWdwIdeal.nD Cert.AdamwWdwIdeal.τ Cert.AdamwWdwIdeal.sig) → Buf (Elt Ideal) ℓ) (g : Dev Cert.AdamwWdwIdeal.nD → PrngReg), Pre_AdamwWdwIdeal m →
    θ_run (Cert.AdamwWdwIdeal.defs (F := Ideal)) (onTc (τ := Cert.AdamwWdwIdeal.τ) (Cert.AdamwWdwIdeal.main (F := Ideal))) ⟨m, fun _ => 0, g⟩ (fun r => (∀ c : Dev Cert.AdamwWdwIdeal.nD,
      r.2.mem ((c.tc : Thread Cert.AdamwWdwIdeal.nD Cert.AdamwWdwIdeal.τ).loc Cert.AdamwWdwIdeal.main_arg0) = m ((c.tc : Thread Cert.AdamwWdwIdeal.nD Cert.AdamwWdwIdeal.τ).loc Cert.AdamwWdwIdeal.main_arg0)
      ∧ r.2.mem ((c.tc : Thread Cert.AdamwWdwIdeal.nD Cert.AdamwWdwIdeal.τ).loc Cert.AdamwWdwIdeal.main_arg1) = m ((c.tc : Thread Cert.AdamwWdwIdeal.nD Cert.AdamwWdwIdeal.τ).loc Cert.AdamwWdwIdeal.main_arg1)
      ∧ r.2.mem ((c.tc : Thread Cert.AdamwWdwIdeal.nD Cert.AdamwWdwIdeal.τ).loc Cert.AdamwWdwIdeal.main_arg2) = m ((c.tc : Thread Cert.AdamwWdwIdeal.nD Cert.AdamwWdwIdeal.τ).loc Cert.AdamwWdwIdeal.main_arg2)
      ∧ r.2.mem ((c.tc : Thread Cert.AdamwWdwIdeal.nD Cert.AdamwWdwIdeal.τ).loc Cert.AdamwWdwIdeal.main_arg3) = m ((c.tc : Thread Cert.AdamwWdwIdeal.nD Cert.AdamwWdwIdeal.τ).loc Cert.AdamwWdwIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v2_0)) (v1 : (c : Dev Cert.KernelUpIdeal.nD) → Buf (Elt Ideal) ((c.tc : Thread Cert.KernelUpIdeal.nD Cert.KernelUpIdeal.τ).loc Cert.KernelUpIdeal.main_v2_1)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v2_0) = v0 c
          ∧ r.2.mem ((c.tc : Thread Cert.KernelUpIdeal.nD Cert.KernelUpIdeal.τ).loc Cert.KernelUpIdeal.main_v2_1) = v1 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v5) = v0 c
          ∧ r.2.mem ((c.tc : Thread Cert.ReferenceUpIdeal.nD Cert.ReferenceUpIdeal.τ).loc Cert.ReferenceUpIdeal.main_v8) = v1 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v2_0)) (v1 : (c : Dev Cert.KernelDownIdeal.nD) → Buf (Elt Ideal) ((c.tc : Thread Cert.KernelDownIdeal.nD Cert.KernelDownIdeal.τ).loc Cert.KernelDownIdeal.main_v2_1)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v2_0) = v0 c
          ∧ r.2.mem ((c.tc : Thread Cert.KernelDownIdeal.nD Cert.KernelDownIdeal.τ).loc Cert.KernelDownIdeal.main_v2_1) = v1 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_v5) = v1 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelFwd_KernelFwdIdeal : Prop :=
  True

def algebraic_KernelFwdIdeal_ReferenceFwdIdeal_pre_finite_fwd [hKernelFwdIdeal : Cert.KernelFwdIdeal.Facts] [hReferenceFwdIdeal : Cert.ReferenceFwdIdeal.Facts] [hPre_finite_fwd : Cert.Pre_finite_fwd.Facts] : Prop :=
  ∀ (m : (ℓ : Loc Cert.KernelFwdIdeal.nD Cert.KernelFwdIdeal.τ Cert.KernelFwdIdeal.sig) → Buf (Elt Ideal) ℓ) (g : Dev Cert.KernelFwdIdeal.nD → PrngReg)
    (m' : (ℓ : Loc Cert.ReferenceFwdIdeal.nD Cert.ReferenceFwdIdeal.τ Cert.ReferenceFwdIdeal.sig) → Buf (Elt Ideal) ℓ) (g' : Dev Cert.ReferenceFwdIdeal.nD → PrngReg), Pre_KernelFwdIdeal_finite_fwd m →
    (∀ c : Dev Cert.KernelFwdIdeal.nD,
      m' ((c.tc : Thread Cert.ReferenceFwdIdeal.nD Cert.ReferenceFwdIdeal.τ).loc Cert.ReferenceFwdIdeal.main_arg0) = m ((c.tc : Thread Cert.KernelFwdIdeal.nD Cert.KernelFwdIdeal.τ).loc Cert.KernelFwdIdeal.main_arg0)
      ∧ m' ((c.tc : Thread Cert.ReferenceFwdIdeal.nD Cert.ReferenceFwdIdeal.τ).loc Cert.ReferenceFwdIdeal.main_arg1) = m ((c.tc : Thread Cert.KernelFwdIdeal.nD Cert.KernelFwdIdeal.τ).loc Cert.KernelFwdIdeal.main_arg1)
      ∧ m' ((c.tc : Thread Cert.ReferenceFwdIdeal.nD Cert.ReferenceFwdIdeal.τ).loc Cert.ReferenceFwdIdeal.main_arg2) = m ((c.tc : Thread Cert.KernelFwdIdeal.nD Cert.KernelFwdIdeal.τ).loc Cert.KernelFwdIdeal.main_arg2)
      ∧ m' ((c.tc : Thread Cert.ReferenceFwdIdeal.nD Cert.ReferenceFwdIdeal.τ).loc Cert.ReferenceFwdIdeal.main_arg3) = m ((c.tc : Thread Cert.KernelFwdIdeal.nD Cert.KernelFwdIdeal.τ).loc Cert.KernelFwdIdeal.main_arg3)
      ∧ m' ((c.tc : Thread Cert.ReferenceFwdIdeal.nD Cert.ReferenceFwdIdeal.τ).loc Cert.ReferenceFwdIdeal.main_arg4) = m ((c.tc : Thread Cert.KernelFwdIdeal.nD Cert.KernelFwdIdeal.τ).loc Cert.KernelFwdIdeal.main_arg4)
      ∧ m' ((c.tc : Thread Cert.ReferenceFwdIdeal.nD Cert.ReferenceFwdIdeal.τ).loc Cert.ReferenceFwdIdeal.main_arg5) = m ((c.tc : Thread Cert.KernelFwdIdeal.nD Cert.KernelFwdIdeal.τ).loc Cert.KernelFwdIdeal.main_arg5)
      ∧ m' ((c.tc : Thread Cert.ReferenceFwdIdeal.nD Cert.ReferenceFwdIdeal.τ).loc Cert.ReferenceFwdIdeal.main_arg6) = m ((c.tc : Thread Cert.KernelFwdIdeal.nD Cert.KernelFwdIdeal.τ).loc Cert.KernelFwdIdeal.main_arg6)) →
    ∃ (v0 : (c : Dev Cert.KernelFwdIdeal.nD) → Buf (Elt Ideal) ((c.tc : Thread Cert.KernelFwdIdeal.nD Cert.KernelFwdIdeal.τ).loc Cert.KernelFwdIdeal.main_v5_0)) (v1 : (c : Dev Cert.KernelFwdIdeal.nD) → Buf (Elt Ideal) ((c.tc : Thread Cert.KernelFwdIdeal.nD Cert.KernelFwdIdeal.τ).loc Cert.KernelFwdIdeal.main_v5_1)) (v2 : (c : Dev Cert.KernelFwdIdeal.nD) → Buf (Elt Ideal) ((c.tc : Thread Cert.KernelFwdIdeal.nD Cert.KernelFwdIdeal.τ).loc Cert.KernelFwdIdeal.main_v5_2)) (v3 : (c : Dev Cert.KernelFwdIdeal.nD) → Buf (Elt Ideal) ((c.tc : Thread Cert.KernelFwdIdeal.nD Cert.KernelFwdIdeal.τ).loc Cert.KernelFwdIdeal.main_v5_3)),
      θ_run (Cert.KernelFwdIdeal.defs (F := Ideal)) (onTc (τ := Cert.KernelFwdIdeal.τ) (Cert.KernelFwdIdeal.main (F := Ideal))) ⟨m, fun _ => 0, g⟩ (fun r => ∀ c : Dev Cert.KernelFwdIdeal.nD,
          r.2.mem ((c.tc : Thread Cert.KernelFwdIdeal.nD Cert.KernelFwdIdeal.τ).loc Cert.KernelFwdIdeal.main_v5_0) = v0 c
          ∧ r.2.mem ((c.tc : Thread Cert.KernelFwdIdeal.nD Cert.KernelFwdIdeal.τ).loc Cert.KernelFwdIdeal.main_v5_1) = v1 c
          ∧ r.2.mem ((c.tc : Thread Cert.KernelFwdIdeal.nD Cert.KernelFwdIdeal.τ).loc Cert.KernelFwdIdeal.main_v5_2) = v2 c
          ∧ r.2.mem ((c.tc : Thread Cert.KernelFwdIdeal.nD Cert.KernelFwdIdeal.τ).loc Cert.KernelFwdIdeal.main_v5_3) = v3 c
          ∧ r.2.mem ((c.tc : Thread Cert.KernelFwdIdeal.nD Cert.KernelFwdIdeal.τ).loc Cert.KernelFwdIdeal.main_arg0) = m ((c.tc : Thread Cert.KernelFwdIdeal.nD Cert.KernelFwdIdeal.τ).loc Cert.KernelFwdIdeal.main_arg0)
          ∧ r.2.mem ((c.tc : Thread Cert.KernelFwdIdeal.nD Cert.KernelFwdIdeal.τ).loc Cert.KernelFwdIdeal.main_arg1) = m ((c.tc : Thread Cert.KernelFwdIdeal.nD Cert.KernelFwdIdeal.τ).loc Cert.KernelFwdIdeal.main_arg1)
          ∧ r.2.mem ((c.tc : Thread Cert.KernelFwdIdeal.nD Cert.KernelFwdIdeal.τ).loc Cert.KernelFwdIdeal.main_arg2) = m ((c.tc : Thread Cert.KernelFwdIdeal.nD Cert.KernelFwdIdeal.τ).loc Cert.KernelFwdIdeal.main_arg2)
          ∧ r.2.mem ((c.tc : Thread Cert.KernelFwdIdeal.nD Cert.KernelFwdIdeal.τ).loc Cert.KernelFwdIdeal.main_arg3) = m ((c.tc : Thread Cert.KernelFwdIdeal.nD Cert.KernelFwdIdeal.τ).loc Cert.KernelFwdIdeal.main_arg3)
          ∧ r.2.mem ((c.tc : Thread Cert.KernelFwdIdeal.nD Cert.KernelFwdIdeal.τ).loc Cert.KernelFwdIdeal.main_arg4) = m ((c.tc : Thread Cert.KernelFwdIdeal.nD Cert.KernelFwdIdeal.τ).loc Cert.KernelFwdIdeal.main_arg4)
          ∧ r.2.mem ((c.tc : Thread Cert.KernelFwdIdeal.nD Cert.KernelFwdIdeal.τ).loc Cert.KernelFwdIdeal.main_arg5) = m ((c.tc : Thread Cert.KernelFwdIdeal.nD Cert.KernelFwdIdeal.τ).loc Cert.KernelFwdIdeal.main_arg5)
          ∧ r.2.mem ((c.tc : Thread Cert.KernelFwdIdeal.nD Cert.KernelFwdIdeal.τ).loc Cert.KernelFwdIdeal.main_arg6) = m ((c.tc : Thread Cert.KernelFwdIdeal.nD Cert.KernelFwdIdeal.τ).loc Cert.KernelFwdIdeal.main_arg6))
      ∧ θ_run (Cert.ReferenceFwdIdeal.defs (F := Ideal)) (onTc (τ := Cert.ReferenceFwdIdeal.τ) (Cert.ReferenceFwdIdeal.main (F := Ideal))) ⟨m', fun _ => 0, g'⟩ (fun r => ∀ c : Dev Cert.ReferenceFwdIdeal.nD,
          r.2.mem ((c.tc : Thread Cert.ReferenceFwdIdeal.nD Cert.ReferenceFwdIdeal.τ).loc Cert.ReferenceFwdIdeal.main_v66) = v0 c
          ∧ r.2.mem ((c.tc : Thread Cert.ReferenceFwdIdeal.nD Cert.ReferenceFwdIdeal.τ).loc Cert.ReferenceFwdIdeal.main_v67) = v1 c
          ∧ r.2.mem ((c.tc : Thread Cert.ReferenceFwdIdeal.nD Cert.ReferenceFwdIdeal.τ).loc Cert.ReferenceFwdIdeal.main_v37) = v2 c
          ∧ r.2.mem ((c.tc : Thread Cert.ReferenceFwdIdeal.nD Cert.ReferenceFwdIdeal.τ).loc Cert.ReferenceFwdIdeal.main_v69) = v3 c
          ∧ r.2.mem ((c.tc : Thread Cert.ReferenceFwdIdeal.nD Cert.ReferenceFwdIdeal.τ).loc Cert.ReferenceFwdIdeal.main_arg0) = m' ((c.tc : Thread Cert.ReferenceFwdIdeal.nD Cert.ReferenceFwdIdeal.τ).loc Cert.ReferenceFwdIdeal.main_arg0)
          ∧ r.2.mem ((c.tc : Thread Cert.ReferenceFwdIdeal.nD Cert.ReferenceFwdIdeal.τ).loc Cert.ReferenceFwdIdeal.main_arg1) = m' ((c.tc : Thread Cert.ReferenceFwdIdeal.nD Cert.ReferenceFwdIdeal.τ).loc Cert.ReferenceFwdIdeal.main_arg1)
          ∧ r.2.mem ((c.tc : Thread Cert.ReferenceFwdIdeal.nD Cert.ReferenceFwdIdeal.τ).loc Cert.ReferenceFwdIdeal.main_arg2) = m' ((c.tc : Thread Cert.ReferenceFwdIdeal.nD Cert.ReferenceFwdIdeal.τ).loc Cert.ReferenceFwdIdeal.main_arg2)
          ∧ r.2.mem ((c.tc : Thread Cert.ReferenceFwdIdeal.nD Cert.ReferenceFwdIdeal.τ).loc Cert.ReferenceFwdIdeal.main_arg3) = m' ((c.tc : Thread Cert.ReferenceFwdIdeal.nD Cert.ReferenceFwdIdeal.τ).loc Cert.ReferenceFwdIdeal.main_arg3)
          ∧ r.2.mem ((c.tc : Thread Cert.ReferenceFwdIdeal.nD Cert.ReferenceFwdIdeal.τ).loc Cert.ReferenceFwdIdeal.main_arg4) = m' ((c.tc : Thread Cert.ReferenceFwdIdeal.nD Cert.ReferenceFwdIdeal.τ).loc Cert.ReferenceFwdIdeal.main_arg4)
          ∧ r.2.mem ((c.tc : Thread Cert.ReferenceFwdIdeal.nD Cert.ReferenceFwdIdeal.τ).loc Cert.ReferenceFwdIdeal.main_arg5) = m' ((c.tc : Thread Cert.ReferenceFwdIdeal.nD Cert.ReferenceFwdIdeal.τ).loc Cert.ReferenceFwdIdeal.main_arg5)
          ∧ r.2.mem ((c.tc : Thread Cert.ReferenceFwdIdeal.nD Cert.ReferenceFwdIdeal.τ).loc Cert.ReferenceFwdIdeal.main_arg6) = m' ((c.tc : Thread Cert.ReferenceFwdIdeal.nD Cert.ReferenceFwdIdeal.τ).loc Cert.ReferenceFwdIdeal.main_arg6))

def preserves_KernelIn_KernelInIdeal : Prop :=
  True

def algebraic_KernelInIdeal_ReferenceInIdeal_pre_finite_in [hKernelInIdeal : Cert.KernelInIdeal.Facts] [hReferenceInIdeal : Cert.ReferenceInIdeal.Facts] [hPre_finite_in : Cert.Pre_finite_in.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal_finite_in m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v51) = v0 c
          ∧ r.2.mem ((c.tc : Thread Cert.ReferenceInIdeal.nD Cert.ReferenceInIdeal.τ).loc Cert.ReferenceInIdeal.main_v53) = v1 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5))

def preserves_KernelOut_KernelOutIdeal : Prop :=
  True

def algebraic_KernelOutIdeal_ReferenceOutIdeal_pre_finite_out [hKernelOutIdeal : Cert.KernelOutIdeal.Facts] [hReferenceOutIdeal : Cert.ReferenceOutIdeal.Facts] [hPre_finite_out : Cert.Pre_finite_out.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_finite_out m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)) →
    ∃ (v0 : (c : Dev Cert.KernelOutIdeal.nD) → Buf (Elt Ideal) ((c.tc : Thread Cert.KernelOutIdeal.nD Cert.KernelOutIdeal.τ).loc Cert.KernelOutIdeal.main_v2_0)) (v1 : (c : Dev Cert.KernelOutIdeal.nD) → Buf (Elt Ideal) ((c.tc : Thread Cert.KernelOutIdeal.nD Cert.KernelOutIdeal.τ).loc Cert.KernelOutIdeal.main_v2_1)) (v2 : (c : Dev Cert.KernelOutIdeal.nD) → Buf (Elt Ideal) ((c.tc : Thread Cert.KernelOutIdeal.nD Cert.KernelOutIdeal.τ).loc Cert.KernelOutIdeal.main_v2_2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2_0) = v0 c
          ∧ r.2.mem ((c.tc : Thread Cert.KernelOutIdeal.nD Cert.KernelOutIdeal.τ).loc Cert.KernelOutIdeal.main_v2_1) = v1 c
          ∧ r.2.mem ((c.tc : Thread Cert.KernelOutIdeal.nD Cert.KernelOutIdeal.τ).loc Cert.KernelOutIdeal.main_v2_2) = v2 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v45) = v0 c
          ∧ r.2.mem ((c.tc : Thread Cert.ReferenceOutIdeal.nD Cert.ReferenceOutIdeal.τ).loc Cert.ReferenceOutIdeal.main_v47) = v1 c
          ∧ r.2.mem ((c.tc : Thread Cert.ReferenceOutIdeal.nD Cert.ReferenceOutIdeal.τ).loc Cert.ReferenceOutIdeal.main_v44) = v2 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)) →
    ∃ (v0 : (c : Dev Cert.KernelAdaIdeal.nD) → Buf (Elt Ideal) ((c.tc : Thread Cert.KernelAdaIdeal.nD Cert.KernelAdaIdeal.τ).loc Cert.KernelAdaIdeal.main_v1_0)) (v1 : (c : Dev Cert.KernelAdaIdeal.nD) → Buf (Elt Ideal) ((c.tc : Thread Cert.KernelAdaIdeal.nD Cert.KernelAdaIdeal.τ).loc Cert.KernelAdaIdeal.main_v1_1)) (v2 : (c : Dev Cert.KernelAdaIdeal.nD) → Buf (Elt Ideal) ((c.tc : Thread Cert.KernelAdaIdeal.nD Cert.KernelAdaIdeal.τ).loc Cert.KernelAdaIdeal.main_v1_2)) (v3 : (c : Dev Cert.KernelAdaIdeal.nD) → Buf (Elt Ideal) ((c.tc : Thread Cert.KernelAdaIdeal.nD Cert.KernelAdaIdeal.τ).loc Cert.KernelAdaIdeal.main_v1_3)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v1_0) = v0 c
          ∧ r.2.mem ((c.tc : Thread Cert.KernelAdaIdeal.nD Cert.KernelAdaIdeal.τ).loc Cert.KernelAdaIdeal.main_v1_1) = v1 c
          ∧ r.2.mem ((c.tc : Thread Cert.KernelAdaIdeal.nD Cert.KernelAdaIdeal.τ).loc Cert.KernelAdaIdeal.main_v1_2) = v2 c
          ∧ r.2.mem ((c.tc : Thread Cert.KernelAdaIdeal.nD Cert.KernelAdaIdeal.τ).loc Cert.KernelAdaIdeal.main_v1_3) = v3 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v2) = v0 c
          ∧ r.2.mem ((c.tc : Thread Cert.ReferenceAdaIdeal.nD Cert.ReferenceAdaIdeal.τ).loc Cert.ReferenceAdaIdeal.main_v26) = v1 c
          ∧ r.2.mem ((c.tc : Thread Cert.ReferenceAdaIdeal.nD Cert.ReferenceAdaIdeal.τ).loc Cert.ReferenceAdaIdeal.main_v7) = v2 c
          ∧ r.2.mem ((c.tc : Thread Cert.ReferenceAdaIdeal.nD Cert.ReferenceAdaIdeal.τ).loc Cert.ReferenceAdaIdeal.main_v13) = v3 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4))

def preserves_AdamIn_AdamInIdeal : Prop :=
  True

def algebraic_AdamInIdeal_AdamwInIdeal [hAdamInIdeal : Cert.AdamInIdeal.Facts] [hAdamwInIdeal : Cert.AdamwInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamwInIdeal.nD Cert.AdamwInIdeal.τ Cert.AdamwInIdeal.sig) → Buf (Elt Ideal) ℓ) (g' : Dev Cert.AdamwInIdeal.nD → PrngReg), Pre_AdamInIdeal m →
    (∀ c : Dev Cert.AdamInIdeal.nD,
      m' ((c.tc : Thread Cert.AdamwInIdeal.nD Cert.AdamwInIdeal.τ).loc Cert.AdamwInIdeal.main_arg0) = m ((c.tc : Thread Cert.AdamInIdeal.nD Cert.AdamInIdeal.τ).loc Cert.AdamInIdeal.main_arg0)
      ∧ m' ((c.tc : Thread Cert.AdamwInIdeal.nD Cert.AdamwInIdeal.τ).loc Cert.AdamwInIdeal.main_arg1) = m ((c.tc : Thread Cert.AdamInIdeal.nD Cert.AdamInIdeal.τ).loc Cert.AdamInIdeal.main_arg1)
      ∧ m' ((c.tc : Thread Cert.AdamwInIdeal.nD Cert.AdamwInIdeal.τ).loc Cert.AdamwInIdeal.main_arg2) = m ((c.tc : Thread Cert.AdamInIdeal.nD Cert.AdamInIdeal.τ).loc Cert.AdamInIdeal.main_arg2)
      ∧ m' ((c.tc : Thread Cert.AdamwInIdeal.nD Cert.AdamwInIdeal.τ).loc Cert.AdamwInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamwInIdeal.defs (F := Ideal)) (onTc (τ := Cert.AdamwInIdeal.τ) (Cert.AdamwInIdeal.main (F := Ideal))) ⟨m', fun _ => 0, g'⟩ (fun r => ∀ c : Dev Cert.AdamwInIdeal.nD,
          r.2.mem ((c.tc : Thread Cert.AdamwInIdeal.nD Cert.AdamwInIdeal.τ).loc Cert.AdamwInIdeal.main_v23) = v0 c
          ∧ r.2.mem ((c.tc : Thread Cert.AdamwInIdeal.nD Cert.AdamwInIdeal.τ).loc Cert.AdamwInIdeal.main_v4) = v1 c
          ∧ r.2.mem ((c.tc : Thread Cert.AdamwInIdeal.nD Cert.AdamwInIdeal.τ).loc Cert.AdamwInIdeal.main_v10) = v2 c
          ∧ r.2.mem ((c.tc : Thread Cert.AdamwInIdeal.nD Cert.AdamwInIdeal.τ).loc Cert.AdamwInIdeal.main_arg0) = m' ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m' ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m' ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m' ((c.tc : Thread Cert.AdamwInIdeal.nD Cert.AdamwInIdeal.τ).loc Cert.AdamwInIdeal.main_arg3))

def preserves_AdamOut_AdamOutIdeal : Prop :=
  True

def algebraic_AdamOutIdeal_AdamwOutIdeal [hAdamOutIdeal : Cert.AdamOutIdeal.Facts] [hAdamwOutIdeal : Cert.AdamwOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamwOutIdeal.nD Cert.AdamwOutIdeal.τ Cert.AdamwOutIdeal.sig) → Buf (Elt Ideal) ℓ) (g' : Dev Cert.AdamwOutIdeal.nD → PrngReg), Pre_AdamOutIdeal m →
    (∀ c : Dev Cert.AdamOutIdeal.nD,
      m' ((c.tc : Thread Cert.AdamwOutIdeal.nD Cert.AdamwOutIdeal.τ).loc Cert.AdamwOutIdeal.main_arg0) = m ((c.tc : Thread Cert.AdamOutIdeal.nD Cert.AdamOutIdeal.τ).loc Cert.AdamOutIdeal.main_arg0)
      ∧ m' ((c.tc : Thread Cert.AdamwOutIdeal.nD Cert.AdamwOutIdeal.τ).loc Cert.AdamwOutIdeal.main_arg1) = m ((c.tc : Thread Cert.AdamOutIdeal.nD Cert.AdamOutIdeal.τ).loc Cert.AdamOutIdeal.main_arg1)
      ∧ m' ((c.tc : Thread Cert.AdamwOutIdeal.nD Cert.AdamwOutIdeal.τ).loc Cert.AdamwOutIdeal.main_arg2) = m ((c.tc : Thread Cert.AdamOutIdeal.nD Cert.AdamOutIdeal.τ).loc Cert.AdamOutIdeal.main_arg2)
      ∧ m' ((c.tc : Thread Cert.AdamwOutIdeal.nD Cert.AdamwOutIdeal.τ).loc Cert.AdamwOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamwOutIdeal.defs (F := Ideal)) (onTc (τ := Cert.AdamwOutIdeal.τ) (Cert.AdamwOutIdeal.main (F := Ideal))) ⟨m', fun _ => 0, g'⟩ (fun r => ∀ c : Dev Cert.AdamwOutIdeal.nD,
          r.2.mem ((c.tc : Thread Cert.AdamwOutIdeal.nD Cert.AdamwOutIdeal.τ).loc Cert.AdamwOutIdeal.main_v23) = v0 c
          ∧ r.2.mem ((c.tc : Thread Cert.AdamwOutIdeal.nD Cert.AdamwOutIdeal.τ).loc Cert.AdamwOutIdeal.main_v4) = v1 c
          ∧ r.2.mem ((c.tc : Thread Cert.AdamwOutIdeal.nD Cert.AdamwOutIdeal.τ).loc Cert.AdamwOutIdeal.main_v10) = v2 c
          ∧ r.2.mem ((c.tc : Thread Cert.AdamwOutIdeal.nD Cert.AdamwOutIdeal.τ).loc Cert.AdamwOutIdeal.main_arg0) = m' ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m' ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m' ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m' ((c.tc : Thread Cert.AdamwOutIdeal.nD Cert.AdamwOutIdeal.τ).loc Cert.AdamwOutIdeal.main_arg3))

def preserves_AdamFfn_AdamFfnIdeal : Prop :=
  True

def algebraic_AdamFfnIdeal_AdamwFfnIdeal [hAdamFfnIdeal : Cert.AdamFfnIdeal.Facts] [hAdamwFfnIdeal : Cert.AdamwFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamwFfnIdeal.nD Cert.AdamwFfnIdeal.τ Cert.AdamwFfnIdeal.sig) → Buf (Elt Ideal) ℓ) (g' : Dev Cert.AdamwFfnIdeal.nD → PrngReg), Pre_AdamFfnIdeal m →
    (∀ c : Dev Cert.AdamFfnIdeal.nD,
      m' ((c.tc : Thread Cert.AdamwFfnIdeal.nD Cert.AdamwFfnIdeal.τ).loc Cert.AdamwFfnIdeal.main_arg0) = m ((c.tc : Thread Cert.AdamFfnIdeal.nD Cert.AdamFfnIdeal.τ).loc Cert.AdamFfnIdeal.main_arg0)
      ∧ m' ((c.tc : Thread Cert.AdamwFfnIdeal.nD Cert.AdamwFfnIdeal.τ).loc Cert.AdamwFfnIdeal.main_arg1) = m ((c.tc : Thread Cert.AdamFfnIdeal.nD Cert.AdamFfnIdeal.τ).loc Cert.AdamFfnIdeal.main_arg1)
      ∧ m' ((c.tc : Thread Cert.AdamwFfnIdeal.nD Cert.AdamwFfnIdeal.τ).loc Cert.AdamwFfnIdeal.main_arg2) = m ((c.tc : Thread Cert.AdamFfnIdeal.nD Cert.AdamFfnIdeal.τ).loc Cert.AdamFfnIdeal.main_arg2)
      ∧ m' ((c.tc : Thread Cert.AdamwFfnIdeal.nD Cert.AdamwFfnIdeal.τ).loc Cert.AdamwFfnIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamwFfnIdeal.defs (F := Ideal)) (onTc (τ := Cert.AdamwFfnIdeal.τ) (Cert.AdamwFfnIdeal.main (F := Ideal))) ⟨m', fun _ => 0, g'⟩ (fun r => ∀ c : Dev Cert.AdamwFfnIdeal.nD,
          r.2.mem ((c.tc : Thread Cert.AdamwFfnIdeal.nD Cert.AdamwFfnIdeal.τ).loc Cert.AdamwFfnIdeal.main_v23) = v0 c
          ∧ r.2.mem ((c.tc : Thread Cert.AdamwFfnIdeal.nD Cert.AdamwFfnIdeal.τ).loc Cert.AdamwFfnIdeal.main_v4) = v1 c
          ∧ r.2.mem ((c.tc : Thread Cert.AdamwFfnIdeal.nD Cert.AdamwFfnIdeal.τ).loc Cert.AdamwFfnIdeal.main_v10) = v2 c
          ∧ r.2.mem ((c.tc : Thread Cert.AdamwFfnIdeal.nD Cert.AdamwFfnIdeal.τ).loc Cert.AdamwFfnIdeal.main_arg0) = m' ((c.tc : Thread Cert.AdamwFfnIdeal.nD Cert.AdamwFfnIdeal.τ).loc Cert.AdamwFfnIdeal.main_arg0)
          ∧ r.2.mem ((c.tc : Thread Cert.AdamwFfnIdeal.nD Cert.AdamwFfnIdeal.τ).loc Cert.AdamwFfnIdeal.main_arg1) = m' ((c.tc : Thread Cert.AdamwFfnIdeal.nD Cert.AdamwFfnIdeal.τ).loc Cert.AdamwFfnIdeal.main_arg1)
          ∧ r.2.mem ((c.tc : Thread Cert.AdamwFfnIdeal.nD Cert.AdamwFfnIdeal.τ).loc Cert.AdamwFfnIdeal.main_arg2) = m' ((c.tc : Thread Cert.AdamwFfnIdeal.nD Cert.AdamwFfnIdeal.τ).loc Cert.AdamwFfnIdeal.main_arg2)
          ∧ r.2.mem ((c.tc : Thread Cert.AdamwFfnIdeal.nD Cert.AdamwFfnIdeal.τ).loc Cert.AdamwFfnIdeal.main_arg3) = m' ((c.tc : Thread Cert.AdamwFfnIdeal.nD Cert.AdamwFfnIdeal.τ).loc Cert.AdamwFfnIdeal.main_arg3))

def preserves_AdamWdw_AdamWdwIdeal : Prop :=
  True

def algebraic_AdamWdwIdeal_AdamwWdwIdeal [hAdamWdwIdeal : Cert.AdamWdwIdeal.Facts] [hAdamwWdwIdeal : Cert.AdamwWdwIdeal.Facts] : Prop :=
  ∀ (m : (ℓ : Loc Cert.AdamWdwIdeal.nD Cert.AdamWdwIdeal.τ Cert.AdamWdwIdeal.sig) → Buf (Elt Ideal) ℓ) (g : Dev Cert.AdamWdwIdeal.nD → PrngReg)
    (m' : (ℓ : Loc Cert.AdamwWdwIdeal.nD Cert.AdamwWdwIdeal.τ Cert.AdamwWdwIdeal.sig) → Buf (Elt Ideal) ℓ) (g' : Dev Cert.AdamwWdwIdeal.nD → PrngReg), Pre_AdamWdwIdeal m →
    (∀ c : Dev Cert.AdamWdwIdeal.nD,
      m' ((c.tc : Thread Cert.AdamwWdwIdeal.nD Cert.AdamwWdwIdeal.τ).loc Cert.AdamwWdwIdeal.main_arg0) = m ((c.tc : Thread Cert.AdamWdwIdeal.nD Cert.AdamWdwIdeal.τ).loc Cert.AdamWdwIdeal.main_arg0)
      ∧ m' ((c.tc : Thread Cert.AdamwWdwIdeal.nD Cert.AdamwWdwIdeal.τ).loc Cert.AdamwWdwIdeal.main_arg1) = m ((c.tc : Thread Cert.AdamWdwIdeal.nD Cert.AdamWdwIdeal.τ).loc Cert.AdamWdwIdeal.main_arg1)
      ∧ m' ((c.tc : Thread Cert.AdamwWdwIdeal.nD Cert.AdamwWdwIdeal.τ).loc Cert.AdamwWdwIdeal.main_arg2) = m ((c.tc : Thread Cert.AdamWdwIdeal.nD Cert.AdamWdwIdeal.τ).loc Cert.AdamWdwIdeal.main_arg2)
      ∧ m' ((c.tc : Thread Cert.AdamwWdwIdeal.nD Cert.AdamwWdwIdeal.τ).loc Cert.AdamwWdwIdeal.main_arg3) = m ((c.tc : Thread Cert.AdamWdwIdeal.nD Cert.AdamWdwIdeal.τ).loc Cert.AdamWdwIdeal.main_arg3)) →
    ∃ (v0 : (c : Dev Cert.AdamWdwIdeal.nD) → Buf (Elt Ideal) ((c.tc : Thread Cert.AdamWdwIdeal.nD Cert.AdamWdwIdeal.τ).loc Cert.AdamWdwIdeal.main_v0_0)) (v1 : (c : Dev Cert.AdamWdwIdeal.nD) → Buf (Elt Ideal) ((c.tc : Thread Cert.AdamWdwIdeal.nD Cert.AdamWdwIdeal.τ).loc Cert.AdamWdwIdeal.main_v0_1)) (v2 : (c : Dev Cert.AdamWdwIdeal.nD) → Buf (Elt Ideal) ((c.tc : Thread Cert.AdamWdwIdeal.nD Cert.AdamWdwIdeal.τ).loc Cert.AdamWdwIdeal.main_v0_2)),
      θ_run (Cert.AdamWdwIdeal.defs (F := Ideal)) (onTc (τ := Cert.AdamWdwIdeal.τ) (Cert.AdamWdwIdeal.main (F := Ideal))) ⟨m, fun _ => 0, g⟩ (fun r => ∀ c : Dev Cert.AdamWdwIdeal.nD,
          r.2.mem ((c.tc : Thread Cert.AdamWdwIdeal.nD Cert.AdamWdwIdeal.τ).loc Cert.AdamWdwIdeal.main_v0_0) = v0 c
          ∧ r.2.mem ((c.tc : Thread Cert.AdamWdwIdeal.nD Cert.AdamWdwIdeal.τ).loc Cert.AdamWdwIdeal.main_v0_1) = v1 c
          ∧ r.2.mem ((c.tc : Thread Cert.AdamWdwIdeal.nD Cert.AdamWdwIdeal.τ).loc Cert.AdamWdwIdeal.main_v0_2) = v2 c
          ∧ r.2.mem ((c.tc : Thread Cert.AdamWdwIdeal.nD Cert.AdamWdwIdeal.τ).loc Cert.AdamWdwIdeal.main_arg0) = m ((c.tc : Thread Cert.AdamWdwIdeal.nD Cert.AdamWdwIdeal.τ).loc Cert.AdamWdwIdeal.main_arg0)
          ∧ r.2.mem ((c.tc : Thread Cert.AdamWdwIdeal.nD Cert.AdamWdwIdeal.τ).loc Cert.AdamWdwIdeal.main_arg1) = m ((c.tc : Thread Cert.AdamWdwIdeal.nD Cert.AdamWdwIdeal.τ).loc Cert.AdamWdwIdeal.main_arg1)
          ∧ r.2.mem ((c.tc : Thread Cert.AdamWdwIdeal.nD Cert.AdamWdwIdeal.τ).loc Cert.AdamWdwIdeal.main_arg2) = m ((c.tc : Thread Cert.AdamWdwIdeal.nD Cert.AdamWdwIdeal.τ).loc Cert.AdamWdwIdeal.main_arg2)
          ∧ r.2.mem ((c.tc : Thread Cert.AdamWdwIdeal.nD Cert.AdamWdwIdeal.τ).loc Cert.AdamWdwIdeal.main_arg3) = m ((c.tc : Thread Cert.AdamWdwIdeal.nD Cert.AdamWdwIdeal.τ).loc Cert.AdamWdwIdeal.main_arg3))
      ∧ θ_run (Cert.AdamwWdwIdeal.defs (F := Ideal)) (onTc (τ := Cert.AdamwWdwIdeal.τ) (Cert.AdamwWdwIdeal.main (F := Ideal))) ⟨m', fun _ => 0, g'⟩ (fun r => ∀ c : Dev Cert.AdamwWdwIdeal.nD,
          r.2.mem ((c.tc : Thread Cert.AdamwWdwIdeal.nD Cert.AdamwWdwIdeal.τ).loc Cert.AdamwWdwIdeal.main_v23) = v0 c
          ∧ r.2.mem ((c.tc : Thread Cert.AdamwWdwIdeal.nD Cert.AdamwWdwIdeal.τ).loc Cert.AdamwWdwIdeal.main_v4) = v1 c
          ∧ r.2.mem ((c.tc : Thread Cert.AdamwWdwIdeal.nD Cert.AdamwWdwIdeal.τ).loc Cert.AdamwWdwIdeal.main_v10) = v2 c
          ∧ r.2.mem ((c.tc : Thread Cert.AdamwWdwIdeal.nD Cert.AdamwWdwIdeal.τ).loc Cert.AdamwWdwIdeal.main_arg0) = m' ((c.tc : Thread Cert.AdamwWdwIdeal.nD Cert.AdamwWdwIdeal.τ).loc Cert.AdamwWdwIdeal.main_arg0)
          ∧ r.2.mem ((c.tc : Thread Cert.AdamwWdwIdeal.nD Cert.AdamwWdwIdeal.τ).loc Cert.AdamwWdwIdeal.main_arg1) = m' ((c.tc : Thread Cert.AdamwWdwIdeal.nD Cert.AdamwWdwIdeal.τ).loc Cert.AdamwWdwIdeal.main_arg1)
          ∧ r.2.mem ((c.tc : Thread Cert.AdamwWdwIdeal.nD Cert.AdamwWdwIdeal.τ).loc Cert.AdamwWdwIdeal.main_arg2) = m' ((c.tc : Thread Cert.AdamwWdwIdeal.nD Cert.AdamwWdwIdeal.τ).loc Cert.AdamwWdwIdeal.main_arg2)
          ∧ r.2.mem ((c.tc : Thread Cert.AdamwWdwIdeal.nD Cert.AdamwWdwIdeal.τ).loc Cert.AdamwWdwIdeal.main_arg3) = m' ((c.tc : Thread Cert.AdamwWdwIdeal.nD Cert.AdamwWdwIdeal.τ).loc Cert.AdamwWdwIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelFwd : Cert.KernelFwd.Facts) (hKernelFwdIdeal : Cert.KernelFwdIdeal.Facts) (hReferenceFwdIdeal : Cert.ReferenceFwdIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelAda : Cert.KernelAda.Facts) (hKernelAdaIdeal : Cert.KernelAdaIdeal.Facts) (hReferenceAdaIdeal : Cert.ReferenceAdaIdeal.Facts) (hAdamIn : Cert.AdamIn.Facts) (hAdamInIdeal : Cert.AdamInIdeal.Facts) (hAdamwInIdeal : Cert.AdamwInIdeal.Facts) (hAdamOut : Cert.AdamOut.Facts) (hAdamOutIdeal : Cert.AdamOutIdeal.Facts) (hAdamwOutIdeal : Cert.AdamwOutIdeal.Facts) (hAdamFfn : Cert.AdamFfn.Facts) (hAdamFfnIdeal : Cert.AdamFfnIdeal.Facts) (hAdamwFfnIdeal : Cert.AdamwFfnIdeal.Facts) (hAdamWdw : Cert.AdamWdw.Facts) (hAdamWdwIdeal : Cert.AdamWdwIdeal.Facts) (hAdamwWdwIdeal : Cert.AdamwWdwIdeal.Facts) (hPre_finite : Cert.Pre_finite.Facts) (hPre_finite_fwd : Cert.Pre_finite_fwd.Facts) (hPre_finite_in : Cert.Pre_finite_in.Facts) (hPre_finite_out : Cert.Pre_finite_out.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelFwd (hKernelFwd := hKernelFwd)
    ∧ quiescent_KernelFwdIdeal (hKernelFwdIdeal := hKernelFwdIdeal)
    ∧ quiescent_KernelFwdIdeal_pre_finite_fwd (hKernelFwdIdeal := hKernelFwdIdeal) (hPre_finite_fwd := hPre_finite_fwd)
    ∧ quiescent_ReferenceFwdIdeal (hReferenceFwdIdeal := hReferenceFwdIdeal)
    ∧ quiescent_ReferenceFwdIdeal_pre_finite_fwd (hReferenceFwdIdeal := hReferenceFwdIdeal) (hPre_finite_fwd := hPre_finite_fwd)
    ∧ quiescent_KernelIn (hKernelIn := hKernelIn)
    ∧ quiescent_KernelInIdeal (hKernelInIdeal := hKernelInIdeal)
    ∧ quiescent_KernelInIdeal_pre_finite_in (hKernelInIdeal := hKernelInIdeal) (hPre_finite_in := hPre_finite_in)
    ∧ quiescent_ReferenceInIdeal (hReferenceInIdeal := hReferenceInIdeal)
    ∧ quiescent_ReferenceInIdeal_pre_finite_in (hReferenceInIdeal := hReferenceInIdeal) (hPre_finite_in := hPre_finite_in)
    ∧ quiescent_KernelOut (hKernelOut := hKernelOut)
    ∧ quiescent_KernelOutIdeal (hKernelOutIdeal := hKernelOutIdeal)
    ∧ quiescent_KernelOutIdeal_pre_finite_out (hKernelOutIdeal := hKernelOutIdeal) (hPre_finite_out := hPre_finite_out)
    ∧ quiescent_ReferenceOutIdeal (hReferenceOutIdeal := hReferenceOutIdeal)
    ∧ quiescent_ReferenceOutIdeal_pre_finite_out (hReferenceOutIdeal := hReferenceOutIdeal) (hPre_finite_out := hPre_finite_out)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_AdamIn (hAdamIn := hAdamIn)
    ∧ quiescent_AdamInIdeal (hAdamInIdeal := hAdamInIdeal)
    ∧ quiescent_AdamwInIdeal (hAdamwInIdeal := hAdamwInIdeal)
    ∧ quiescent_AdamOut (hAdamOut := hAdamOut)
    ∧ quiescent_AdamOutIdeal (hAdamOutIdeal := hAdamOutIdeal)
    ∧ quiescent_AdamwOutIdeal (hAdamwOutIdeal := hAdamwOutIdeal)
    ∧ quiescent_AdamFfn (hAdamFfn := hAdamFfn)
    ∧ quiescent_AdamFfnIdeal (hAdamFfnIdeal := hAdamFfnIdeal)
    ∧ quiescent_AdamwFfnIdeal (hAdamwFfnIdeal := hAdamwFfnIdeal)
    ∧ quiescent_AdamWdw (hAdamWdw := hAdamWdw)
    ∧ quiescent_AdamWdwIdeal (hAdamWdwIdeal := hAdamWdwIdeal)
    ∧ quiescent_AdamwWdwIdeal (hAdamwWdwIdeal := hAdamwWdwIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelFwd_KernelFwdIdeal
    ∧ algebraic_KernelFwdIdeal_ReferenceFwdIdeal_pre_finite_fwd (hKernelFwdIdeal := hKernelFwdIdeal) (hReferenceFwdIdeal := hReferenceFwdIdeal) (hPre_finite_fwd := hPre_finite_fwd)
    ∧ preserves_KernelIn_KernelInIdeal
    ∧ algebraic_KernelInIdeal_ReferenceInIdeal_pre_finite_in (hKernelInIdeal := hKernelInIdeal) (hReferenceInIdeal := hReferenceInIdeal) (hPre_finite_in := hPre_finite_in)
    ∧ preserves_KernelOut_KernelOutIdeal
    ∧ algebraic_KernelOutIdeal_ReferenceOutIdeal_pre_finite_out (hKernelOutIdeal := hKernelOutIdeal) (hReferenceOutIdeal := hReferenceOutIdeal) (hPre_finite_out := hPre_finite_out)
    ∧ preserves_KernelAda_KernelAdaIdeal
    ∧ algebraic_KernelAdaIdeal_ReferenceAdaIdeal (hKernelAdaIdeal := hKernelAdaIdeal) (hReferenceAdaIdeal := hReferenceAdaIdeal)
    ∧ preserves_AdamIn_AdamInIdeal
    ∧ algebraic_AdamInIdeal_AdamwInIdeal (hAdamInIdeal := hAdamInIdeal) (hAdamwInIdeal := hAdamwInIdeal)
    ∧ preserves_AdamOut_AdamOutIdeal
    ∧ algebraic_AdamOutIdeal_AdamwOutIdeal (hAdamOutIdeal := hAdamOutIdeal) (hAdamwOutIdeal := hAdamwOutIdeal)
    ∧ preserves_AdamFfn_AdamFfnIdeal
    ∧ algebraic_AdamFfnIdeal_AdamwFfnIdeal (hAdamFfnIdeal := hAdamFfnIdeal) (hAdamwFfnIdeal := hAdamwFfnIdeal)
    ∧ preserves_AdamWdw_AdamWdwIdeal
    ∧ algebraic_AdamWdwIdeal_AdamwWdwIdeal (hAdamWdwIdeal := hAdamWdwIdeal) (hAdamwWdwIdeal := hAdamwWdwIdeal)
-- ==== Pre_finite.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S4096x1024 .f32) (main_arg5 : FVec F S6x1024 .f32) (main_arg6 : FVec F S1x1024 .f32) : IVec S4096x1024 1 × IVec S4096x1024 1 × IVec S1024x4096 1 × IVec S4096x1024 1 × IVec S6x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x4096 .f32 := Host.absf main_arg3
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  let main_v9 : FVec F S4096x1024 .f32 := Host.absf main_arg4
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S6x1024 .f32 := Host.absf main_arg5
  let main_cst_3 : FVec F S_ .f32 := constant S_ .f32 0x7F800000#32
  let main_v13 : FVec F S6x1024 .f32 := broadcastInDim S6x1024 ![] bcast_S_S6x1024 main_cst_3
  let main_v14 : IVec S6x1024 1 := cmpf .olt main_v12 main_v13
  let main_v15 : FVec F S1x1024 .f32 := Host.absf main_arg6
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_finite_fwd.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1024x4096 : S_.BroadcastsInDim S1024x4096 (![] : Fin 0 → Fin S1024x4096.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn_part1 {F : FTy → Type} [FloatOps F] (main_arg6 : FVec F S1x1024 .f32) (main_v2 : IVec S4096x1024 1) (main_v5 : IVec S4096x1024 1) (main_v8 : IVec S4096x1024 1) (main_v11 : IVec S1024x4096 1) (main_v14 : IVec S4096x1024 1) (main_v17 : IVec S6x1024 1) : IVec S4096x1024 1 × IVec S4096x1024 1 × IVec S4096x1024 1 × IVec S1024x4096 1 × IVec S4096x1024 1 × IVec S6x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x1024 .f32) (main_arg3 : FVec F S1024x4096 .f32) (main_arg4 : FVec F S4096x1024 .f32) (main_arg5 : FVec F S6x1024 .f32) (main_arg6 : FVec F S1x1024 .f32) : IVec S4096x1024 1 × IVec S4096x1024 1 × IVec S4096x1024 1 × IVec S1024x4096 1 × IVec S4096x1024 1 × IVec S6x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024x4096 .f32 := Host.absf main_arg3
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S6x1024 .f32 := Host.absf main_arg5
  let main_cst_4 : FVec F S_ .f32 := constant S_ .f32 0x7F800000#32
  let main_v16 : FVec F S6x1024 .f32 := broadcastInDim S6x1024 ![] bcast_S_S6x1024 main_cst_4
  let main_v17 : IVec S6x1024 1 := cmpf .olt main_v15 main_v16
  fn_part1 (F := F) main_arg6 main_v2 main_v5 main_v8 main_v11 main_v14 main_v17
-- ==== Pre_finite_in.lean ====
abbrev S4096x3072 : Shape := ⟨2, ![4096, 3072]⟩
abbrev S1024x3072 : Shape := ⟨2, ![1024, 3072]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩

class Facts : Prop where
  bcast_S_S4096x3072 : S_.BroadcastsInDim S4096x3072 (![] : Fin 0 → Fin S4096x3072.rank)
  bcast_S_S1024x3072 : S_.BroadcastsInDim S1024x3072 (![] : Fin 0 → Fin S1024x3072.rank)
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn {F : FTy → Type} [FloatOps F] (main_arg0 : FVec F S4096x3072 .f32) (main_arg1 : FVec F S1024x3072 .f32) (main_arg2 : FVec F S4096x1024 .f32) (main_arg3 : FVec F S4096x1024 .f32) (main_arg4 : FVec F S6x1024 .f32) (main_arg5 : FVec F S1x1024 .f32) : IVec S4096x3072 1 × IVec S1024x3072 1 × IVec S4096x1024 1 × IVec S6x1024 1 × IVec S1x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S1024x3072 .f32 := Host.absf main_arg1
  let main_cst_0 : FVec F S_ .f32 := constant S_ .f32 0x7F800000#32
  let main_v4 : FVec F S1024x3072 .f32 := broadcastInDim S1024x3072 ![] bcast_S_S1024x3072 main_cst_0
  let main_v5 : IVec S1024x3072 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S6x1024 .f32 := Host.absf main_arg4
  let main_cst_2 : FVec F S_ .f32 := constant S_ .f32 0x7F800000#32
  let main_v10 : FVec F S6x1024 .f32 := broadcastInDim S6x1024 ![] bcast_S_S6x1024 main_cst_2
  let main_v11 : IVec S6x1024 1 := cmpf .olt main_v9 main_v10
  let main_v12 : FVec F S1x1024 .f32 := Host.absf main_arg5
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  (main_v2, main_v5, main_v8, main_v11, main_v14)
-- ==== Pre_finite_out.lean ====
abbrev S4096x1024 : Shape := ⟨2, ![4096, 1024]⟩
abbrev S1024x1024 : Shape := ⟨2, ![1024, 1024]⟩
abbrev S6x1024 : Shape := ⟨2, ![6, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S6x1024 .f32) (main_arg5 : FVec F S1x1024 .f32) : IVec S4096x1024 1 × IVec S4096x1024 1 × IVec S6x1024 1 × IVec S1x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S6x1024 .f32 := Host.absf main_arg4
  let main_cst_1 : FVec F S_ .f32 := constant S_ .f32 0x7F800000#32
  let main_v7 : FVec F S6x1024 .f32 := broadcastInDim S6x1024 ![] bcast_S_S6x1024 main_cst_1
  let main_v8 : IVec S6x1024 1 := cmpf .olt main_v6 main_v7
  let main_v9 : FVec F S1x1024 .f32 := Host.absf main_arg5
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  (main_v2, main_v5, main_v8, main_v11)
-- ==== Kernel.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S1024x1024 : Shape := ⟨2, ![1024, 1024]⟩
abbrev S1024x512 : Shape := ⟨2, ![1024, 512]⟩
abbrev S1x1024x512 : Shape := ⟨3, ![1, 1024, 512]⟩
abbrev S512x1024 : Shape := ⟨2, ![512, 1024]⟩
abbrev S512x512 : Shape := ⟨2, ![512, 512]⟩
abbrev S1024 : Shape := ⟨1, ![1024]⟩
abbrev S1024x1 : Shape := ⟨2, ![1024, 1]⟩

abbrev nBuf : Space → Nat
  | .hbm => 45
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S_, .f32⟩
  | .hbm, ⟨24, _⟩ => ⟨S1x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .bf16⟩
  | .hbm, ⟨37, _⟩ => ⟨S4096x1024, .bf16⟩
  | .hbm, ⟨38, _⟩ => ⟨S1024x4x1024, .f32⟩
  | .hbm, ⟨39, _⟩ => ⟨S4x1024x1024, .f32⟩
  | .hbm, ⟨40, _⟩ => ⟨S4x1024x1024, .bf16⟩
  | .hbm, ⟨41, _⟩ => ⟨S4096x1024, .bf16⟩
  | .hbm, ⟨42, _⟩ => ⟨S4096x4096, .bf16⟩
  | .hbm, ⟨43, _⟩ => ⟨S4096x1024, .f32⟩
  | .hbm, ⟨44, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024x512, .bf16⟩
  | .local _ .vmem, ⟨9, _⟩ => ⟨S1x1024x512, .bf16⟩
  | .local _ .vmem, ⟨10, _⟩ => ⟨S512x1024, .bf16⟩
  | .local _ .vmem, ⟨11, _⟩ => ⟨S512x1024, .bf16⟩
  | .local _ .vmem, ⟨12, _⟩ => ⟨S6x1024, .f32⟩
  | .local _ .vmem, ⟨13, _⟩ => ⟨S1x1024, .f32⟩
  | .local _ .vmem, ⟨14, _⟩ => ⟨S1024x512, .bf16⟩
  | .local _ .vmem, ⟨15, _⟩ => ⟨S1024x512, .bf16⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call0_cst : Ref sig .tc := ⟨.hbm, 32, rfl⟩
abbrev main_call0_v0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v56 : BitVec 1 := Scalar.cmpi .eq arg1 c7_i32
  let v57 : BitVec 32 := Scalar.extui v56
  let c0_i32_37 : BitVec 32 := 0#32
  let v58 : BitVec 1 := Scalar.cmpi .ne v57 c0_i32_37
  v58

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S6x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩
abbrev S1024 : Shape := ⟨1, ![1024]⟩
abbrev S5x1024 : Shape := ⟨2, ![5, 1024]⟩
abbrev S8x1024 : Shape := ⟨2, ![8, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .i1⟩
  | .hbm, ⟨42, _⟩ => ⟨S_, .f32⟩
  | .hbm, ⟨43, _⟩ => ⟨S4096x4096, .f32⟩
  | .hbm, ⟨44, _⟩ => ⟨S4096x4096, .f32⟩
  | .hbm, ⟨45, _⟩ => ⟨S_, .f32⟩
  | .hbm, ⟨46, _⟩ => ⟨S4096x4096, .f32⟩
  | .hbm, ⟨47, _⟩ => ⟨S4096x4096, .f32⟩
  | .hbm, ⟨48, _⟩ => ⟨S4096x1024, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x4096, .bf16⟩
  | .hbm, ⟨88, _⟩ => ⟨S4096x1024, .f32⟩
  | .hbm, ⟨89, _⟩ => ⟨S_, .f32⟩
  | .hbm, ⟨90, _⟩ => ⟨S5x1024, .f32⟩
  | .hbm, ⟨91, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call0_cst : Ref sig .tc := ⟨.hbm, 36, rfl⟩
abbrev main_call0_v0 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_cst_13 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== KernelUp.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x1024, .bf16⟩
  | .hbm, ⟨3, _⟩ => ⟨S4096x4096, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_20 : BitVec 32 := 0#32
  let v25 : BitVec 1 := Scalar.cmpi .eq arg1 c0_i32_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceUpIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S_, .f32⟩
  | .hbm, ⟨3, _⟩ => ⟨S1024x4096, .f32⟩
  | .hbm, ⟨4, _⟩ => ⟨S4096x4096, .f32⟩
  | .hbm, ⟨5, _⟩ => ⟨S4096x1024, .f32⟩
  | .hbm, ⟨6, _⟩ => ⟨S1024x4096, .f32⟩
  | .hbm, ⟨7, _⟩ => ⟨S1024x4x1024, .f32⟩
  | .hbm, ⟨8, _⟩ => ⟨S4x1024x1024, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDown.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1x1024x512 : Shape := ⟨3, ![1, 1024, 512]⟩
abbrev S1024x512 : Shape := ⟨2, ![1024, 512]⟩
abbrev S4096x512 : Shape := ⟨2, ![4096, 512]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S4096x4096, .bf16⟩
  | .hbm, ⟨3, _⟩ => ⟨S4096x1024, .bf16⟩
  | .hbm, ⟨4, _⟩ => ⟨S4x1024x1024, .f32⟩
  | .hbm, ⟨5, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def k0_cond2 (i : grid0.Coords) : BitVec 1 :=
  let arg1 : BitVec 32 := BitVec.ofNat 32 (i 1).val
  let c0_i32_20 : BitVec 32 := 0#32
  let v25 : BitVec 1 := Scalar.cmpi .eq arg1 c0_i32_20
  let v26 : BitVec 32 := Scalar.extui v25
  let c0_i32_21 : BitVec 32 := 0#32
  let v27 : BitVec 1 := Scalar.cmpi .ne v26 c0_i32_21
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceDownIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4x1024x1024, .f32⟩
  | .hbm, ⟨8, _⟩ => ⟨S4x1024x1024, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelFwd.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S1024x4x1024 : Shape := ⟨3, ![1024, 4, 1024]⟩
abbrev S4x1024x1024 : Shape := ⟨3, ![4, 1024, 1024]⟩
abbrev S4096x4096 : Shape := ⟨2, ![4096, 4096]⟩
abbrev S8x1024 : Shape := ⟨2, ![8, 1024]⟩
abbrev S1024x1024 : Shape := ⟨2, ![1024, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩
abbrev S1024 : Shape := ⟨1, ![1024]⟩
abbrev S1024x1 : Shape := ⟨2, ![1024, 1]⟩

abbrev nBuf : Space → Nat
  | .hbm => 16
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S4096x1024, .bf16⟩
  | .hbm, ⟨8, _⟩ => ⟨S1024x4x1024, .f32⟩
  | .hbm, ⟨9, _⟩ => ⟨S4x1024x1024, .f32⟩
  | .hbm, ⟨10, _⟩ => ⟨S4x1024x1024, .bf16⟩
  | .hbm, ⟨11, _⟩ => ⟨S4096x1024, .bf16⟩
  | .hbm, ⟨12, _⟩ => ⟨S4096x4096, .bf16⟩
  | .hbm, ⟨13, _⟩ => ⟨S4096x1024, .bf16⟩
  | .hbm, ⟨14, _⟩ => ⟨S4096x1024, .f32⟩
  | .hbm, ⟨15, _⟩ => ⟨S8x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S6x1024, .f32⟩
  | .local _ .vmem, ⟨11, _⟩ => ⟨S1x1024, .f32⟩
  | .local _ .vmem, ⟨12, _⟩ => ⟨S1024x512, .bf16⟩
  | .local _ .vmem, ⟨13, _⟩ => ⟨S1024x512, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .f32⟩
  | .local _ .vmem, ⟨17, _⟩ => ⟨S1024x1024, .f32⟩
  | .local _ .vmem, ⟨18, _⟩ => ⟨S8x1024, .f32⟩
  | .local _ .vmem, ⟨19, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v48 : BitVec 1 := Scalar.cmpi .eq arg1 c7_i32
  let v49 : BitVec 32 := Scalar.extui v48
  let c0_i32_33 : BitVec 32 := 0#32
  let v50 : BitVec 1 := Scalar.cmpi .ne v49 c0_i32_33
  v50

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S6x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceFwdIdeal.lean ====
abbrev S4096x1024 : Shape := ⟨2, ![4096, 1024]⟩
abbrev S1024x4096 : Shape := ⟨2, ![1024, 4096]⟩
abbrev S6x1024 : Shape := ⟨2, ![6, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 98
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S4096x1024, .f32⟩
  | .hbm, ⟨5, _⟩ => ⟨S6x1024, .f32⟩
  | .hbm, ⟨6, _⟩ => ⟨S1x1024, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S4096x4096, .bf16⟩
  | .hbm, ⟨94, _⟩ => ⟨S4096x1024, .bf16⟩
  | .hbm, ⟨95, _⟩ => ⟨S_, .f32⟩
  | .hbm, ⟨96, _⟩ => ⟨S5x1024, .f32⟩
  | .hbm, ⟨97, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_13 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_14 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_16 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== KernelIn.lean ====
abbrev S4096x3072 : Shape := ⟨2, ![4096, 3072]⟩
abbrev S1024x3072 : Shape := ⟨2, ![1024, 3072]⟩
abbrev S4096x1024 : Shape := ⟨2, ![4096, 1024]⟩
abbrev S6x1024 : Shape := ⟨2, ![6, 1024]⟩
abbrev S1x1024 : Shape := ⟨2, ![1, 1024]⟩
abbrev S1024x4x768 : Shape := ⟨3, ![1024, 4, 768]⟩
abbrev S4x1024x768 : Shape := ⟨3, ![4, 1024, 768]⟩
abbrev S8x1024 : Shape := ⟨2, ![8, 1024]⟩
abbrev S512x3072 : Shape := ⟨2, ![512, 3072]⟩
abbrev S512x1024 : Shape := ⟨2, ![512, 1024]⟩
abbrev S256x768 : Shape := ⟨2, ![256, 768]⟩
abbrev S1x1024x768 : Shape := ⟨3, ![1, 1024, 768]⟩
abbrev S1024x768 : Shape := ⟨2, ![1024, 768]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 12
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S1x1024, .f32⟩
  | .hbm, ⟨6, _⟩ => ⟨S1024x4x768, .f32⟩
  | .hbm, ⟨7, _⟩ => ⟨S4x1024x768, .f32⟩
  | .hbm, ⟨8, _⟩ => ⟨S4096x3072, .bf16⟩
  | .hbm, ⟨9, _⟩ => ⟨S4x1024x768, .bf16⟩
  | .hbm, ⟨10, _⟩ => ⟨S4096x1024, .f32⟩
  | .hbm, ⟨11, _⟩ => ⟨S8x1024, .f32⟩
  | .local _ .vmem, ⟨0, _⟩ => ⟨S512x3072, .bf16⟩
  | .local _ .vmem, ⟨1, _⟩ => ⟨S512x3072, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceInIdeal.lean ====
abbrev S4096x3072 : Shape := ⟨2, ![4096, 3072]⟩
abbrev S1024x3072 : Shape := ⟨2, ![1024, 3072]⟩
abbrev S4096x1024 : Shape := ⟨2, ![4096, 1024]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S1024x3072, .f32⟩
  | .hbm, ⟨2, _⟩ => ⟨S4096x1024, .f32⟩
  | .hbm, ⟨3, _⟩ => ⟨S4096x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3072, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S5x1024, .f32⟩
  | .hbm, ⟨71, _⟩ => ⟨S8x1024, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== KernelOut.lean ====
abbrev S4096x1024 : Shape := ⟨2, ![4096, 1024]⟩
abbrev S1024x1024 : Shape := ⟨2, ![1024, 1024]⟩
abbrev S6x1024 : Shape := ⟨2, ![6, 1024]⟩
abbrev S1x1024 : Shape := ⟨2, ![1, 1024]⟩
abbrev S8x1024 : Shape := ⟨2, ![8, 1024]⟩
abbrev S512x1024 : Shape := ⟨2, ![512, 1024]⟩
abbrev S_ : Shape := ⟨0, ![]⟩
abbrev S512 : Shape := ⟨1, ![512]⟩
abbrev S512x1 : Shape := ⟨2, ![512, 1]⟩
abbrev S1024 : Shape := ⟨1, ![1024]⟩
abbrev S1024x512 : Shape := ⟨2, ![1024, 512]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S6x1024, .f32⟩
  | .hbm, ⟨5, _⟩ => ⟨S1x1024, .f32⟩
  | .hbm, ⟨6, _⟩ => ⟨S4096x1024, .bf16⟩
  | .hbm, ⟨7, _⟩ => ⟨S1024x1024, .bf16⟩
  | .hbm, ⟨8, _⟩ => ⟨S4096x1024, .f32⟩
  | .hbm, ⟨9, _⟩ => ⟨S8x1024, .f32⟩
  | .hbm, ⟨10, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S1024x1024, .bf16⟩
  | .local _ .vmem, ⟨7, _⟩ => ⟨S6x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceOutIdeal.lean ====
abbrev S4096x1024 : Shape := ⟨2, ![4096, 1024]⟩
abbrev S1024x1024 : Shape := ⟨2, ![1024, 1024]⟩
abbrev S6x1024 : Shape := ⟨2, ![6, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 64
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S6x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1024x1024, .f32⟩
  | .hbm, ⟨59, _⟩ => ⟨S1024x1024, .f32⟩
  | .hbm, ⟨60, _⟩ => ⟨S4096x1024, .f32⟩
  | .hbm, ⟨61, _⟩ => ⟨S_, .f32⟩
  | .hbm, ⟨62, _⟩ => ⟨S6x1024, .f32⟩
  | .hbm, ⟨63, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== KernelAda.lean ====
abbrev S8x1024 : Shape := ⟨2, ![8, 1024]⟩
abbrev S8x1536 : Shape := ⟨2, ![8, 1536]⟩
abbrev S1024x1536 : Shape := ⟨2, ![1024, 1536]⟩
abbrev S1024x8 : Shape := ⟨2, ![1024, 8]⟩
abbrev S256x8 : Shape := ⟨2, ![256, 8]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 10
  | .vmem => 17
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S1024x8, .f32⟩
  | .hbm, ⟨6, _⟩ => ⟨S1024x1536, .f32⟩
  | .hbm, ⟨7, _⟩ => ⟨S1024x1536, .f32⟩
  | .hbm, ⟨8, _⟩ => ⟨S1024x1536, .f32⟩
  | .hbm, ⟨9, _⟩ => ⟨S1024x1536, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceAdaIdeal.lean ====
abbrev S8x1024 : Shape := ⟨2, ![8, 1024]⟩
abbrev S8x1536 : Shape := ⟨2, ![8, 1536]⟩
abbrev S1024x1536 : Shape := ⟨2, ![1024, 1536]⟩
abbrev S1536x1024 : Shape := ⟨2, ![1536, 1024]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x1536, .f32⟩
  | .hbm, ⟨2, _⟩ => ⟨S1024x1536, .f32⟩
  | .hbm, ⟨3, _⟩ => ⟨S1024x1536, .f32⟩
  | .hbm, ⟨4, _⟩ => ⟨S1024x1536, .f32⟩
  | .hbm, ⟨5, _⟩ => ⟨S8x1536, .f32⟩
  | .hbm, ⟨6, _⟩ => ⟨S1536x1024, .f32⟩
  | .hbm, ⟨7, _⟩ => ⟨S1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S_, .f32⟩
  | .hbm, ⟨12, _⟩ => ⟨S1024x1536, .f32⟩
  | .hbm, ⟨13, _⟩ => ⟨S1024x1536, .f32⟩
  | .hbm, ⟨14, _⟩ => ⟨S1024x1536, .f32⟩
  | .hbm, ⟨15, _⟩ => ⟨S_, .f32⟩
  | .hbm, ⟨16, _⟩ => ⟨S1024x1536, .f32⟩
  | .hbm, ⟨17, _⟩ => ⟨S1024x1536, .f32⟩
  | .hbm, ⟨18, _⟩ => ⟨S1024x1536, .f32⟩
  | .hbm, ⟨19, _⟩ => ⟨S_, .f32⟩
  | .hbm, ⟨20, _⟩ => ⟨S1024x1536, .f32⟩
  | .hbm, ⟨21, _⟩ => ⟨S1024x1536, .f32⟩
  | .hbm, ⟨22, _⟩ => ⟨S1024x1536, .f32⟩
  | .hbm, ⟨23, _⟩ => ⟨S_, .f32⟩
  | .hbm, ⟨24, _⟩ => ⟨S1024x1536, .f32⟩
  | .hbm, ⟨25, _⟩ => ⟨S1024x1536, .f32⟩
  | .hbm, ⟨26, _⟩ => ⟨S_, .f32⟩
  | .hbm, ⟨27, _⟩ => ⟨S1024x1536, .f32⟩
  | .hbm, ⟨28, _⟩ => ⟨S1024x1536, .f32⟩
  | .hbm, ⟨29, _⟩ => ⟨S1024x1536, .f32⟩
  | .hbm, ⟨30, _⟩ => ⟨S_, .f32⟩
  | .hbm, ⟨31, _⟩ => ⟨S1024x1536, .f32⟩
  | .hbm, ⟨32, _⟩ => ⟨S1024x1536, .f32⟩
  | .hbm, ⟨33, _⟩ => ⟨S1024x1536, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S1024x1536, .f32⟩
  | .hbm, ⟨38, _⟩ => ⟨S_, .f32⟩
  | .hbm, ⟨39, _⟩ => ⟨S1024x1536, .f32⟩
  | .hbm, ⟨40, _⟩ => ⟨S1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== AdamIn.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x768 : Shape := ⟨2, ![1024, 768]⟩
abbrev S512x768 : Shape := ⟨2, ![512, 768]⟩

abbrev nBuf : Space → Nat
  | .hbm => 7
  | .vmem => 14
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S1024x768, .f32⟩
  | .hbm, ⟨5, _⟩ => ⟨S1024x768, .f32⟩
  | .hbm, ⟨6, _⟩ => ⟨S1024x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwInIdeal.lean ====
abbrev S1024x768 : Shape := ⟨2, ![1024, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x768, .f32⟩
  | .hbm, ⟨1, _⟩ => ⟨S1024x768, .f32⟩
  | .hbm, ⟨2, _⟩ => ⟨S1024x768, .f32⟩
  | .hbm, ⟨3, _⟩ => ⟨S1024x768, .f32⟩
  | .hbm, ⟨4, _⟩ => ⟨S_, .f32⟩
  | .hbm, ⟨5, _⟩ => ⟨S1024x768, .f32⟩
  | .hbm, ⟨6, _⟩ => ⟨S1024x768, .f32⟩
  | .hbm, ⟨7, _⟩ => ⟨S_, .f32⟩
  | .hbm, ⟨8, _⟩ => ⟨S1024x768, .f32⟩
  | .hbm, ⟨9, _⟩ => ⟨S1024x768, .f32⟩
  | .hbm, ⟨10, _⟩ => ⟨S1024x768, .f32⟩
  | .hbm, ⟨11, _⟩ => ⟨S_, .f32⟩
  | .hbm, ⟨12, _⟩ => ⟨S1024x768, .f32⟩
  | .hbm, ⟨13, _⟩ => ⟨S1024x768, .f32⟩
  | .hbm, ⟨14, _⟩ => ⟨S1024x768, .f32⟩
  | .hbm, ⟨15, _⟩ => ⟨S_, .f32⟩
  | .hbm, ⟨16, _⟩ => ⟨S1024x768, .f32⟩
  | .hbm, ⟨17, _⟩ => ⟨S1024x768, .f32⟩
  | .hbm, ⟨18, _⟩ => ⟨S1024x768, .f32⟩
  | .hbm, ⟨19, _⟩ => ⟨S_, .f32⟩
  | .hbm, ⟨20, _⟩ => ⟨S1024x768, .f32⟩
  | .hbm, ⟨21, _⟩ => ⟨S1024x768, .f32⟩
  | .hbm, ⟨22, _⟩ => ⟨S_, .f32⟩
  | .hbm, ⟨23, _⟩ => ⟨S1024x768, .f32⟩
  | .hbm, ⟨24, _⟩ => ⟨S1024x768, .f32⟩
  | .hbm, ⟨25, _⟩ => ⟨S1024x768, .f32⟩
  | .hbm, ⟨26, _⟩ => ⟨S_, .f32⟩
  | .hbm, ⟨27, _⟩ => ⟨S1024x768, .f32⟩
  | .hbm, ⟨28, _⟩ => ⟨S1024x768, .f32⟩
  | .hbm, ⟨29, _⟩ => ⟨S1024x768, .f32⟩
  | .hbm, ⟨30, _⟩ => ⟨S_, .f32⟩
  | .hbm, ⟨31, _⟩ => ⟨S1024x768, .f32⟩
  | .hbm, ⟨32, _⟩ => ⟨S1024x768, .f32⟩
  | .hbm, ⟨33, _⟩ => ⟨S1024x768, .f32⟩
  | .hbm, ⟨34, _⟩ => ⟨S_, .f32⟩
  | .hbm, ⟨35, _⟩ => ⟨S1024x768, .f32⟩
  | .hbm, ⟨36, _⟩ => ⟨S1024x768, .f32⟩
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwOutIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFfn.lean ====
abbrev S1024x1024 : Shape := ⟨2, ![1024, 1024]⟩
abbrev S512x1024 : Shape := ⟨2, ![512, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwFfnIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWdw.lean ====
abbrev S1x31x128 : Shape := ⟨3, ![1, 31, 128]⟩

abbrev nBuf : Space → Nat
  | .hbm => 7
  | .vmem => 7
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S1x31x128, .f32⟩
  | .hbm, ⟨5, _⟩ => ⟨S1x31x128, .f32⟩
  | .hbm, ⟨6, _⟩ => ⟨S1x31x128, .f32⟩
  | .local _ .vmem, ⟨0, _⟩ => ⟨S1x31x128, .f32⟩
  | .local _ .vmem, ⟨1, _⟩ => ⟨S1x31x128, .f32⟩
  | .local _ .vmem, ⟨2, _⟩ => ⟨S1x31x128, .f32⟩
  | .local _ .vmem, ⟨3, _⟩ => ⟨S1x31x128, .f32⟩
  | .local _ .vmem, ⟨4, _⟩ => ⟨S1x31x128, .f32⟩
  | .local _ .vmem, ⟨5, _⟩ => ⟨S1x31x128, .f32⟩
  | .local _ .vmem, ⟨6, _⟩ => ⟨S1x31x128, .f32⟩
  | _, _ => ⟨S1x31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamwWdwIdeal.lean ====
abbrev S1x31x128 : Shape := ⟨3, ![1, 31, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x31x128, .f32⟩
  | .hbm, ⟨1, _⟩ => ⟨S1x31x128, .f32⟩
  | .hbm, ⟨2, _⟩ => ⟨S1x31x128, .f32⟩
  | .hbm, ⟨3, _⟩ => ⟨S1x31x128, .f32⟩
  | .hbm, ⟨4, _⟩ => ⟨S_, .f32⟩
  | .hbm, ⟨5, _⟩ => ⟨S1x31x128, .f32⟩
  | .hbm, ⟨6, _⟩ => ⟨S1x31x128, .f32⟩
  | .hbm, ⟨7, _⟩ => ⟨S_, .f32⟩
  | .hbm, ⟨8, _⟩ => ⟨S1x31x128, .f32⟩
  | .hbm, ⟨9, _⟩ => ⟨S1x31x128, .f32⟩
  | .hbm, ⟨10, _⟩ => ⟨S1x31x128, .f32⟩
  | .hbm, ⟨11, _⟩ => ⟨S_, .f32⟩
  | .hbm, ⟨12, _⟩ => ⟨S1x31x128, .f32⟩
  | .hbm, ⟨13, _⟩ => ⟨S1x31x128, .f32⟩
  | .hbm, ⟨14, _⟩ => ⟨S1x31x128, .f32⟩
  | .hbm, ⟨15, _⟩ => ⟨S_, .f32⟩
  | .hbm, ⟨16, _⟩ => ⟨S1x31x128, .f32⟩
  | .hbm, ⟨17, _⟩ => ⟨S1x31x128, .f32⟩
  | .hbm, ⟨18, _⟩ => ⟨S1x31x128, .f32⟩
  | .hbm, ⟨19, _⟩ => ⟨S_, .f32⟩
  | .hbm, ⟨20, _⟩ => ⟨S1x31x128, .f32⟩
  | .hbm, ⟨21, _⟩ => ⟨S1x31x128, .f32⟩
  | .hbm, ⟨22, _⟩ => ⟨S_, .f32⟩
  | .hbm, ⟨23, _⟩ => ⟨S1x31x128, .f32⟩
  | .hbm, ⟨24, _⟩ => ⟨S1x31x128, .f32⟩
  | .hbm, ⟨25, _⟩ => ⟨S1x31x128, .f32⟩
  | .hbm, ⟨26, _⟩ => ⟨S_, .f32⟩
  | .hbm, ⟨27, _⟩ => ⟨S1x31x128, .f32⟩
  | .hbm, ⟨28, _⟩ => ⟨S1x31x128, .f32⟩
  | .hbm, ⟨29, _⟩ => ⟨S1x31x128, .f32⟩
  | .hbm, ⟨30, _⟩ => ⟨S_, .f32⟩
  | .hbm, ⟨31, _⟩ => ⟨S1x31x128, .f32⟩
  | .hbm, ⟨32, _⟩ => ⟨S1x31x128, .f32⟩
  | .hbm, ⟨33, _⟩ => ⟨S1x31x128, .f32⟩
  | .hbm, ⟨34, _⟩ => ⟨S_, .f32⟩
  | .hbm, ⟨35, _⟩ => ⟨S1x31x128, .f32⟩
  | .hbm, ⟨36, _⟩ => ⟨S1x31x128, .f32⟩
  | _, _ => ⟨S1x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Whole.lean ====
/-
  A buffer filled piece by piece and then loaded whole, and a buffer some rows of which are rewritten.
-/
module

public import Idealize.ShloMosaic.Lib.Pipeline.ValueKit
public import Idealize.ShloMosaic.Lib.Pipeline.ReadBack

@[expose] public section

namespace Cert.Whole

open Idealize.ShloMosaic

variable {sig : RefSig} {κ : Kind} {sp : Space} {s : Shape} {e : EltTy} {Val : EltTy → Type}

/-- A load of the whole buffer reads what the stores left, piece by piece. -/
theorem readCov_whole [∀ e, Nonempty (Val e)] (v : View sig κ sp s e) (L : List (View.Piece Val s e))
    {off : Fin s.rank → ℕ} (inb : ∀ a, off a + s.size a ≤ s.size a) (h : ∀ a, off a = 0) :
    v.readCov L (Rect.unit off (no_index s.size) inb).toLoadRect = View.canon L := by
  have h' : v.readCov L (Rect.unit off s.size inb).toLoadRect
      = View.ld (View.canon L) (Rect.unit off s.size inb) := View.readCov_eq_canon' v L _
  rw [h', View.ld_unit_lit inb _ h]

/-- Stores that are blocks of `G`, over contents that agree with `G` wherever no store reaches, leave `G`. -/
theorem read_writes_of_piecesOf (v : View sig κ sp s e) (f : v.ty.Contents Val) (G : s.Idx → Val e)
    (L : List (View.Piece Val s e)) (h : View.PiecesOf G L)
    (hf : ∀ y, (∀ p ∈ L, y ∉ p.1.set) → v.read Val f y = G y) (y : s.Idx) :
    v.read Val (v.writes Val f L) y = G y := by
  by_cases hy : ∃ p ∈ L, y ∈ p.1.set
  · exact View.read_writes_apply_of_pieces v f G L h.mem y hy
  · rw [View.read_writes_apply_of_forall_not_mem v f y L fun p hp hm => hy ⟨p, hp, hm⟩]
    exact hf y fun p hp hm => hy ⟨p, hp, hm⟩

/-- Outside every store of a list, what an earlier list left stays. -/
theorem canon_append_of_not_mem [∀ e, Nonempty (Val e)] (L L' : List (View.Piece Val s e)) (y : s.Idx) (h : ∀ p ∈ L, y ∉ p.1.set) :
    View.canon (L ++ L') y = View.canon L' y := by
  induction L with
  | nil => rfl
  | cons p L ih =>
    rw [List.cons_append, View.canon_cons_of_not_mem _ _ (h p List.mem_cons_self)]
    exact ih fun q hq => h q (List.mem_cons_of_mem _ hq)

/-- Stores that are blocks of `G`, over stores that agree with `G` wherever the later ones do not reach, leave `G`. -/
theorem canon_of_piecesOf_over [∀ e, Nonempty (Val e)] (G : s.Idx → Val e) (L L' : List (View.Piece Val s e)) (h : View.PiecesOf G L)
    (hf : ∀ y, (∀ p ∈ L, y ∉ p.1.set) → View.canon L' y = G y) (y : s.Idx) : View.canon (L ++ L') y = G y := by
  by_cases hy : ∃ p ∈ L, y ∈ p.1.set
  · exact View.canon_append_of_piecesOf G L' L h y hy
  · rw [canon_append_of_not_mem L L' y fun p hp hm => hy ⟨p, hp, hm⟩]
    exact hf y fun p hp hm => hy ⟨p, hp, hm⟩

end Cert.Whole
-- ==== Proof.BwdStored.lean ====
/-
  The gradient of the MLP: the values the kernel stores, at an index, over the extended reals.
-/
module

public import proofs.«01_k».proof.Proof.Gen.KernelIdeal.Frame
public import proofs.«01_k».proof.Proof.Whole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

/-! ### The stored values at an index -/

theorem pay14_apply (r dy wd) (j : S512x512.Idx) : k0_pay14 (F := Ideal) r dy wd j
    = (∑ k : Fin 1024, dy (ix2 (j 0) k) * wd (ix2 (j 1) k)) * (Ideal.ofBits .f32 0x40000000#32 * Ideal.sqrt (r j)) := by
  idx_vars j
  pointwise [k0_pay14]

theorem pay15_apply (r dy wd) (j : S512x512.Idx) : k0_pay15 (F := Ideal) r dy wd j
    = (∑ k : Fin 1024, dy (ix2 (j 0) k) * wd (ix2 (j 1) k)) * (Ideal.ofBits .f32 0x40000000#32 * Ideal.sqrt (r j)) := by
  idx_vars j
  pointwise [k0_pay15, k0_pay14]

theorem pay1_apply (r dy wd) (j : S512x512.Idx) : k0_pay1 (F := Ideal) r dy wd j
    = (∑ k : Fin 1024, dy (ix2 (j 0) k) * wd (ix2 (j 1) k)) * (Ideal.ofBits .f32 0x40000000#32 * Ideal.sqrt (r j)) := by
  idx_vars j
  pointwise [k0_pay1]

theorem pay2_apply (r dy wd) (j : S512x512.Idx) : k0_pay2 (F := Ideal) r dy wd j
    = (∑ k : Fin 1024, dy (ix2 (j 0) k) * wd (ix2 (j 1) k)) * (Ideal.ofBits .f32 0x40000000#32 * Ideal.sqrt (r j)) := by
  idx_vars j
  pointwise [k0_pay2, k0_pay1]

theorem pay3_apply (r dy wd acc wu) (j : S512x1024.Idx) : k0_pay3 (F := Ideal) r dy wd acc wu j
    = acc j + ∑ q : Fin 512, k0_pay1 (F := Ideal) r dy wd (ix2 (j 0) q) * wu (ix3 0 (j 1) q) := by
  idx_vars j
  pointwise [k0_pay3]

theorem pay16_apply (r dy wd acc wu) (j : S512x1024.Idx) : k0_pay16 (F := Ideal) r dy wd acc wu j
    = acc j + ∑ q : Fin 512, k0_pay14 (F := Ideal) r dy wd (ix2 (j 0) q) * wu (ix3 0 (j 1) q) := by
  idx_vars j
  pointwise [k0_pay16]

theorem pay12_apply (j) : k0_pay12 (F := Ideal) j = 0 := by pointwise [k0_pay12]

theorem pay13_apply (j) : k0_pay13 (F := Ideal) j = 0 := by pointwise [k0_pay13]

theorem pay5_apply (x) (j : S1024x1.Idx) : k0_pay5 (F := Ideal) x j
    = Ideal.rsqrt (Ideal.div (∑ k : Fin 1024, x (ix2 (j 0) k) * x (ix2 (j 0) k)) (Ideal.ofBits .f32 0x44800000#32) + Ideal.ofBits .f32 0x358637BD#32) := by
  idx_vars j
  pointwise [k0_pay5]

theorem pay6_apply (x) (j : S1024x1024.Idx) : k0_pay6 (F := Ideal) x j
    = x j * k0_pay5 (F := Ideal) x (ix2 (j 0) 0) := by
  idx_vars j
  pointwise [k0_pay6]

theorem pay7_apply (x) (j : S1x1024.Idx) : k0_pay7 (F := Ideal) x j = 1 + x j := by
  idx_vars j
  pointwise [k0_pay7]

theorem pay8_apply (dh st) (j : S1x1024.Idx) : k0_pay8 (F := Ideal) dh st j
    = st j + ∑ p : Fin 1024, dh (ix2 p (j 1)) := by
  idx_vars j
  pointwise [k0_pay8]

theorem pay9_apply (dh x) (j : S1x1024.Idx) : k0_pay9 (F := Ideal) dh x j
    = ∑ p : Fin 1024, dh (ix2 p (j 1)) * k0_pay6 (F := Ideal) x (ix2 p (j 1)) := by
  idx_vars j
  pointwise [k0_pay9]

theorem pay10_apply (dh x g st) (j : S1x1024.Idx) : k0_pay10 (F := Ideal) dh x g st j
    = st j + k0_pay9 (F := Ideal) dh x j * g j := by
  idx_vars j
  pointwise [k0_pay10]

theorem pay11_apply (dh x sc st) (j : S1x1024.Idx) : k0_pay11 (F := Ideal) dh x sc st j
    = st j + k0_pay9 (F := Ideal) dh x j * k0_pay7 (F := Ideal) sc j := by
  idx_vars j
  pointwise [k0_pay11]

theorem pay4_apply (dh rs xn g sc dx) (j : S1024x1024.Idx) : k0_pay4 (F := Ideal) dh rs xn g sc dx j
    = dx j + rs (ix2 (j 0) 0) * (dh j * (sc (ix2 0 (j 1)) * g (ix2 0 (j 1))) - xn j * Ideal.div
        (∑ e : Fin 1024, dh (ix2 (j 0) e) * (sc (ix2 0 e) * g (ix2 0 e)) * xn (ix2 (j 0) e)) (Ideal.ofBits .f32 0x44800000#32)) := by
  idx_vars j
  pointwise [k0_pay4]

end Cert.FfnBwd

end
-- ==== Proof.BwdBlocks.lean ====
/-
  The gradient of the MLP: what the kernel leaves in its blocks at one grid point.  Point `t` handles the rows
  `1024 (t / 8) …` and the hidden columns `512 (t % 8) …`.
-/
module

public import proofs.«01_k».proof.Proof.BwdStored

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

/-- A block of the gradient at the product's input: `(dy · wdᵀ) * (2 √r)`. -/
def da (dy : Vec Ideal S1024x1024 .bf16) (r : Vec Ideal S1024x512 .bf16) (wd : Vec Ideal S512x1024 .bf16) (y : S1024x512.Idx) : EReal :=
  (∑ k : Fin 1024, dy (ix2 (y 0) k) * wd (ix2 (y 1) k)) * (Ideal.ofBits .f32 0x40000000#32 * Ideal.sqrt (r y))

/-- Its product with a block of the up projection. -/
def dh (dy : Vec Ideal S1024x1024 .bf16) (r : Vec Ideal S1024x512 .bf16) (wd : Vec Ideal S512x1024 .bf16)
    (wu : Vec Ideal S1x1024x512 .bf16) (y : S1024x1024.Idx) : EReal :=
  ∑ q : Fin 512, da dy r wd (ix2 (y 0) q) * wu (ix3 0 (y 1) q)

/-- The grid's four kinds of points: the first, a later row block's first, its last, and the others. -/
theorem kinds (t : Fin cfg0.N) : (t.val % 32 = 0 ∧ t.val % 8 = 0 ∧ ¬t.val % 8 = 7) ∨ (¬t.val % 32 = 0 ∧ t.val % 8 = 0 ∧ ¬t.val % 8 = 7)
    ∨ (¬t.val % 32 = 0 ∧ ¬t.val % 8 = 0 ∧ t.val % 8 = 7) ∨ (¬t.val % 32 = 0 ∧ ¬t.val % 8 = 0 ∧ ¬t.val % 8 = 7) := by omega

theorem da_point (c : Dev nD) (t : Fin cfg0.N) (y) : (outsAt0 m c t.val t.isLt).1 y
    = da (iblk m c 0 t) (iblk m c 1 t) (iblk m c 5 t) y := by
  rcases kinds t with ⟨h0, h1, h2⟩ | ⟨h0, h1, h2⟩ | ⟨h0, h1, h2⟩ | ⟨h0, h1, h2⟩
  · rw [outsAt0_A m c t h0 h1 h2]; frame_out
    refine View.canon_append_of_piecesOf (Val := Elt Ideal) (s := S1024x512) (e := .bf16) (da (iblk m c 0 t) (iblk m c 1 t) (iblk m c 5 t)) [] [_, _] ⟨fun x => ?_, fun x => ?_, trivial⟩ y ?_
    · simp only []
      rw [pay2_apply]
      pointwise [da]
      blk_point []
    · simp only []
      rw [pay15_apply]
      pointwise [da]
      blk_point []
    · exact View.cover_of_tiledL _ ![512, 512] rfl y
  · rw [outsAt0_D m c t h0 h1 h2]; frame_out
    refine View.canon_append_of_piecesOf (Val := Elt Ideal) (s := S1024x512) (e := .bf16) (da (iblk m c 0 t) (iblk m c 1 t) (iblk m c 5 t)) [] [_, _] ⟨fun x => ?_, fun x => ?_, trivial⟩ y ?_
    · simp only []
      rw [pay2_apply]
      pointwise [da]
      blk_point []
    · simp only []
      rw [pay15_apply]
      pointwise [da]
      blk_point []
    · exact View.cover_of_tiledL _ ![512, 512] rfl y
  · rw [outsAt0_C m c t h0 h1 h2]; frame_out
    refine View.canon_append_of_piecesOf (Val := Elt Ideal) (s := S1024x512) (e := .bf16) (da (iblk m c 0 t) (iblk m c 1 t) (iblk m c 5 t)) [] [_, _] ⟨fun x => ?_, fun x => ?_, trivial⟩ y ?_
    · simp only []
      rw [pay2_apply]
      pointwise [da]
      blk_point []
    · simp only []
      rw [pay15_apply]
      pointwise [da]
      blk_point []
    · exact View.cover_of_tiledL _ ![512, 512] rfl y
  · rw [outsAt0_B m c t h0 h1 h2]; frame_out
    refine View.canon_append_of_piecesOf (Val := Elt Ideal) (s := S1024x512) (e := .bf16) (da (iblk m c 0 t) (iblk m c 1 t) (iblk m c 5 t)) [] [_, _] ⟨fun x => ?_, fun x => ?_, trivial⟩ y ?_
    · simp only []
      rw [pay2_apply]
      pointwise [da]
      blk_point []
    · simp only []
      rw [pay15_apply]
      pointwise [da]
      blk_point []
    · exact View.cover_of_tiledL _ ![512, 512] rfl y

/-- A row block's first point starts the sum over the hidden columns. -/
theorem dh_first (c : Dev nD) (t : Fin cfg0.N) (h : t.val % 8 = 0) (y) : (outsAt0 m c t.val t.isLt).2.2.2 y
    = dh (iblk m c 0 t) (iblk m c 1 t) (iblk m c 5 t) (iblk m c 4 t) y := by
  rcases kinds t with ⟨h0, h1, h2⟩ | ⟨h0, h1, h2⟩ | ⟨h0, h1, h2⟩ | ⟨h0, h1, h2⟩
  · rw [outsAt0_A m c t h0 h1 h2]; frame_open
    simp (disch := decide) only [↓ View.readCov_skip, ↓ View.readCov_cons_toLoadRect, ↓ View.readCov_fill]
    frame_out
    refine View.canon_append_of_piecesOf (Val := Elt Ideal) (s := S1024x1024) (e := .f32) (dh (iblk m c 0 t) (iblk m c 1 t) (iblk m c 5 t) (iblk m c 4 t)) [_] [_, _] ⟨fun x => ?_, fun x => ?_, trivial⟩ y ?_
    · simp only []
      rw [pay3_apply, View.ld_apply, pay13_apply, zero_add]
      pointwise [dh, da, pay1_apply]
      blk_point []
    · simp only []
      rw [pay16_apply, View.ld_apply, pay13_apply, zero_add]
      pointwise [dh, da, pay14_apply]
      blk_point []
    · exact View.cover_of_tiledL _ ![512, 1024] rfl y
  · rw [outsAt0_D m c t h0 h1 h2]; frame_open
    simp (disch := decide) only [↓ View.readCov_skip, ↓ View.readCov_cons_toLoadRect, ↓ View.readCov_fill]
    frame_out
    refine View.canon_append_of_piecesOf (Val := Elt Ideal) (s := S1024x1024) (e := .f32) (dh (iblk m c 0 t) (iblk m c 1 t) (iblk m c 5 t) (iblk m c 4 t)) [_] [_, _] ⟨fun x => ?_, fun x => ?_, trivial⟩ y ?_
    · simp only []
      rw [pay3_apply, View.ld_apply, pay13_apply, zero_add]
      pointwise [dh, da, pay1_apply]
      blk_point []
    · simp only []
      rw [pay16_apply, View.ld_apply, pay13_apply, zero_add]
      pointwise [dh, da, pay14_apply]
      blk_point []
    · exact View.cover_of_tiledL _ ![512, 1024] rfl y
  · omega
  · omega

theorem dh_next (c : Dev nD) (t : Fin cfg0.N) (h : ¬t.val % 8 = 0) (y) : (outsAt0 m c t.val t.isLt).2.2.2 y
    = (outsAt0 m c (t.val - 1) (by omega)).2.2.2 y + dh (iblk m c 0 t) (iblk m c 1 t) (iblk m c 5 t) (iblk m c 4 t) y := by
  rcases kinds t with ⟨h0, h1, h2⟩ | ⟨h0, h1, h2⟩ | ⟨h0, h1, h2⟩ | ⟨h0, h1, h2⟩
  · omega
  · omega
  · rw [outsAt0_C m c t h0 h1 h2]; frame_out
    simp only [Idealize.ShloMosaic.read_unread_whole]
    refine View.canon_append_of_piecesOf (Val := Elt Ideal) (s := S1024x1024) (e := .f32) (fun y => (outsAt0 m c (t.val - 1) (by omega)).2.2.2 y + dh (iblk m c 0 t) (iblk m c 1 t) (iblk m c 5 t) (iblk m c 4 t) y) [] [_, _] ⟨fun x => ?_, fun x => ?_, trivial⟩ y ?_
    · simp only []
      rw [pay3_apply, View.ld_apply]
      refine congrArg₂ (· + ·) rfl ?_
      pointwise [dh, da, pay1_apply]
      blk_point []
    · simp only []
      rw [pay16_apply, View.ld_apply]
      refine congrArg₂ (· + ·) rfl ?_
      pointwise [dh, da, pay14_apply]
      blk_point []
    · exact View.cover_of_tiledL _ ![512, 1024] rfl y
  · rw [outsAt0_B m c t h0 h1 h2]; frame_out
    simp only [Idealize.ShloMosaic.read_unread_whole]
    refine View.canon_append_of_piecesOf (Val := Elt Ideal) (s := S1024x1024) (e := .f32) (fun y => (outsAt0 m c (t.val - 1) (by omega)).2.2.2 y + dh (iblk m c 0 t) (iblk m c 1 t) (iblk m c 5 t) (iblk m c 4 t) y) [] [_, _] ⟨fun x => ?_, fun x => ?_, trivial⟩ y ?_
    · simp only []
      rw [pay3_apply, View.ld_apply]
      refine congrArg₂ (· + ·) rfl ?_
      pointwise [dh, da, pay1_apply]
      blk_point []
    · simp only []
      rw [pay16_apply, View.ld_apply]
      refine congrArg₂ (· + ·) rfl ?_
      pointwise [dh, da, pay14_apply]
      blk_point []
    · exact View.cover_of_tiledL _ ![512, 1024] rfl y

end Cert.FfnBwd

end
-- ==== Proof.BwdRows.lean ====
/-
  The gradient of the MLP: what the last point of a row block leaves in the gradient at the input and in the
  three rows of sums.
-/
module

public import proofs.«01_k».proof.Proof.BwdBlocks
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

/-- The three rows of sums a row block adds: of `dh`, of `dh * xn` times the gain, of `dh * xn` times `1 + scale`. -/
def sums (dh x : Vec Ideal S1024x1024 .f32) (g : Vec Ideal S1x1024 .f32) (sc : Fin 1024 → EReal) (y : S8x1024.Idx) : EReal :=
  if (y 0 : ℕ) = 0 then ∑ p : Fin 1024, dh (ix2 p (y 1))
  else if (y 0 : ℕ) = 1 then (∑ p : Fin 1024, dh (ix2 p (y 1)) * k0_pay6 (F := Ideal) x (ix2 p (y 1))) * g (ix2 0 (y 1))
  else if (y 0 : ℕ) = 2 then (∑ p : Fin 1024, dh (ix2 p (y 1)) * k0_pay6 (F := Ideal) x (ix2 p (y 1))) * (1 + sc (y 1))
  else 0

theorem sums_zero (dh x g sc) (d : Fin 1024) : sums dh x g sc (ix2 0 d) = ∑ p : Fin 1024, dh (ix2 p d) := if_pos rfl

theorem sums_one (dh x g sc) (d : Fin 1024) : sums dh x g sc (ix2 1 d)
    = (∑ p : Fin 1024, dh (ix2 p d) * k0_pay6 (F := Ideal) x (ix2 p d)) * g (ix2 0 d) :=
  (if_neg Nat.one_ne_zero).trans (if_pos rfl)

theorem sums_two (dh x g sc) (d : Fin 1024) : sums dh x g sc (ix2 2 d)
    = (∑ p : Fin 1024, dh (ix2 p d) * k0_pay6 (F := Ideal) x (ix2 p d)) * (1 + sc d) :=
  (if_neg (Nat.succ_ne_zero 1)).trans ((if_neg (by decide : ¬ (2 : ℕ) = 1)).trans (if_pos rfl))

theorem sums_rest (dh x g sc) (y : S8x1024.Idx) (h : 3 ≤ (y 0 : ℕ)) : sums dh x g sc y = 0 := by
  unfold sums
  rw [if_neg (by omega), if_neg (by omega), if_neg (by omega)]

/-- Column `d` of row `k`, as the row's rectangle places it. -/
theorem row_emb (k : ℕ) (hk : k < 8) (inb) (d : Fin 1024) :
    (Rect.unit (s := S8x1024) ![k, 0] ![1, 1024] inb).emb (ix2 0 d) = ix2 ⟨k, hk⟩ d := by
  funext a
  apply Fin.ext
  match a with
  | ⟨0, _⟩ => show k + 1 * 0 = k; omega
  | ⟨1, _⟩ => show 0 + 1 * (d : ℕ) = d; omega

theorem row_mem (k : ℕ) (inb) (y : S8x1024.Idx) (h : (y 0 : ℕ) = k) :
    y ∈ (Rect.unit (s := S8x1024) ![k, 0] ![1, 1024] inb).set := by
  refine Rect.mem_set_unit.mpr fun a => ?_
  match a with
  | ⟨0, _⟩ => exact ⟨h.ge, by show (y 0 : ℕ) < k + 1; omega⟩
  | ⟨1, _⟩ => exact ⟨Nat.zero_le _, by show (y 1 : ℕ) < 0 + 1024; have := (y 1).isLt; simpa using this⟩

/-- Row four of the modulation block. -/
theorem ld_scale (x : Vec Ideal S6x1024 .f32) (inb) (d : Fin 1024) :
    View.ld (S := S6x1024) x (Rect.unit ![4, 0] ![1, 1024] inb) (ix2 0 d) = x (ix2 4 d) := by
  refine congrArg x (funext fun a => Fin.ext ?_)
  match a with
  | ⟨0, _⟩ => rfl
  | ⟨1, _⟩ => show 0 + 1 * (d : ℕ) = d; omega

/-- The three stores of the row block's last point, over the sums of the row blocks before. -/
theorem rows_read {κ : Kind} {sp : Space} (v : View sig κ sp S8x1024 .f32) (f : v.ty.Contents (Elt Ideal)) (prev : Vec Ideal S8x1024 .f32)
    (hf : v.read (Elt Ideal) f = prev) (dh x : Vec Ideal S1024x1024 .f32) (g : Vec Ideal S1x1024 .f32) (md : Vec Ideal S6x1024 .f32) (y) :
    v.read (Elt Ideal) (v.writes (Elt Ideal) f
      [⟨Rect.unit ![2, 0] ![1, 1024] inb_S8x1024_S1x1024_2_0,
          k0_pay11 dh x (View.ld md (Rect.unit ![4, 0] ![1, 1024] inb_S6x1024_S1x1024_4_0)) (View.ld prev (Rect.unit ![2, 0] ![1, 1024] inb_S8x1024_S1x1024_2_0))⟩,
        ⟨Rect.unit ![1, 0] ![1, 1024] inb_S8x1024_S1x1024_1_0,
          k0_pay10 dh x g (View.ld prev (Rect.unit ![1, 0] ![1, 1024] inb_S8x1024_S1x1024_1_0))⟩,
        ⟨Rect.unit ![0, 0] ![1, 1024] inb_S8x1024_S1x1024_0_0,
          k0_pay8 dh (View.ld prev (Rect.unit ![0, 0] ![1, 1024] inb_S8x1024_S1x1024_0_0))⟩]) y
      = prev y + sums dh x g (fun d => md (ix2 4 d)) y := by
  refine Whole.read_writes_of_piecesOf (Val := Elt Ideal) v f
    (fun y => prev y + sums dh x g (fun d => md (ix2 4 d)) y) [_, _, _] ⟨fun x => ?_, fun x => ?_, fun x => ?_, trivial⟩ (fun y hy => ?_) y
  · simp only []
    rw [pay11_apply, pay9_apply, pay7_apply, View.ld_apply]
    refine congrArg₂ (· + ·) rfl ?_
    idx_vars x; obtain rfl : x0 = 0 := Subsingleton.elim _ _
    rw [ld_scale, row_emb 2 (by decide)]
    exact (sums_two dh x g (fun d => md (ix2 4 d)) x1).symm
  · simp only []
    rw [pay10_apply, pay9_apply, View.ld_apply]
    refine congrArg₂ (· + ·) rfl ?_
    idx_vars x; obtain rfl : x0 = 0 := Subsingleton.elim _ _
    rw [row_emb 1 (by decide)]
    exact (sums_one dh x g (fun d => md (ix2 4 d)) x1).symm
  · simp only []
    rw [pay8_apply, View.ld_apply]
    refine congrArg₂ (· + ·) rfl ?_
    idx_vars x; obtain rfl : x0 = 0 := Subsingleton.elim _ _
    rw [row_emb 0 (by decide)]
    exact (sums_zero dh x g (fun d => md (ix2 4 d)) x1).symm
  · have h3 : 3 ≤ (y 0 : ℕ) := by
      by_contra hlt
      rcases (by omega : (y 0 : ℕ) = 0 ∨ (y 0 : ℕ) = 1 ∨ (y 0 : ℕ) = 2) with h | h | h
      · exact hy _ (List.mem_cons_of_mem _ (List.mem_cons_of_mem _ List.mem_cons_self)) (row_mem 0 inb_S8x1024_S1x1024_0_0 y h)
      · exact hy _ (List.mem_cons_of_mem _ List.mem_cons_self) (row_mem 1 inb_S8x1024_S1x1024_1_0 y h)
      · exact hy _ List.mem_cons_self (row_mem 2 inb_S8x1024_S1x1024_2_0 y h)
    show v.read (Elt Ideal) f y = prev y + sums dh x g (fun d => md (ix2 4 d)) y
    rw [sums_rest _ _ _ _ y h3, add_zero, hf]

end Cert.FfnBwd

end
-- ==== Proof.BwdLast.lean ====
/-
  The gradient of the MLP: what the last point of a row block leaves in the gradient at the input and in the
  three rows of sums.
-/
module

public import proofs.«01_k».proof.Proof.BwdRows

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

theorem pay4_congr (dh rs xn g sc sc' dx) (h : ∀ d : Fin 1024, sc (ix2 0 d) = sc' (ix2 0 d)) (y) :
    k0_pay4 (F := Ideal) dh rs xn g sc dx y = k0_pay4 (F := Ideal) dh rs xn g sc' dx y := by
  rw [pay4_apply, pay4_apply]
  idx_vars y
  simp only [h]

theorem dx_last (c : Dev nD) (t : Fin cfg0.N) (h : t.val % 8 = 7) (y) : (outsAt0 m c t.val t.isLt).2.1 y
    = k0_pay4 (F := Ideal) (outsAt0 m c t.val t.isLt).2.2.2 (k0_pay5 (iblk m c 2 t)) (k0_pay6 (iblk m c 2 t)) (iblk m c 7 t)
      (fun j => 1 + iblk m c 6 t (ix2 4 (j 1))) (iblk m c 3 t) y := by
  rcases kinds t with ⟨h0, h1, h2⟩ | ⟨h0, h1, h2⟩ | ⟨h0, h1, h2⟩ | ⟨h0, h1, h2⟩
  · omega
  · omega
  · rw [outsAt0_C m c t h0 h1 h2]; frame_out
    simp (disch := decide) only [↓ Whole.readCov_whole]
    generalize hd : (View.canon _ : Vec Ideal S1024x1024 .f32) = dhv
    refine pay4_congr _ _ _ _ _ _ _ (fun d => ?_) y
    rw [pay7_apply, ld_scale]
    rfl
  · omega

theorem st_zero (c : Dev nD) (t : Fin cfg0.N) (h : t.val % 32 = 0) (y) : (outsAt0 m c t.val t.isLt).2.2.1 y = 0 := by
  rcases kinds t with ⟨h0, h1, h2⟩ | ⟨h0, h1, h2⟩ | ⟨h0, h1, h2⟩ | ⟨h0, h1, h2⟩
  · rw [outsAt0_A m c t h0 h1 h2]; frame_out
    rw [pay12_apply]
  all_goals omega

theorem st_carry (c : Dev nD) (t : Fin cfg0.N) (h : ¬ t.val % 32 = 0) (h7 : ¬ t.val % 8 = 7) (y) : (outsAt0 m c t.val t.isLt).2.2.1 y
    = (outsAt0 m c (t.val - 1) (by omega)).2.2.1 y := by
  rcases kinds t with ⟨h0, h1, h2⟩ | ⟨h0, h1, h2⟩ | ⟨h0, h1, h2⟩ | ⟨h0, h1, h2⟩
  · omega
  · rw [outsAt0_D m c t h0 h1 h2]; rfl
  · omega
  · rw [outsAt0_B m c t h0 h1 h2]; rfl

theorem st_last (c : Dev nD) (t : Fin cfg0.N) (h : t.val % 8 = 7) (y) : (outsAt0 m c t.val t.isLt).2.2.1 y
    = (outsAt0 m c (t.val - 1) (by omega)).2.2.1 y + sums (outsAt0 m c t.val t.isLt).2.2.2 (iblk m c 2 t) (iblk m c 7 t)
      (fun d => iblk m c 6 t (ix2 4 d)) y := by
  rcases kinds t with ⟨h0, h1, h2⟩ | ⟨h0, h1, h2⟩ | ⟨h0, h1, h2⟩ | ⟨h0, h1, h2⟩
  · omega
  · omega
  · rw [outsAt0_C m c t h0 h1 h2]; frame_out
    simp (disch := decide) only [↓ Whole.readCov_whole]
    generalize hd : (View.canon _ : Vec Ideal S1024x1024 .f32) = dhv
    generalize hp : outsAt0 m c (t.val - 1) _ = prev
    exact rows_read _ _ prev.2.2.1 (Memref.IsWhole.read_unread _ _) dhv (iblk m c 2 t) (iblk m c 7 t) (iblk m c 6 t) y
  · omega

end Cert.FfnBwd

end
-- ==== Proof.BwdArrays.lean ====
/-
  The gradient of the MLP: what the kernel's three result arrays hold after the run, as functions of its operands.
-/
module

public import proofs.«01_k».proof.Proof.Gen.KernelIdeal.Value
public import proofs.«01_k».proof.Proof.BwdLast

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

/-- The gradient at the product's input, `(dy · wdᵀ) * (2 √r)`. -/
def DA (dy wd : S4096x1024.Idx → EReal) (r : S4096x4096.Idx → EReal) (i : S4096x4096.Idx) : EReal :=
  (∑ k : Fin 1024, dy (ix2 (i 0) k) * wd (ix2 (i 1) k)) * (Ideal.ofBits .f32 0x40000000#32 * Ideal.sqrt (r i))

/-- Its product with the up projection. -/
def DH (da : S4096x4096.Idx → EReal) (wu : S1024x4096.Idx → EReal) (i : S4096x1024.Idx) : EReal :=
  ∑ q : Fin 4096, da (ix2 (i 0) q) * wu (ix2 (i 1) q)

/-- One over the root mean square of a row. -/
def RS (x : S4096x1024.Idx → EReal) (t : Fin 4096) : EReal :=
  Ideal.rsqrt (Ideal.div (∑ k : Fin 1024, x (ix2 t k) * x (ix2 t k)) (Ideal.ofBits .f32 0x44800000#32) + Ideal.ofBits .f32 0x358637BD#32)

/-- The gradient at the block's input. -/
def DX (dh x dx : S4096x1024.Idx → EReal) (g : S1x1024.Idx → EReal) (md : S6x1024.Idx → EReal) (i : S4096x1024.Idx) : EReal :=
  dx i + RS x (i 0) * (dh i * ((1 + md (ix2 4 (i 1))) * g (ix2 0 (i 1))) - x i * RS x (i 0) * Ideal.div
    (∑ e : Fin 1024, dh (ix2 (i 0) e) * ((1 + md (ix2 4 e)) * g (ix2 0 e)) * (x (ix2 (i 0) e) * RS x (i 0))) (Ideal.ofBits .f32 0x44800000#32))

theorem row_lt (b : Fin 4) (p : Fin 1024) : 1024 * (b : ℕ) + p < 4096 := by omega

/-- The rows of sums over one row block. -/
def SB (dh x : S4096x1024.Idx → EReal) (g : S1x1024.Idx → EReal) (md : S6x1024.Idx → EReal) (b : Fin 4) (j : S8x1024.Idx) : EReal :=
  if (j 0 : ℕ) = 0 then ∑ p : Fin 1024, dh (ix2 ⟨1024 * b + p, row_lt b p⟩ (j 1))
  else if (j 0 : ℕ) = 1 then (∑ p : Fin 1024, dh (ix2 ⟨1024 * b + p, row_lt b p⟩ (j 1))
    * (x (ix2 ⟨1024 * b + p, row_lt b p⟩ (j 1)) * RS x ⟨1024 * b + p, row_lt b p⟩)) * g (ix2 0 (j 1))
  else if (j 0 : ℕ) = 2 then (∑ p : Fin 1024, dh (ix2 ⟨1024 * b + p, row_lt b p⟩ (j 1))
    * (x (ix2 ⟨1024 * b + p, row_lt b p⟩ (j 1)) * RS x ⟨1024 * b + p, row_lt b p⟩)) * (1 + md (ix2 4 (j 1)))
  else 0

theorem idx : ∀ t : Fin cfg0.N, win0_0.index t = ![t.val / 8, 0] ∧ win0_1.index t = ![t.val / 8, t.val % 8] ∧
    win0_2.index t = ![t.val / 8, 0] ∧ win0_3.index t = ![t.val / 8, 0] ∧
    win0_4.index t = ![t.val % 8 / 2, 0, t.val % 8 % 2] ∧ win0_5.index t = ![t.val % 8, 0] ∧
    win0_6.index t = ![0, 0] ∧ win0_7.index t = ![0, 0] ∧ win0_8.index t = ![t.val / 8, t.val % 8] ∧
    win0_9.index t = ![t.val / 8, 0] ∧ win0_10.index t = ![0, 0] :=
  (by decide +kernel : ∀ t : Fin grid0.N, _)

/-- The operands, by name. -/
abbrev dyA (c : Dev nD) : S4096x1024.Idx → EReal := m ((c : Thread nD τ).loc main_arg0)
abbrev xA (c : Dev nD) : S4096x1024.Idx → EReal := m ((c : Thread nD τ).loc main_arg1)
abbrev dxA (c : Dev nD) : S4096x1024.Idx → EReal := m ((c : Thread nD τ).loc main_arg2)
abbrev wuA (c : Dev nD) : S1024x4096.Idx → EReal := m ((c : Thread nD τ).loc main_arg3)
abbrev wdA (c : Dev nD) : S4096x1024.Idx → EReal := m ((c : Thread nD τ).loc main_arg4)
abbrev mdA (c : Dev nD) : S6x1024.Idx → EReal := m ((c : Thread nD τ).loc main_arg5)
abbrev gA (c : Dev nD) : S1x1024.Idx → EReal := m ((c : Thread nD τ).loc main_arg6)
abbrev rA (c : Dev nD) : S4096x4096.Idx → EReal := V m c main_v23

theorem blk_lt (t : Fin cfg0.N) : t.val / 8 < 4 := by
  have := lt_of_lt_of_eq t.isLt (show cfg0.N = 32 from N_0); omega

/-- Row `p` of the block of point `t`. -/
abbrev row (t : Fin cfg0.N) (p : Fin 1024) : Fin 4096 := ⟨1024 * (t.val / 8) + p, by have := blk_lt t; omega⟩
/-- Hidden column `q` of the block of point `t`. -/
abbrev col (t : Fin cfg0.N) (q : Fin 512) : Fin 4096 := ⟨512 * (t.val % 8) + q, by omega⟩

end Cert.FfnBwd

end
-- ==== Proof.BwdHost.lean ====
/-
  The gradient of the MLP: the two operands the host prepares, as functions of the given ones.
-/
module

public import proofs.«01_k».proof.Proof.BwdArrays

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

/-- The block's input after the norm, the scale and the shift. -/
def H2 (x : S4096x1024.Idx → EReal) (g : S1x1024.Idx → EReal) (md : S6x1024.Idx → EReal) (i : S4096x1024.Idx) : EReal :=
  x i * RS x (i 0) * g (ix2 0 (i 1)) * (1 + md (ix2 4 (i 1))) + md (ix2 3 (i 1))

/-- Its product with the up projection. -/
def UP (x : S4096x1024.Idx → EReal) (g : S1x1024.Idx → EReal) (md : S6x1024.Idx → EReal) (wu : S1024x4096.Idx → EReal)
    (i : S4096x4096.Idx) : EReal :=
  ∑ k : Fin 1024, H2 x g md (ix2 (i 0) k) * wu (ix2 k (i 1))

/-- The up projection, its columns in four groups. -/
theorem wu_host (c : Dev nD) : (V m c main_v27 : FVec Ideal S4x1024x1024 .bf16) = (truncf .bf16 (transpose S4x1024x1024 [1, 0, 2] (shapeCast S1024x4x1024
    (m ((c : Thread nD τ).loc main_arg3) : FVec Ideal S1024x4096 .f32) shapeCasts_S1024x4096_S1024x4x1024) transposes_S1024x4x1024_S4x1024x1024_1_0_2) bitsLt_bf16_f32 : FVec Ideal S4x1024x1024 .bf16) := by
  unfold V
  unfold_abbrev_sides
  simp only [List.flatten_cons, List.flatten_nil, List.append_nil, List.cons_append, List.nil_append]
  after_results
  rfl

/-- The same, entry by entry. -/
theorem wu_host_apply (c : Dev nD) (a : Fin 4) (d k : Fin 1024) : (V m c main_v27 : FVec Ideal S4x1024x1024 .bf16) (ix3 a d k)
    = wuA m c (ix2 d ⟨1024 * (a : ℕ) + k, by omega⟩) := by
  rw [wu_host]
  show _ = m ((c : Thread nD τ).loc main_arg3) _
  pointwise []
  blk_point []

/-- The host's product before the activation, as it is written. -/
def upHost (x : FVec Ideal S4096x1024 .f32) (g : FVec Ideal S1x1024 .f32) (md : FVec Ideal S6x1024 .f32) (wu : FVec Ideal S1024x4096 .f32) : FVec Ideal S4096x4096 .f32 :=
  Host.dotGeneral dot_S4096x1024_S1024x4096_S4096x4096_1_0_0_1_n_n none
    (addf
      (mulf
        (mulf
          (mulf x
            (broadcastInDim S4096x1024 ![0, 1] bcast_S4096x1_S4096x1024_0_1
              (Host.rsqrt
                (addf
                  (Host.divf
                    (broadcastInDim S4096x1 ![0] bcast_S4096_S4096x1_0
                      (Host.reduceAdd (mulf x x) (constant S_ FTy.f32 0#32) reducesTo_S4096x1024_S4096_d1 h_S_))
                    (broadcastInDim S4096x1 ![] bcast_S_S4096x1 (constant S_ FTy.f32 1149239296#32)))
                  (broadcastInDim S4096x1 ![] bcast_S_S4096x1 (constant S_ FTy.f32 897988541#32))))))
          (broadcastInDim S4096x1024 ![0, 1] bcast_S1x1024_S4096x1024_0_1 g))
        (broadcastInDim S4096x1024 ![0, 1] bcast_S1x1024_S4096x1024_0_1
          (addf (broadcastInDim S1x1024 ![] bcast_S_S1x1024 (constant S_ FTy.f32 1065353216#32))
            (extractStridedSlice S1x1024 ![4, 0] md slices_S6x1024_S1x1024_4_0))))
      (broadcastInDim S4096x1024 ![0, 1] bcast_S1x1024_S4096x1024_0_1
        (extractStridedSlice S1x1024 ![3, 0] md slices_S6x1024_S1x1024_3_0)))
    wu

theorem upHost_apply (x g md wu) (i) : upHost x g md wu i = UP x g md wu i := by
  idx_vars i
  unfold UP H2 RS
  pointwise [upHost]

theorem r_host (c : Dev nD) : (V m c main_v23 : FVec Ideal S4096x4096 .bf16) =
    (let a : FVec Ideal S4096x4096 .f32 := maximumf (upHost (xA m c) (gA m c) (mdA m c) (wuA m c)) (broadcastInDim S4096x4096 ![] bcast_S_S4096x4096 (constant (F := Ideal) S_ FTy.f32 0#32))
    (truncf .bf16 (mulf a a) bitsLt_bf16_f32 : FVec Ideal S4096x4096 .bf16)) := by
  unfold V
  unfold_abbrev_sides
  simp only [List.flatten_cons, List.flatten_nil, List.append_nil, List.cons_append, List.nil_append]
  after_results
  rfl

/-- The saved activation is the square of the positive part. -/
theorem r_host_apply (c : Dev nD) (i) : rA m c i = max (UP (xA m c) (gA m c) (mdA m c) (wuA m c) i) 0 * max (UP (xA m c) (gA m c) (mdA m c) (wuA m c) i) 0 := by
  unfold rA
  rw [r_host, ← upHost_apply]
  generalize upHost _ _ _ _ = u
  pointwise []

end Cert.FfnBwd

end
-- ==== Proof.BwdReads.lean ====
/-
  The gradient of the MLP: a grid point's blocks as pieces of the operands.
-/
module

public import proofs.«01_k».proof.Proof.BwdHost

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

theorem da_blk (c : Dev nD) (t : Fin cfg0.N) (p : Fin 1024) (q : Fin 512) :
    da (iblk m c 0 t) (iblk m c 1 t) (iblk m c 5 t) (ix2 p q)
      = DA (dyA m c) (wdA m c) (rA m c) (ix2 (row t p) (col t q)) := by
  have r (y : S1024x512.Idx) : iblk m c 1 t y = rA m c (ix2 (row t (y 0)) (col t (y 1))) := by
    idx_vars y
    show V m c main_v23 _ = V m c main_v23 _
    refine congrArg (V m c main_v23) ?_
    blk_point [idx t]
  refine congrArg₂ (· * ·) ?_ (congrArg (fun z => _ * Ideal.sqrt z) (r (ix2 p q)))
  blk_point [iblk, idx t]

/-- A block of the regrouped up projection, cut from the given one. -/
theorem wu_blk (c : Dev nD) (t : Fin cfg0.N) (d : Fin 1024) (q : Fin 512) : iblk m c 4 t (ix3 0 d q) = wuA m c (ix2 d (col t q)) := by
  have e : iblk m c 4 t (ix3 0 d q) = (V m c main_v27 : FVec Ideal S4x1024x1024 .bf16)
      (ix3 ⟨t.val % 8 / 2, by omega⟩ d ⟨512 * (t.val % 8 % 2) + q, by omega⟩) := by
    show V m c main_v27 _ = V m c main_v27 _
    refine congrArg (V m c main_v27) ?_
    blk_point [idx t]
  rw [e, wu_host_apply]
  refine congrArg (fun z => wuA m c (ix2 d z)) (Fin.ext ?_)
  show 1024 * (t.val % 8 / 2) + (512 * (t.val % 8 % 2) + (q : ℕ)) = 512 * (t.val % 8) + q
  omega

theorem dh_blk (c : Dev nD) (t : Fin cfg0.N) (p d : Fin 1024) :
    dh (iblk m c 0 t) (iblk m c 1 t) (iblk m c 5 t) (iblk m c 4 t) (ix2 p d)
      = ∑ q : Fin 512, DA (dyA m c) (wdA m c) (rA m c) (ix2 (row t p) (col t q)) * wuA m c (ix2 d (col t q)) := by
  refine Finset.sum_congr rfl fun q _ => congrArg₂ (· * ·) (da_blk m c t p q) (wu_blk m c t d q)

theorem rs_blk (c : Dev nD) (t : Fin cfg0.N) (p : Fin 1024) :
    k0_pay5 (F := Ideal) (iblk m c 2 t) (ix2 p 0) = RS (xA m c) (row t p) := by
  rw [pay5_apply]
  unfold RS
  blk_point [iblk, idx t]

theorem xn_blk (c : Dev nD) (t : Fin cfg0.N) (p d : Fin 1024) :
    k0_pay6 (F := Ideal) (iblk m c 2 t) (ix2 p d) = xA m c (ix2 (row t p) d) * RS (xA m c) (row t p) := by
  rw [pay6_apply]
  refine congrArg₂ (· * ·) ?_ (rs_blk m c t p)
  blk_point [iblk, idx t]

theorem g_blk (c : Dev nD) (t : Fin cfg0.N) (d : Fin 1024) : iblk m c 7 t (ix2 0 d) = gA m c (ix2 0 d) := by
  blk_point [iblk, idx t]

theorem md_blk (c : Dev nD) (t : Fin cfg0.N) (d : Fin 1024) : iblk m c 6 t (ix2 4 d) = mdA m c (ix2 4 d) := by
  blk_point [iblk, idx t]

theorem dx_blk (c : Dev nD) (t : Fin cfg0.N) (p d : Fin 1024) : iblk m c 3 t (ix2 p d) = dxA m c (ix2 (row t p) d) := by
  blk_point [iblk, idx t]

end Cert.FfnBwd

end
-- ==== Proof.BwdFinal.lean ====
/-
  The gradient of the MLP: the sums over the grid, and the kernel's three result arrays after the run.
-/
module

public import proofs.«01_k».proof.Proof.BwdReads

@[expose] public section

set_option maxRecDepth 16384

noncomputable section

open Idealize.ShloMosaic Idealize.ShloMosaic.TcCoe Idealize.SL.Sem
open Idealize.ShloMosaic.Pipeline (Dat)

namespace Cert.FfnBwd

open Cert.KernelIdeal Cert.KernelIdeal.Gen

variable (m : (ℓ : Loc nD τ sig) → Buf (Elt Ideal) ℓ)

/-- The gradient before the up projection, and after it. -/
abbrev daV (c : Dev nD) : S4096x4096.Idx → EReal := DA (dyA m c) (wdA m c) (rA m c)
abbrev dhV (c : Dev nD) : S4096x1024.Idx → EReal := DH (daV m c) (wuA m c)

/-- At a row block's last point the scratch holds the whole sum over the hidden columns. -/
theorem dh_sum (c : Dev nD) (t : Fin cfg0.N) (h : t.val % 8 = 7) (p d : Fin 1024) :
    (outsAt0 m c t.val t.isLt).2.2.2 (ix2 p d) = dhV m c (ix2 (row t p) d) := by
  have e := Pipeline.eq_sum_fin_of_reset_step_apply_of_flush (fun n h => (outsAt0 m c n h).2.2.2) 8 (fun _ => (0 : EReal))
    (fun t => dh (iblk m c 0 t) (iblk m c 1 t) (iblk m c 5 t) (iblk m c 4 t))
    (fun t h j => by rw [zero_add]; exact dh_first m c t h j) (fun t h j => dh_next m c t h j) t h (ix2 p d)
  refine e.trans ?_
  rw [zero_add]
  refine (Fintype.sum_congr _ _ fun s => dh_blk m c _ p d).trans ?_
  refine Fin.sum_mul_add_congr fun s q hl => ?_
  have e1 : row ⟨8 * (t.val / 8) + s.val, Pipeline.run_point_lt_of_flush t h s⟩ p = row t p := by
    apply Fin.ext; show 1024 * ((8 * (t.val / 8) + s.val) / 8) + (p : ℕ) = 1024 * (t.val / 8) + p; omega
  have e2 : col ⟨8 * (t.val / 8) + s.val, Pipeline.run_point_lt_of_flush t h s⟩ q = ⟨s.val * 512 + q.val, hl⟩ := by
    apply Fin.ext; show 512 * ((8 * (t.val / 8) + s.val) % 8) + (q : ℕ) = s.val * 512 + q; omega
  rw [e1, e2]
  rfl

theorem dx_point (c : Dev nD) (t : Fin cfg0.N) (h : t.val % 8 = 7) (p d : Fin 1024) :
    (outsAt0 m c t.val t.isLt).2.1 (ix2 p d) = DX (dhV m c) (xA m c) (dxA m c) (gA m c) (mdA m c) (ix2 (row t p) d) := by
  rw [dx_last m c t h, pay4_apply]
  simp only [ix2_0, ix2_1, dh_sum m c t h, rs_blk, xn_blk, g_blk, md_blk, dx_blk]
  rfl

theorem sums_blk (c : Dev nD) (t : Fin cfg0.N) (h : t.val % 8 = 7) (j) :
    sums (outsAt0 m c t.val t.isLt).2.2.2 (iblk m c 2 t) (iblk m c 7 t) (fun d => iblk m c 6 t (ix2 4 d)) j
      = SB (dhV m c) (xA m c) (gA m c) (mdA m c) ⟨t.val / 8, blk_lt t⟩ j := by
  idx_vars j
  unfold sums SB
  simp only [ix2_0, ix2_1, dh_sum m c t h, xn_blk, g_blk, md_blk]
  rfl

theorem st_sum (c : Dev nD) (t : Fin cfg0.N) (h : t.val % 32 = 31) (j) :
    (outsAt0 m c t.val t.isLt).2.2.1 j = ∑ b : Fin 4, SB (dhV m c) (xA m c) (gA m c) (mdA m c) b j := by
  have e := Pipeline.eq_sum_fin_of_reset_step_apply_of_flush (fun n h => (outsAt0 m c n h).2.2.1) 32 (fun _ => (0 : EReal))
    (fun t j => if t.val % 8 = 7 then SB (dhV m c) (xA m c) (gA m c) (mdA m c) ⟨t.val / 8, blk_lt t⟩ j else 0)
    (fun t h j => by rw [if_neg (by omega), add_zero]; exact st_zero m c t h j)
    (fun t h j => by
      by_cases h7 : t.val % 8 = 7
      · rw [if_pos h7, ← sums_blk m c t h7]; exact st_last m c t h7 j
      · rw [if_neg h7, add_zero]; exact st_carry m c t h h7 j) t h j
  refine e.trans ?_
  rw [zero_add]
  have ht : t.val = 31 := by have := lt_of_lt_of_eq t.isLt (show cfg0.N = 32 from N_0); omega
  refine (Fin.sum_divmod_congr (A := 4) (S := 8) (f := fun a s => if (s : ℕ) = 7 then SB (dhV m c) (xA m c) (gA m c) (mdA m c) a j else 0)
    fun s ha hs => ?_).trans ?_
  · have e0 : 32 * (t.val / 32) + s.val = s.val := by omega
    simp only [e0]
  · refine Fintype.sum_congr _ _ fun b => ?_
    rw [Finset.sum_eq_single (7 : Fin 8)]
    · rfl
    · intro s _ hs
      exact if_neg fun h => hs (Fin.ext h)
    · intro h; exact absurd (Finset.mem_univ _) h

/-- The first result: the gradient before the up projection. -/
theorem final8 (c : Dev nD) : (dats m 0 c).arrAt 8 cfg0.N = daV m c := by
  refine (dats m 0 c).arrAt_eq_of_covers 8 _ (by decide +kernel) fun t hf y => ?_
  blk_simp
  rw [after0_8, da_point]
  obtain ⟨p, q, rfl⟩ : ∃ (p : Fin 1024) (q : Fin 512), y = ix2 p q := ⟨y 0, y 1, eq_ix2 y⟩
  refine (da_blk m c t p q).trans (congrArg (daV m c) ?_)
  blk_point [idx t]

/-- The second: the gradient at the block's input. -/
theorem final9 (c : Dev nD) : (dats m 0 c).arrAt 9 cfg0.N = DX (dhV m c) (xA m c) (dxA m c) (gA m c) (mdA m c) := by
  refine (dats m 0 c).arrAt_eq_of_covers 9 _ (by decide +kernel) fun t hf y => ?_
  blk_simp
  rw [after0_9]
  obtain ⟨p, q, rfl⟩ : ∃ (p q : Fin 1024), y = ix2 p q := ⟨y 0, y 1, eq_ix2 y⟩
  refine (dx_point m c t ((flush0_9 t).mp hf) p q).trans (congrArg (DX (dhV m c) (xA m c) (dxA m c) (gA m c) (mdA m c)) ?_)
  blk_point [idx t]

/-- The third: the rows of sums. -/
theorem final10 (c : Dev nD) : (dats m 0 c).arrAt 10 cfg0.N = fun y => ∑ b : Fin 4, SB (dhV m c) (xA m c) (gA m c) (mdA m c) b y := by
  refine (dats m 0 c).arrAt_eq_of_covers 10 _ (by decide +kernel) fun t hf y => ?_
  blk_simp
  rw [after0_10]
  obtain ⟨p, q, rfl⟩ : ∃ (p : Fin 8) (q : Fin 1024), y = ix2 p q := ⟨y 0, y 1, eq_ix2 y⟩
  refine (st_sum m c t ((flush0_10 t).mp hf) _).trans
    (congrArg (fun z => ∑ b : Fin 4, SB (dhV m c) (xA m c) (gA m c) (mdA m c) b z) ?_)
  blk_point [idx t]

end Cert.FfnBwd

end
-- ==== Proof.BwdRef.lean ====
/-
  The gradient of the MLP: what the reference computes, entry by entry.
-/
module

public import proofs.«01_k».proof.Proof.Gen.ReferenceIdeal.Read
public import proofs.«01_k».proof.Proof.Gen.ReferenceIdeal
public import proofs.«01_k».proof.Proof.BwdHost

@[expose] public section

set_option maxRecDepth 16384

noncomputable section

open Idealize.ShloMosaic Idealize.ShloMosaic.TcCoe Idealize.SL.Sem

namespace Cert.FfnBwd.Ref

open Cert.ReferenceIdeal Cert.ReferenceIdeal.Gen Cert.ReferenceIdeal.Read

variable (dy x dx : FVec Ideal S4096x1024 .f32) (wu : FVec Ideal S1024x4096 .f32) (wd : FVec Ideal S4096x1024 .f32)
  (md : FVec Ideal S6x1024 .f32) (g : FVec Ideal S1x1024 .f32)

/-- The mean square of a row, with the small constant. -/
def MS (t : Fin 4096) : EReal :=
  Ideal.div (∑ k : Fin 1024, x (ix2 t k) * x (ix2 t k)) (Ideal.ofBits .f32 0x44800000#32) + Ideal.ofBits .f32 0x358637BD#32

theorem ms_eq (t : Fin 4096) : val_main_v8 (F := Ideal) x (ix2 t 0) = MS x t := by
  pointwise [val_main_v8, val_main_v7, val_main_v6, val_main_v5, val_main_v4, val_main_v3, val_main_v2, val_main_cst, val_main_cst_0, val_main_cst_1, MS]

theorem rs_eq (t : Fin 4096) : val_main_v9 (F := Ideal) x (ix2 t 0) = RS x t :=
  congrArg Ideal.rsqrt (ms_eq x t)

theorem xn_eq (t : Fin 4096) (d : Fin 1024) : val_main_v14 (F := Ideal) x (ix2 t d) = x (ix2 t d) * RS x t := by
  rw [← rs_eq]
  unfold val_main_v14 val_main_v13
  generalize val_main_v9 (F := Ideal) x = r
  pointwise []

theorem sc_eq (d : Fin 1024) : val_main_v18 (F := Ideal) md (ix2 0 d) = 1 + md (ix2 4 d) := by
  pointwise [val_main_v18, val_main_v17, val_main_cst_3, val_main_v1]

theorem h2_eq (t : Fin 4096) (d : Fin 1024) : val_main_v22 (F := Ideal) x md g (ix2 t d) = H2 x g md (ix2 t d) := by
  unfold H2 val_main_v22 val_main_v21 val_main_v20 val_main_v19 val_main_v16 val_main_v15 val_main_v0
  simp only [ix2_0, ix2_1]
  rw [← xn_eq, ← sc_eq]
  generalize val_main_v14 (F := Ideal) x = r
  generalize val_main_v18 (F := Ideal) md = s
  pointwise []

theorem up_eq (t q : Fin 4096) : val_main_v23 (F := Ideal) x wu md g (ix2 t q) = UP x g md wu (ix2 t q) := by
  unfold UP val_main_v23
  simp only [ix2_0, ix2_1, ← h2_eq]
  generalize val_main_v22 (F := Ideal) x md g = h
  pointwise []

/-- The reference's gradient before the up projection. -/
def RDA (i : S4096x4096.Idx) : EReal :=
  if 0 < UP x g md wu i then (∑ k : Fin 1024, dy (ix2 (i 0) k) * wd (ix2 (i 1) k)) * (Ideal.ofBits .f32 0x40000000#32 * max (UP x g md wu i) 0) else 0

theorem da_eq (t q : Fin 4096) : val_main_v35 (F := Ideal) dy x wu wd md g (ix2 t q) = RDA dy x wu wd md g (ix2 t q) := by
  unfold RDA val_main_v35 val_main_v34 val_main_v33 val_main_v32 val_main_v30 val_main_v29 val_main_v26 val_main_v25 val_main_v24
  rw [← up_eq]
  generalize val_main_v23 (F := Ideal) x wu md g = u
  pointwise [val_main_call0_v0, val_main_call0_cst, val_main_cst_4, val_main_cst_6, val_main_cst_7]

theorem dh_eq (t : Fin 4096) (d : Fin 1024) : val_main_v36 (F := Ideal) dy x wu wd md g (ix2 t d)
    = DH (RDA dy x wu wd md g) wu (ix2 t d) := by
  unfold DH val_main_v36
  simp only [ix2_0, ix2_1, ← da_eq]
  generalize val_main_v35 (F := Ideal) dy x wu wd md g = h
  pointwise []

theorem sum_shift (d : Fin 1024) : val_main_v38 (F := Ideal) dy x wu wd md g (ix2 0 d)
    = ∑ t : Fin 4096, DH (RDA dy x wu wd md g) wu (ix2 t d) := by
  unfold val_main_v38 val_main_v37
  simp only [← dh_eq]
  generalize val_main_v36 (F := Ideal) dy x wu wd md g = h
  pointwise [val_main_cst_8]

theorem sum_scale (d : Fin 1024) : val_main_v41 (F := Ideal) dy x wu wd md g (ix2 0 d)
    = ∑ t : Fin 4096, x (ix2 t d) * RS x t * g (ix2 0 d) * DH (RDA dy x wu wd md g) wu (ix2 t d) := by
  unfold val_main_v41 val_main_v40 val_main_v39 val_main_v16 val_main_v15
  simp only [← dh_eq, ← xn_eq]
  generalize val_main_v36 (F := Ideal) dy x wu wd md g = h
  generalize val_main_v14 (F := Ideal) x = n
  pointwise [val_main_cst_9]

theorem sum_gain (d : Fin 1024) : val_main_v46 (F := Ideal) dy x wu wd md g (ix2 0 d)
    = ∑ t : Fin 4096, x (ix2 t d) * RS x t * (DH (RDA dy x wu wd md g) wu (ix2 t d) * (1 + md (ix2 4 d))) := by
  unfold val_main_v46 val_main_v45 val_main_v44 val_main_v43 val_main_v42
  simp only [← dh_eq, ← xn_eq]
  generalize val_main_v36 (F := Ideal) dy x wu wd md g = h
  generalize val_main_v14 (F := Ideal) x = n
  have hs := sc_eq md
  generalize val_main_v18 (F := Ideal) md = s at hs ⊢
  pointwise [val_main_cst_10]
  simp only [hs]

/-- The derivative of the norm's factor, times what it meets. -/
def RC (dh : S4096x1024.Idx → EReal) (t : Fin 4096) : EReal :=
  Ideal.div ((∑ e : Fin 1024, x (ix2 t e) * (dh (ix2 t e) * (1 + md (ix2 4 e)) * g (ix2 0 e)))
    * (Ideal.ofBits .f32 0xBF000000#32 * Ideal.div (RS x t) (MS x t))) (Ideal.ofBits .f32 0x44800000#32)

theorem rc_eq (t : Fin 4096) : val_main_v57 (F := Ideal) dy x wu wd md g (ix1 t) = RC x md g (DH (RDA dy x wu wd md g) wu) t := by
  unfold RC
  simp only [← dh_eq, ← rs_eq, ← ms_eq]
  unfold val_main_v57 val_main_v56 val_main_v54 val_main_v51 val_main_v50 val_main_v49 val_main_v48 val_main_v43 val_main_v42 val_main_v12 val_main_v10
  generalize val_main_v36 (F := Ideal) dy x wu wd md g = h
  generalize val_main_v9 (F := Ideal) x = r
  generalize val_main_v8 (F := Ideal) x = r2
  have hs := sc_eq md
  generalize val_main_v18 (F := Ideal) md = s at hs ⊢
  pointwise [val_main_cst_11, val_main_cst_12, val_main_cst_13, val_main_cst_2, val_main_v11, val_main_v55, val_main_v47]
  simp only [hs, Fin.sum_univ_one]

/-- The reference's gradient at the block's input. -/
def RDX (dh : S4096x1024.Idx → EReal) (i : S4096x1024.Idx) : EReal :=
  dx i + (dh i * (1 + md (ix2 4 (i 1))) * g (ix2 0 (i 1)) * RS x (i 0) + x i * RC x md g dh (i 0) + RC x md g dh (i 0) * x i)

theorem dx_eq (t : Fin 4096) (d : Fin 1024) : val_main_v64 (F := Ideal) dy x dx wu wd md g (ix2 t d)
    = RDX x dx md g (DH (RDA dy x wu wd md g) wu) (ix2 t d) := by
  unfold RDX
  simp only [ix2_0, ix2_1, ← dh_eq, ← rs_eq, ← rc_eq]
  unfold val_main_v64 val_main_v62 val_main_v61 val_main_v60 val_main_v59 val_main_v58 val_main_v53 val_main_v52 val_main_v48 val_main_v43 val_main_v42 val_main_v47
  generalize val_main_v36 (F := Ideal) dy x wu wd md g = h
  generalize val_main_v57 (F := Ideal) dy x wu wd md g = c
  generalize val_main_v9 (F := Ideal) x = r
  have hs := sc_eq md
  generalize val_main_v18 (F := Ideal) md = s at hs ⊢
  pointwise []
  simp only [hs]

/-- The reference's rows of sums. -/
def RST (dh : S4096x1024.Idx → EReal) (j : S8x1024.Idx) : EReal :=
  if (j 0 : ℕ) = 0 then ∑ t : Fin 4096, dh (ix2 t (j 1))
  else if (j 0 : ℕ) = 1 then ∑ t : Fin 4096, x (ix2 t (j 1)) * RS x t * g (ix2 0 (j 1)) * dh (ix2 t (j 1))
  else if (j 0 : ℕ) = 2 then ∑ t : Fin 4096, x (ix2 t (j 1)) * RS x t * (dh (ix2 t (j 1)) * (1 + md (ix2 4 (j 1))))
  else 0

theorem st_eq (k : Fin 8) (d : Fin 1024) : val_main_v66 (F := Ideal) dy x wu wd md g (ix2 k d)
    = RST x md g (DH (RDA dy x wu wd md g) wu) (ix2 k d) := by
  unfold RST val_main_v66 val_main_v65
  simp only [ix2_0, ix2_1, ← sum_shift, ← sum_scale, ← sum_gain]
  generalize val_main_v38 (F := Ideal) dy x wu wd md g = a
  generalize val_main_v41 (F := Ideal) dy x wu wd md g = b
  generalize val_main_v46 (F := Ideal) dy x wu wd md g = e
  pointwise [val_main_cst_14]
  by_cases h0 : (k : ℕ) = 0
  · rw [dif_pos (by omega), if_pos h0]
    exact congrArg (fun z : Fin 1 => a (ix2 z d)) (Subsingleton.elim _ _)
  by_cases h1 : (k : ℕ) = 1
  · rw [dif_neg (by omega), dif_pos (by omega), if_neg h0, if_pos h1]
    exact congrArg (fun z : Fin 1 => b (ix2 z d)) (Subsingleton.elim _ _)
  by_cases h2 : (k : ℕ) = 2
  · rw [dif_neg (by omega), dif_neg (by omega), dif_pos (by omega), if_neg h0, if_neg h1, if_pos h2]
    exact congrArg (fun z : Fin 1 => e (ix2 z d)) (Subsingleton.elim _ _)
  · rw [dif_neg (by omega), dif_neg (by omega), dif_neg (by omega), if_neg h0, if_neg h1, if_neg h2]

end Cert.FfnBwd.Ref

end
-- ==== Proof.Reals.lean ====
/-
  Real numbers among the extended ones: sums, the literals the two programs share, one over a root, and what
  "finite" says.
-/
module

public import Idealize.ShloMosaic.Lib.Pipeline.ValueKit

@[expose] public section

set_option maxRecDepth 16384

noncomputable section

open Idealize.ShloMosaic

namespace Cert.Reals

theorem coe_sum {ι : Type} [Fintype ι] (f : ι → ℝ) : (∑ i, (f i : EReal)) = ((∑ i, f i : ℝ) : EReal) := by
  classical
  refine Finset.induction_on (motive := fun s => (∑ i ∈ s, (f i : EReal)) = ((∑ i ∈ s, f i : ℝ) : EReal)) Finset.univ ?_ ?_
  · simp
  · intro a s ha h
    rw [Finset.sum_insert ha, Finset.sum_insert ha, h, EReal.coe_add]

theorem lit_two : Ideal.ofBits .f32 0x40000000#32 = ((2 : ℝ) : EReal) := by
  simp [Ideal.ofBits, Ideal.ieee, -EReal.coe_mul]; norm_num

theorem lit_1024 : Ideal.ofBits .f32 0x44800000#32 = ((1024 : ℝ) : EReal) := by
  simp [Ideal.ofBits, Ideal.ieee, -EReal.coe_mul]; norm_num

theorem lit_neg_half : Ideal.ofBits .f32 0xBF000000#32 = ((-(1 / 2) : ℝ) : EReal) := by
  simp [Ideal.ofBits, Ideal.ieee, -EReal.coe_mul]; norm_num

/-- The norm's small constant. -/
def eps : ℝ := (Ideal.ofBits .f32 0x358637BD#32).toReal

theorem lit_eps_eq : Ideal.ofBits .f32 0x358637BD#32 = ((8796093 / 8796093022208 : ℝ) : EReal) := by
  simp [Ideal.ofBits, Ideal.ieee, -EReal.coe_mul]; norm_num

theorem lit_eps : Ideal.ofBits .f32 0x358637BD#32 = (eps : EReal) := by
  unfold eps; rw [lit_eps_eq, EReal.toReal_coe]

theorem eps_pos : 0 < eps := by
  unfold eps; rw [lit_eps_eq, EReal.toReal_coe]; norm_num

theorem rsqrt_pos {r : ℝ} (h : 0 < r) : Ideal.rsqrt (r : EReal) = ((Real.sqrt r)⁻¹ : ℝ) := by
  rw [Ideal.rsqrt_coe, if_neg (not_lt.mpr h.le), if_neg h.ne']

theorem div_real (a : ℝ) {b : ℝ} (h : b ≠ 0) : Ideal.div (a : EReal) (b : EReal) = ((a / b : ℝ) : EReal) := by
  rw [Ideal.div_coe h, ← EReal.coe_mul]; congr 1; ring

/-- An entry whose absolute value is below infinity is a real number. -/
theorem real_of_abs_lt {x : EReal} (h : max x (-x) < ⊤) : ∃ r : ℝ, x = r := by
  induction x with
  | bot => simp at h
  | top => simp at h
  | coe r => exact ⟨r, rfl⟩

theorem real_of_finite {s : Shape} (hb : (⟨0, ![]⟩ : Shape).BroadcastsInDim s (![] : Fin 0 → Fin s.rank)) (x : FVec Ideal s .f32)
    (h : cmpf .olt (Host.absf x) (broadcastInDim s ![] hb (constant ⟨0, ![]⟩ .f32 0x7F800000#32)) = fun _ => 1#1) :
    ∃ X : s.Idx → ℝ, x = fun i => (X i : EReal) := by
  have e : ∀ i, ∃ r : ℝ, x i = r := by
    intro i
    have hi := congrFun h i
    pointwise [] at hi
    have ht : Ideal.ofBits .f32 0x7F800000#32 = ⊤ := by simp [Ideal.ofBits, Ideal.ieee]
    rw [ht] at hi
    refine real_of_abs_lt ?_
    by_contra hn
    have hd : decide (FloatOps.absf (F := Ideal) (φ := .f32) (x i) < ⊤) = false := decide_eq_false hn
    rw [hd] at hi
    exact absurd hi (by decide)
  choose X hX using e
  exact ⟨X, funext hX⟩

/-- The derivative of the norm, in the two forms. -/
theorem rms_bwd {n : ℕ} (x v : Fin n → ℝ) (ms : ℝ) (h : 0 < ms) (i : Fin n) (N : ℝ) :
    (Real.sqrt ms)⁻¹ * (v i - x i * (Real.sqrt ms)⁻¹ * ((∑ e, v e * (x e * (Real.sqrt ms)⁻¹)) / N))
      = v i * (Real.sqrt ms)⁻¹ + x i * ((∑ e, x e * v e) * (-(1 / 2) * ((Real.sqrt ms)⁻¹ / ms)) / N)
        + (∑ e, x e * v e) * (-(1 / 2) * ((Real.sqrt ms)⁻¹ / ms)) / N * x i := by
  have e1 : (∑ e, v e * (x e * (Real.sqrt ms)⁻¹)) = (∑ e, x e * v e) * (Real.sqrt ms)⁻¹ := by
    rw [Finset.sum_mul]; exact Finset.sum_congr rfl fun _ _ => by ring
  have e2 : (Real.sqrt ms)⁻¹ / ms = (Real.sqrt ms)⁻¹ ^ 3 := by
    have := Real.sq_sqrt h.le
    have hs := (Real.sqrt_pos.mpr h).ne'
    generalize Real.sqrt ms = s at this hs ⊢
    subst this
    field_simp
  rw [e1, e2]
  ring

end Cert.Reals

end
-- ==== Proof.BwdEq.lean ====
/-
  The gradient of the MLP: the kernel's three functions are the reference's, for finite operands.
-/
module

public import proofs.«01_k».proof.Proof.BwdRef
public import proofs.«01_k».proof.Proof.Reals

@[expose] public section

set_option maxRecDepth 16384

noncomputable section

open Idealize.ShloMosaic Idealize.ShloMosaic.TcCoe Idealize.SL.Sem

namespace Cert.FfnBwd.Eq

open Cert.ReferenceIdeal Cert.FfnBwd.Ref Cert.Reals

/-- The root of the square of the positive part is the positive part; where that is zero the product is zero. -/
theorem relu_grad (s u : EReal) (two : EReal) :
    s * (two * Ideal.sqrt (max u 0 * max u 0)) = if 0 < u then s * (two * max u 0) else 0 := by
  by_cases h : 0 < u
  · rw [if_pos h, max_eq_left h.le]
    congr 2
    induction u with
    | bot => exact absurd h (by simp)
    | top => simp
    | coe r =>
      have hr : 0 ≤ r := EReal.coe_nonneg.mp h.le
      rw [← EReal.coe_mul, Ideal.sqrt_coe, if_neg (not_lt.mpr (mul_self_nonneg r)), Real.sqrt_mul_self hr]
  · rw [if_neg h, max_eq_right (not_lt.mp h), mul_zero]
    rw [show (0 : EReal) = ((0 : ℝ) : EReal) from rfl, Ideal.sqrt_coe, if_neg (lt_irrefl _), Real.sqrt_zero]
    simp

variable (dy x dx : S4096x1024.Idx → EReal) (wu : S1024x4096.Idx → EReal) (wd : S4096x1024.Idx → EReal)
  (md : S6x1024.Idx → EReal) (g : S1x1024.Idx → EReal)

theorem da_fun (r : S4096x4096.Idx → EReal) (hr : ∀ i, r i = max (UP x g md wu i) 0 * max (UP x g md wu i) 0) :
    DA dy wd r = RDA dy x wu wd md g := by
  funext i
  unfold DA RDA
  rw [hr]
  exact relu_grad _ _ _

variable (DYr Xr : S4096x1024.Idx → ℝ) (WUr : S1024x4096.Idx → ℝ) (WDr : S4096x1024.Idx → ℝ) (Mr : S6x1024.Idx → ℝ) (Gr : S1x1024.Idx → ℝ)

/-- The mean square of a row of real numbers, with the small constant. -/
def ms (t : Fin 4096) : ℝ := (∑ k : Fin 1024, Xr (ix2 t k) * Xr (ix2 t k)) / 1024 + eps

theorem ms_pos (t : Fin 4096) : 0 < ms Xr t :=
  add_pos_of_nonneg_of_pos (div_nonneg (Finset.sum_nonneg fun k _ => mul_self_nonneg _) (by norm_num)) eps_pos

theorem ms_real (t : Fin 4096) : MS (fun i => (Xr i : EReal)) t = (ms Xr t : EReal) := by
  unfold MS ms
  simp only [lit_1024, lit_eps, ← EReal.coe_mul, coe_sum, div_real _ (show (1024 : ℝ) ≠ 0 by norm_num), ← EReal.coe_add]

theorem rs_real (t : Fin 4096) : RS (fun i => (Xr i : EReal)) t = (((Real.sqrt (ms Xr t))⁻¹ : ℝ) : EReal) := by
  rw [← rsqrt_pos (ms_pos Xr t), ← ms_real]
  rfl

theorem up_real (i) : ∃ r : ℝ, UP (fun i => (Xr i : EReal)) (fun i => (Gr i : EReal)) (fun i => (Mr i : EReal)) (fun i => (WUr i : EReal)) i = r := by
  obtain ⟨t, q, rfl⟩ : ∃ (t q : Fin 4096), i = ix2 t q := ⟨i 0, i 1, eq_ix2 i⟩
  unfold UP H2
  simp only [ix2_0, ix2_1, rs_real, ← EReal.coe_one, ← EReal.coe_mul, ← EReal.coe_add, coe_sum]
  exact ⟨_, rfl⟩

theorem rda_real (i) : ∃ r : ℝ, RDA (fun i => (DYr i : EReal)) (fun i => (Xr i : EReal)) (fun i => (WUr i : EReal)) (fun i => (WDr i : EReal))
    (fun i => (Mr i : EReal)) (fun i => (Gr i : EReal)) i = r := by
  unfold RDA
  obtain ⟨u, hu⟩ := up_real Xr WUr Mr Gr i
  rw [hu]
  by_cases h : (0 : EReal) < u
  · rw [if_pos h, max_eq_left h.le]
    simp only [lit_two, ← EReal.coe_mul, coe_sum]
    exact ⟨_, rfl⟩
  · rw [if_neg h]; exact ⟨0, rfl⟩

theorem dh_real : ∃ D : S4096x1024.Idx → ℝ, DH (RDA (fun i => (DYr i : EReal)) (fun i => (Xr i : EReal)) (fun i => (WUr i : EReal)) (fun i => (WDr i : EReal))
    (fun i => (Mr i : EReal)) (fun i => (Gr i : EReal))) (fun i => (WUr i : EReal)) = fun i => (D i : EReal) := by
  choose A hA using rda_real DYr Xr WUr WDr Mr Gr
  refine ⟨fun i => ∑ q : Fin 4096, A (ix2 (i 0) q) * WUr (ix2 (i 1) q), funext fun i => ?_⟩
  unfold DH
  simp only [hA, ← EReal.coe_mul, coe_sum]

theorem dx_fun (D : S4096x1024.Idx → ℝ) : DX (fun i => (D i : EReal)) (fun i => (Xr i : EReal)) dx (fun i => (Gr i : EReal)) (fun i => (Mr i : EReal))
    = RDX (fun i => (Xr i : EReal)) dx (fun i => (Mr i : EReal)) (fun i => (Gr i : EReal)) (fun i => (D i : EReal)) := by
  funext i
  obtain ⟨t, d, rfl⟩ : ∃ (t : Fin 4096) (d : Fin 1024), i = ix2 t d := ⟨i 0, i 1, eq_ix2 i⟩
  unfold DX RDX RC
  simp only [ix2_0, ix2_1]
  have hm := (ms_pos Xr t).ne'
  simp only [rs_real, ms_real, lit_neg_half, lit_1024, ← EReal.coe_one, ← EReal.coe_mul, ← EReal.coe_add, coe_sum, div_real _ hm,
    div_real _ (show (1024 : ℝ) ≠ 0 by norm_num), ← EReal.coe_sub]
  refine congrArg (fun z : ℝ => dx (ix2 t d) + (z : EReal)) ?_
  have e := rms_bwd (fun k : Fin 1024 => Xr (ix2 t k)) (fun k => D (ix2 t k) * (1 + Mr (ix2 4 k)) * Gr (ix2 0 k)) (ms Xr t) (ms_pos Xr t) d 1024
  simp only [← mul_assoc] at e ⊢
  exact e

theorem st_fun (D : S4096x1024.Idx → ℝ) (j) : ∑ b : Fin 4, SB (fun i => (D i : EReal)) (fun i => (Xr i : EReal)) (fun i => (Gr i : EReal)) (fun i => (Mr i : EReal)) b j
    = RST (fun i => (Xr i : EReal)) (fun i => (Mr i : EReal)) (fun i => (Gr i : EReal)) (fun i => (D i : EReal)) j := by
  obtain ⟨k, d, rfl⟩ : ∃ (k : Fin 8) (d : Fin 1024), j = ix2 k d := ⟨j 0, j 1, eq_ix2 j⟩
  unfold SB RST
  simp only [ix2_0, ix2_1]
  have blocks (f : Fin 4096 → ℝ) : ∑ b : Fin 4, ∑ p : Fin 1024, f ⟨1024 * b + p, row_lt b p⟩ = ∑ t, f t :=
    Fin.sum_mul_add_congr (S := 4) (n := 1024) (F := fun (b : Fin 4) (p : Fin 1024) => f ⟨1024 * (b : ℕ) + p, row_lt b p⟩)
      fun b p hl => congrArg f (Fin.ext (by show 1024 * (b : ℕ) + p = b * 1024 + p; ring))
  by_cases h0 : (k : ℕ) = 0
  · simp only [if_pos h0, coe_sum, blocks fun t => D (ix2 t d)]
  by_cases h1 : (k : ℕ) = 1
  · simp only [if_neg h0, if_pos h1, rs_real, ← EReal.coe_mul, coe_sum]
    rw [← Finset.sum_mul, blocks fun t => D (ix2 t d) * (Xr (ix2 t d) * (Real.sqrt (ms Xr t))⁻¹), Finset.sum_mul]
    exact congrArg _ (Finset.sum_congr rfl fun _ _ => by ring)
  by_cases h2 : (k : ℕ) = 2
  · simp only [if_neg h0, if_neg h1, if_pos h2, rs_real, ← EReal.coe_one, ← EReal.coe_mul, ← EReal.coe_add, coe_sum]
    rw [← Finset.sum_mul, blocks fun t => D (ix2 t d) * (Xr (ix2 t d) * (Real.sqrt (ms Xr t))⁻¹), Finset.sum_mul]
    exact congrArg _ (Finset.sum_congr rfl fun _ _ => by ring)
  · simp only [h0, h1, h2, if_false, Finset.sum_const_zero]

end Cert.FfnBwd.Eq

end
-- ==== Proof.BwdClaim.lean ====
/-
  The gradient of the MLP: the claim. On finite operands the kernel and the reference leave the same three arrays.
-/
module

public import proofs.«01_k».proof.Proof.BwdFinal
public import proofs.«01_k».proof.Proof.BwdEq
public import proofs.«01_k».proof.Proof.Gen.Pre_finite
public import proofs.«01_k».proof.Defs

@[expose] public section

set_option maxRecDepth 16384

noncomputable section

open Idealize.ShloMosaic Idealize.ShloMosaic.TcCoe Idealize.SL.Sem

namespace Cert.FfnBwd

open Cert.KernelIdeal in
/-- Where the operands are finite, they are real numbers and the kernel's three arrays are the reference's. -/
theorem arrays (m : (ℓ : Loc nD τ sig) → Buf (Elt Ideal) ℓ) (c : Dev nD)
    (hpre : Cert.Pre_KernelIdeal_finite (hPre_finite := Cert.Pre_finite.Gen.facts) m) :
    daV m c = Ref.RDA (dyA m c) (xA m c) (wuA m c) (wdA m c) (mdA m c) (gA m c) ∧
    DX (dhV m c) (xA m c) (dxA m c) (gA m c) (mdA m c)
      = Ref.RDX (xA m c) (dxA m c) (mdA m c) (gA m c) (DH (Ref.RDA (dyA m c) (xA m c) (wuA m c) (wdA m c) (mdA m c) (gA m c)) (wuA m c)) ∧
    (fun y => ∑ b : Fin 4, SB (dhV m c) (xA m c) (gA m c) (mdA m c) b y)
      = Ref.RST (xA m c) (mdA m c) (gA m c) (DH (Ref.RDA (dyA m c) (xA m c) (wuA m c) (wdA m c) (mdA m c) (gA m c)) (wuA m c)) := by
  obtain ⟨h0, h1, h3, h4, h5, h6⟩ := hpre c
  obtain ⟨DYr, e0⟩ := Reals.real_of_finite _ _ h0
  obtain ⟨Xr, e1⟩ := Reals.real_of_finite _ _ h1
  obtain ⟨WUr, e3⟩ := Reals.real_of_finite _ _ h3
  obtain ⟨WDr, e4⟩ := Reals.real_of_finite _ _ h4
  obtain ⟨Mr, e5⟩ := Reals.real_of_finite _ _ h5
  obtain ⟨Gr, e6⟩ := Reals.real_of_finite _ _ h6
  have hda : daV m c = Ref.RDA (dyA m c) (xA m c) (wuA m c) (wdA m c) (mdA m c) (gA m c) :=
    Eq.da_fun _ _ _ _ _ _ _ fun i => r_host_apply m c i
  obtain ⟨D, hD⟩ := Eq.dh_real DYr Xr WUr WDr Mr Gr
  have hdh : DH (Ref.RDA (dyA m c) (xA m c) (wuA m c) (wdA m c) (mdA m c) (gA m c)) (wuA m c) = fun i => (D i : EReal) := by
    refine Eq.trans ?_ hD
    rw [show dyA m c = _ from e0, show xA m c = _ from e1, show wuA m c = _ from e3, show wdA m c = _ from e4, show mdA m c = _ from e5, show gA m c = _ from e6]
  refine ⟨hda, ?_, ?_⟩
  · unfold dhV
    rw [hda, hdh, show xA m c = _ from e1, show mdA m c = _ from e5, show gA m c = _ from e6]
    exact Eq.dx_fun _ Xr Mr Gr D
  · unfold dhV
    rw [hda, hdh, show xA m c = _ from e1, show mdA m c = _ from e5, show gA m c = _ from e6]
    exact funext fun j => Eq.st_fun Xr Mr Gr D j

open Cert.KernelIdeal in
/-- The rows of sums over the whole sequence. -/
def ST (m : (ℓ : Loc nD τ sig) → Buf (Elt Ideal) ℓ) (c : Dev nD) (y : S8x1024.Idx) : EReal :=
  ∑ b : Fin 4, SB (dhV m c) (xA m c) (gA m c) (mdA m c) b y

open Cert.ReferenceIdeal in
theorem ref_da (dy x : FVec Ideal S4096x1024 .f32) (wu wd md g) :
    Read.val_main_v63 (F := Ideal) dy x wu wd md g = Ref.RDA dy x wu wd md g := by
  funext i
  rw [eq_ix2 i]
  exact Ref.da_eq dy x wu wd md g _ _

open Cert.ReferenceIdeal in
theorem ref_dx (dy x dx : FVec Ideal S4096x1024 .f32) (wu wd md g) :
    Read.val_main_v64 (F := Ideal) dy x dx wu wd md g = Ref.RDX x dx md g (DH (Ref.RDA dy x wu wd md g) wu) := by
  funext i
  rw [eq_ix2 i]
  exact Ref.dx_eq dy x dx wu wd md g _ _

open Cert.ReferenceIdeal in
theorem ref_st (dy x : FVec Ideal S4096x1024 .f32) (wu wd md g) :
    Read.val_main_v66 (F := Ideal) dy x wu wd md g = Ref.RST x md g (DH (Ref.RDA dy x wu wd md g) wu) := by
  funext i
  rw [eq_ix2 i]
  exact Ref.st_eq dy x wu wd md g _ _

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => daV m c, fun c => DX (dhV m c) (xA m c) (dxA m c) (gA m c) (mdA m c),
    fun c => ST m c, ?_, ?_⟩
  · refine (θ_run _ _ _).mono (fun r h c => ?_) (Cert.KernelIdeal.Value.run_blocks m g)
    exact ⟨(h c).1.trans (final8 m c), (h c).2.1.trans (final9 m c), (h c).2.2.1.trans (final10 m c), (h c).2.2.2⟩
  · refine (θ_run _ _ _).mono (fun r h c => ?_) (Cert.ReferenceIdeal.Value.run m' g')
    obtain ⟨e0, e1, e2, e3, e4, e5, e6⟩ := hagree c
    obtain ⟨a0, a1, a2⟩ := arrays m c hpre
    refine ⟨(h c).1.trans ?_, (h c).2.1.trans ?_, (h c).2.2.1.trans ?_, (h c).2.2.2⟩
    · rw [Cert.ReferenceIdeal.Read.val_main_v63_eq, e0, e1, e3, e4, e5, e6]
      exact (ref_da _ _ _ _ _ _).trans a0.symm
    · rw [Cert.ReferenceIdeal.Read.val_main_v64_eq, e0, e1, e2, e3, e4, e5, e6]
      exact (ref_dx _ _ _ _ _ _ _).trans a1.symm
    · rw [Cert.ReferenceIdeal.Read.val_main_v66_eq, e0, e1, e3, e4, e5, e6]
      exact (ref_st _ _ _ _ _ _).trans a2.symm

end Cert.FfnBwd

end
-- ==== Proof.GradUp.lean ====
/-
  The gradient of the up projection: what the kernel leaves in its two result arrays is the reference's product
  `h2ᵀ · da`, cut into the four column blocks.
-/
module

public import proofs.«01_k».proof.Proof.Gen.KernelUpIdeal.Value
public import proofs.«01_k».proof.Proof.Gen.ReferenceUpIdeal.Run
public import proofs.«01_k».proof.Proof.Gen.ReferenceUpIdeal
public import proofs.«01_k».proof.Proof.Whole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GradUp

open Cert.KernelUpIdeal Cert.KernelUpIdeal.Gen

variable (m : (ℓ : Loc nD τ sig) → Buf (Elt Ideal) ℓ)

/-- The gradient of the weight, block of columns by block of columns: entry `(b, d, c)` is `∑ t, h(t, d) · a(t, 1024 b + c)`. -/
def grad (h : FVec Ideal S4096x1024 .f32) (a : FVec Ideal S4096x4096 .f32) (j : S4x1024x1024.Idx) : EReal :=
  ∑ k : Fin 4096, h (ix2 k (j 1)) * a (ix2 k ⟨(j 0 : ℕ) * 1024 + (j 2 : ℕ), by idx_bounds j; omega⟩)

/-- The blocks the four grid points read and write. -/
theorem idx : ∀ t : Fin cfg0.N, win0_0.index t = ![0, 0] ∧ win0_1.index t = ![0, t.val] ∧
    win0_2.index t = ![t.val, 0, 0] ∧ win0_3.index t = ![t.val, 0, 0] :=
  (by decide +kernel : ∀ t : Fin grid0.N, _)

theorem pay1_apply (j) : k0_pay1 (F := Ideal) j = 0 := by pointwise [k0_pay1]

/-- A half of the block: what was there plus the product over the rows. -/
theorem pay2_apply (v a b) (j : S1x1024x512.Idx) :
    k0_pay2 (F := Ideal) v a b j = v j + ∑ k : Fin 4096, a (ix2 k (j 1)) * b (ix2 k (j 2)) := by
  idx_vars j
  pointwise [k0_pay2]
  blk_point []

theorem pay3_apply (v a b) (j : S1x1024x512.Idx) :
    k0_pay3 (F := Ideal) v a b j = v j + ∑ k : Fin 4096, a (ix2 k (j 1)) * b (ix2 k (j 2)) := by
  idx_vars j
  pointwise [k0_pay3]
  blk_point []

theorem point (c : Dev nD) (t : Fin cfg0.N) (y) : (outsAt0 m c t).1 y
    = grad (m ((c : Thread nD τ).loc main_arg0)) (m ((c : Thread nD τ).loc main_arg1)) (((cfg0.win 2).blk t).view.emb y) := by
  unfold outsAt0; frame_open
  simp (disch := decide) only [↓ View.readCov_skip, ↓ View.readCov_cons_toLoadRect, ↓ View.readCov_fill]
  frame_out
  refine View.canon_append_of_piecesOf (Val := Elt Ideal) (s := S1x1024x1024) (e := .f32) (fun y => grad (m ((c : Thread nD τ).loc main_arg0)) (m ((c : Thread nD τ).loc main_arg1)) (((cfg0.win 2).blk t).view.emb y)) [_] [_, _] ⟨fun x => ?_, fun x => ?_, trivial⟩ y ?_
  · simp only []
    rw [pay3_apply, View.ld_apply, pay1_apply, zero_add]
    pointwise [grad]
    blk_point [iblk, V, idx t]
  · simp only []
    rw [pay2_apply, View.ld_apply, pay1_apply, zero_add]
    pointwise [grad]
    blk_point [iblk, V, idx t]
  · exact View.cover_of_tiledL _ ![1, 1024, 512] rfl y

theorem point3 (c : Dev nD) (t : Fin cfg0.N) (y) : (outsAt0 m c t).2 y = (outsAt0 m c t).1 y := by
  unfold outsAt0; frame_out
  simp (disch := decide) only [↓ Whole.readCov_whole]
  idx_vars y
  obtain rfl : y0 = 0 := Subsingleton.elim _ _
  pointwise [k0_pay4]

/-- The first result array after the run. -/
theorem final2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The second, its copy in the narrow format. -/
theorem final3 (c : Dev nD) : (dats m 0 c).arrAt 3 cfg0.N
    = grad (m ((c : Thread nD τ).loc main_arg0)) (m ((c : Thread nD τ).loc main_arg1)) := by
  refine (dats m 0 c).arrAt_eq_of_covers 3 _ (by decide +kernel) fun t _ y => ?_
  blk_simp
  rw [after0_3, point3 m c t y, point m c t y]
  congr 1

end Cert.GradUp

namespace Cert.GradUp

open Cert.ReferenceUpIdeal Cert.ReferenceUpIdeal.Gen

/-- The reference's gradient: its product, transposed and cut into the blocks. -/
theorem ref_eq (h : FVec Ideal S4096x1024 .f32) (a : FVec Ideal S4096x4096 .f32) :
    transpose S4x1024x1024 [1, 0, 2] (shapeCast S1024x4x1024 (transpose S1024x4096 [1, 0]
      (Host.dotGeneral dot_S4096x4096_S4096x1024_S4096x1024_0_0_1_1_n_n none a h)
      transposes_S4096x1024_S1024x4096_1_0) shapeCasts_S1024x4096_S1024x4x1024)
      transposes_S1024x4x1024_S4x1024x1024_1_0_2 = grad h a := by
  funext j
  idx_vars j
  pointwise [grad]
  simp only [mul_comm]

end Cert.GradUp

end
-- ==== Proof.GradDown.lean ====
/-
  The gradient of the down projection: what the kernel leaves in its two result arrays is the reference's product
  `rᵀ · dy2`, cut into the four row blocks.
-/
module

public import proofs.«01_k».proof.Proof.Gen.KernelDownIdeal.Value
public import proofs.«01_k».proof.Proof.Gen.ReferenceDownIdeal.Run
public import proofs.«01_k».proof.Proof.Gen.ReferenceDownIdeal
public import proofs.«01_k».proof.Proof.Whole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GradDown

open Cert.KernelDownIdeal Cert.KernelDownIdeal.Gen

variable (m : (ℓ : Loc nD τ sig) → Buf (Elt Ideal) ℓ)

/-- The gradient of the weight, block of rows by block of rows: entry `(b, i, d)` is `∑ t, r(t, 1024 b + i) · y(t, d)`. -/
def grad (r : FVec Ideal S4096x4096 .f32) (y : FVec Ideal S4096x1024 .f32) (j : S4x1024x1024.Idx) : EReal :=
  ∑ k : Fin 4096, r (ix2 k ⟨(j 0 : ℕ) * 1024 + (j 1 : ℕ), by idx_bounds j; omega⟩) * y (ix2 k (j 2))

/-- The blocks the four grid points read and write. -/
theorem idx : ∀ t : Fin cfg0.N, win0_0.index t = ![0, t.val] ∧ win0_1.index t = ![0, 0] ∧
    win0_2.index t = ![t.val, 0, 0] ∧ win0_3.index t = ![t.val, 0, 0] :=
  (by decide +kernel : ∀ t : Fin grid0.N, _)

theorem pay1_apply (j) : k0_pay1 (F := Ideal) j = 0 := by pointwise [k0_pay1]

/-- A half of the block: what was there plus the product over the rows. -/
theorem pay2_apply (v a b) (j : S1x1024x512.Idx) :
    k0_pay2 (F := Ideal) v a b j = v j + ∑ k : Fin 4096, a (ix2 k (j 1)) * b (ix2 k (j 2)) := by
  idx_vars j
  pointwise [k0_pay2]
  blk_point []

theorem pay3_apply (v a b) (j : S1x1024x512.Idx) :
    k0_pay3 (F := Ideal) v a b j = v j + ∑ k : Fin 4096, a (ix2 k (j 1)) * b (ix2 k (j 2)) := by
  idx_vars j
  pointwise [k0_pay3]
  blk_point []

theorem point (c : Dev nD) (t : Fin cfg0.N) (y) : (outsAt0 m c t).1 y
    = grad (m ((c : Thread nD τ).loc main_arg0)) (m ((c : Thread nD τ).loc main_arg1)) (((cfg0.win 2).blk t).view.emb y) := by
  unfold outsAt0; frame_open
  simp (disch := decide) only [↓ View.readCov_skip, ↓ View.readCov_cons_toLoadRect, ↓ View.readCov_fill]
  frame_out
  refine View.canon_append_of_piecesOf (Val := Elt Ideal) (s := S1x1024x1024) (e := .f32) (fun y => grad (m ((c : Thread nD τ).loc main_arg0)) (m ((c : Thread nD τ).loc main_arg1)) (((cfg0.win 2).blk t).view.emb y)) [_] [_, _] ⟨fun x => ?_, fun x => ?_, trivial⟩ y ?_
  · simp only []
    rw [pay3_apply, View.ld_apply, pay1_apply, zero_add]
    pointwise [grad]
    blk_point [iblk, V, idx t]
  · simp only []
    rw [pay2_apply, View.ld_apply, pay1_apply, zero_add]
    pointwise [grad]
    blk_point [iblk, V, idx t]
  · exact View.cover_of_tiledL _ ![1, 1024, 512] rfl y

theorem point3 (c : Dev nD) (t : Fin cfg0.N) (y) : (outsAt0 m c t).2 y = (outsAt0 m c t).1 y := by
  unfold outsAt0; frame_out
  simp (disch := decide) only [↓ Whole.readCov_whole]
  idx_vars y
  obtain rfl : y0 = 0 := Subsingleton.elim _ _
  pointwise [k0_pay4]

/-- The first result array after the run. -/
theorem final2 (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t _ y => ?_
  blk_simp
  rw [after0_2]
  exact point m c t y

/-- The second, its copy in the narrow format. -/
theorem final3 (c : Dev nD) : (dats m 0 c).arrAt 3 cfg0.N
    = grad (m ((c : Thread nD τ).loc main_arg0)) (m ((c : Thread nD τ).loc main_arg1)) := by
  refine (dats m 0 c).arrAt_eq_of_covers 3 _ (by decide +kernel) fun t _ y => ?_
  blk_simp
  rw [after0_3, point3 m c t y, point m c t y]
  congr 1

end Cert.GradDown

namespace Cert.GradDown

open Cert.ReferenceDownIdeal Cert.ReferenceDownIdeal.Gen

/-- The reference's gradient: its product, transposed and cut into the blocks. -/
theorem ref_eq (r : FVec Ideal S4096x4096 .f32) (y : FVec Ideal S4096x1024 .f32) :
    shapeCast S4x1024x1024 (transpose S4096x1024 [1, 0]
      (Host.dotGeneral dot_S4096x1024_S4096x4096_S1024x4096_0_0_1_1_n_n none y r)
      transposes_S1024x4096_S4096x1024_1_0) shapeCasts_S4096x1024_S4x1024x1024 = grad r y := by
  funext j
  idx_vars j
  pointwise [grad]
  simp only [mul_comm]

end Cert.GradDown

end
-- ==== Proof.GradClaims.lean ====
/-
  The two weight gradients: kernel and reference leave the same arrays, for all contents of the arguments.
-/
module

public import proofs.«01_k».proof.Defs
public import proofs.«01_k».proof.Proof.GradUp
public import proofs.«01_k».proof.Proof.GradDown

@[expose] public section

noncomputable section

open Idealize.ShloMosaic Idealize.SL.Sem

namespace Cert.GradUp

theorem algebraic : Cert.algebraic_KernelUpIdeal_ReferenceUpIdeal (hKernelUpIdeal := Cert.KernelUpIdeal.Gen.facts)
    (hReferenceUpIdeal := Cert.ReferenceUpIdeal.Gen.facts) := by
  intro m g m' g' hpre hagree
  refine ⟨fun c => grad (m ((c.tc : Thread _ _).loc Cert.KernelUpIdeal.main_arg0)) (m ((c.tc : Thread _ _).loc Cert.KernelUpIdeal.main_arg1)),
    fun c => grad (m ((c.tc : Thread _ _).loc Cert.KernelUpIdeal.main_arg0)) (m ((c.tc : Thread _ _).loc Cert.KernelUpIdeal.main_arg1)), ?_, ?_⟩
  · refine (θ_run _ _ _).mono (fun r h c => ?_) (Cert.KernelUpIdeal.Value.run_blocks m g)
    exact ⟨(h c).1.trans (final2 m c), (h c).2.1.trans (final3 m c), (h c).2.2⟩
  · refine (θ_run _ _ _).mono (fun r h c => ?_) (Cert.ReferenceUpIdeal.Value.run m' g')
    refine ⟨(h c).1.trans ?_, (h c).2.1.trans ?_, (h c).2.2⟩
    · rw [(hagree c).1, (hagree c).2]
      exact ref_eq _ _
    · rw [(hagree c).1, (hagree c).2]
      exact ref_eq _ _

end Cert.GradUp

namespace Cert.GradDown

theorem algebraic : Cert.algebraic_KernelDownIdeal_ReferenceDownIdeal (hKernelDownIdeal := Cert.KernelDownIdeal.Gen.facts)
    (hReferenceDownIdeal := Cert.ReferenceDownIdeal.Gen.facts) := by
  intro m g m' g' hpre hagree
  refine ⟨fun c => grad (m ((c.tc : Thread _ _).loc Cert.KernelDownIdeal.main_arg0)) (m ((c.tc : Thread _ _).loc Cert.KernelDownIdeal.main_arg1)),
    fun c => grad (m ((c.tc : Thread _ _).loc Cert.KernelDownIdeal.main_arg0)) (m ((c.tc : Thread _ _).loc Cert.KernelDownIdeal.main_arg1)), ?_, ?_⟩
  · refine (θ_run _ _ _).mono (fun r h c => ?_) (Cert.KernelDownIdeal.Value.run_blocks m g)
    exact ⟨(h c).1.trans (final2 m c), (h c).2.1.trans (final3 m c), (h c).2.2⟩
  · refine (θ_run _ _ _).mono (fun r h c => ?_) (Cert.ReferenceDownIdeal.Value.run m' g')
    refine ⟨(h c).1.trans ?_, (h c).2.1.trans ?_, (h c).2.2⟩
    · rw [(hagree c).1, (hagree c).2]
      exact ref_eq _ _
    · rw [(hagree c).1, (hagree c).2]
      exact ref_eq _ _

end Cert.GradDown

end
-- ==== Proof.FwdStored.lean ====
/-
  The MLP: the values the kernel stores, at an index, over the extended reals.
-/
module

public import proofs.«01_k».proof.Proof.Gen.KernelFwdIdeal.Frame
public import proofs.«01_k».proof.Proof.Whole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

theorem pay17_apply (h wu) (j : S512x512.Idx) : k0_pay17 (F := Ideal) h wu j
    = max (∑ k : Fin 1024, h (ix2 (j 0) k) * wu (ix3 0 k (j 1))) 0 * max (∑ k : Fin 1024, h (ix2 (j 0) k) * wu (ix3 0 k (j 1))) 0 := by
  idx_vars j
  pointwise [k0_pay17]

theorem pay18_apply (h wu) (j : S512x512.Idx) : k0_pay18 (F := Ideal) h wu j
    = max (∑ k : Fin 1024, h (ix2 (j 0) k) * wu (ix3 0 k (j 1))) 0 * max (∑ k : Fin 1024, h (ix2 (j 0) k) * wu (ix3 0 k (j 1))) 0 := by
  idx_vars j
  pointwise [k0_pay18, k0_pay17]

theorem pay1_apply (h wu) (j : S512x512.Idx) : k0_pay1 (F := Ideal) h wu j
    = max (∑ k : Fin 1024, h (ix2 (j 0) k) * wu (ix3 0 k (j 1))) 0 * max (∑ k : Fin 1024, h (ix2 (j 0) k) * wu (ix3 0 k (j 1))) 0 := by
  idx_vars j
  pointwise [k0_pay1]

theorem pay2_apply (h wu) (j : S512x512.Idx) : k0_pay2 (F := Ideal) h wu j
    = max (∑ k : Fin 1024, h (ix2 (j 0) k) * wu (ix3 0 k (j 1))) 0 * max (∑ k : Fin 1024, h (ix2 (j 0) k) * wu (ix3 0 k (j 1))) 0 := by
  idx_vars j
  pointwise [k0_pay2, k0_pay1]

theorem pay20_apply (h) (j : S512x1024.Idx) : k0_pay20 (F := Ideal) h j
    = h j := by
  idx_vars j
  pointwise [k0_pay20]

theorem pay19_apply (h wu acc wd) (j : S512x1024.Idx) : k0_pay19 (F := Ideal) h wu acc wd j
    = acc j + ∑ q : Fin 512, k0_pay17 (F := Ideal) h wu (ix2 (j 0) q) * wd (ix2 q (j 1)) := by
  idx_vars j
  pointwise [k0_pay19]

theorem pay3_apply (h wu acc wd) (j : S512x1024.Idx) : k0_pay3 (F := Ideal) h wu acc wd j
    = acc j + ∑ q : Fin 512, k0_pay1 (F := Ideal) h wu (ix2 (j 0) q) * wd (ix2 q (j 1)) := by
  idx_vars j
  pointwise [k0_pay3]

theorem pay15_apply (j) : k0_pay15 (F := Ideal) j = 0 := by pointwise [k0_pay15]

theorem pay16_apply (j) : k0_pay16 (F := Ideal) j = 0 := by pointwise [k0_pay16]

theorem pay7_apply (y) (j : S1024x1.Idx) : k0_pay7 (F := Ideal) y j
    = Ideal.rsqrt (Ideal.div (∑ k : Fin 1024, y (ix2 (j 0) k) * y (ix2 (j 0) k)) (Ideal.ofBits .f32 0x44800000#32) + Ideal.ofBits .f32 0x358637BD#32) := by
  idx_vars j
  pointwise [k0_pay7]

theorem pay8_apply (y) (j : S1024x1024.Idx) : k0_pay8 (F := Ideal) y j
    = y j * k0_pay7 (F := Ideal) y (ix2 (j 0) 0) := by
  idx_vars j
  pointwise [k0_pay8]

theorem pay9_apply (gp gt) (j : S1x1024.Idx) : k0_pay9 (F := Ideal) gp gt j
    = gt j * gp j := by
  idx_vars j
  pointwise [k0_pay9]

theorem pay10_apply (y gp gt x t) (j : S1024x1024.Idx) : k0_pay10 (F := Ideal) y gp gt x t j
    = x j + k0_pay8 (F := Ideal) y j * k0_pay9 (F := Ideal) gp gt (ix2 0 (j 1)) - t j := by
  idx_vars j
  pointwise [k0_pay10]

theorem pay11_apply (y gp gt x t) (j : S1024x1024.Idx) : k0_pay11 (F := Ideal) y gp gt x t j
    = k0_pay10 (F := Ideal) y gp gt x t j * Ideal.ofBits .f32 0x3A800000#32 := by
  idx_vars j
  pointwise [k0_pay11]

theorem pay12_apply (y gp gt x t) (j : S1024x1024.Idx) : k0_pay12 (F := Ideal) y gp gt x t j
    = k0_pay11 (F := Ideal) y gp gt x t j := by
  idx_vars j
  pointwise [k0_pay12]

theorem pay13_apply (y gp gt x t st) (j : S1x1024.Idx) : k0_pay13 (F := Ideal) y gp gt x t st j
    = st j + ∑ p : Fin 1024, k0_pay10 (F := Ideal) y gp gt x t (ix2 p (j 1)) * k0_pay10 (F := Ideal) y gp gt x t (ix2 p (j 1)) := by
  idx_vars j
  pointwise [k0_pay13]

theorem pay14_apply (y gp gt x t) (j : S1x1024.Idx) : k0_pay14 (F := Ideal) y gp gt x t j
    = ∑ p : Fin 1024, k0_pay11 (F := Ideal) y gp gt x t (ix2 p (j 1)) * k0_pay8 (F := Ideal) y (ix2 p (j 1)) := by
  idx_vars j
  pointwise [k0_pay14]

theorem pay4_apply (gp s st) (j : S1x1024.Idx) : k0_pay4 (F := Ideal) gp s st j
    = st j + s j * gp j := by
  idx_vars j
  pointwise [k0_pay4]

theorem pay5_apply (gt s st) (j : S1x1024.Idx) : k0_pay5 (F := Ideal) gt s st j
    = st j + s j * gt j := by
  idx_vars j
  pointwise [k0_pay5]

theorem pay6_apply (rs n gg d) (j : S1024x1024.Idx) : k0_pay6 (F := Ideal) rs n gg d j
    = rs (ix2 (j 0) 0) * (d j * gg (ix2 0 (j 1)) - n j * Ideal.div
        (∑ e : Fin 1024, d (ix2 (j 0) e) * gg (ix2 0 e) * n (ix2 (j 0) e)) (Ideal.ofBits .f32 0x44800000#32)) := by
  idx_vars j
  pointwise [k0_pay6]

end Cert.FfnFwd

end
-- ==== Proof.FwdBlocks.lean ====
/-
  The MLP: what the kernel leaves in its blocks at one grid point.  Point `t` handles the rows
  `1024 (t / 8) …` and the hidden columns `512 (t % 8) …`.
-/
module

public import proofs.«01_k».proof.Proof.FwdStored

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (m : (ℓ : Loc nD τ sig) → Buf (Elt Ideal) ℓ)

/-- A block of the activation: the square of the positive part of `h · w`. -/
def act (h : Vec Ideal S1024x1024 .bf16) (wu : Vec Ideal S1x1024x512 .bf16) (y : S1024x512.Idx) : EReal :=
  max (∑ k : Fin 1024, h (ix2 (y 0) k) * wu (ix3 0 k (y 1))) 0 * max (∑ k : Fin 1024, h (ix2 (y 0) k) * wu (ix3 0 k (y 1))) 0

/-- Its product with a block of the down projection. -/
def part (h : Vec Ideal S1024x1024 .bf16) (wu : Vec Ideal S1x1024x512 .bf16) (wd : Vec Ideal S512x1024 .bf16) (y : S1024x1024.Idx) : EReal :=
  ∑ q : Fin 512, act h wu (ix2 (y 0) q) * wd (ix2 q (y 1))

/-- The grid's four kinds of points: the first, a later row block's first, its last, and the others. -/
theorem kinds (t : Fin cfg0.N) : (t.val % 32 = 0 ∧ t.val % 8 = 0 ∧ ¬t.val % 8 = 7) ∨ (¬t.val % 32 = 0 ∧ t.val % 8 = 0 ∧ ¬t.val % 8 = 7)
    ∨ (¬t.val % 32 = 0 ∧ ¬t.val % 8 = 0 ∧ t.val % 8 = 7) ∨ (¬t.val % 32 = 0 ∧ ¬t.val % 8 = 0 ∧ ¬t.val % 8 = 7) := by omega

theorem act_point (c : Dev nD) (t : Fin cfg0.N) (y) : (outsAt0 m c t.val t.isLt).1 y
    = act (iblk m c 0 t) (iblk m c 1 t) y := by
  rcases kinds t with ⟨h0, h1, h2⟩ | ⟨h0, h1, h2⟩ | ⟨h0, h1, h2⟩ | ⟨h0, h1, h2⟩
  · rw [outsAt0_A m c t h0 h1 h2]; frame_out
    refine View.canon_append_of_piecesOf (Val := Elt Ideal) (s := S1024x512) (e := .bf16) (act (iblk m c 0 t) (iblk m c 1 t)) [] [_, _] ⟨fun x => ?_, fun x => ?_, trivial⟩ y ?_
    · simp only []
      rw [pay2_apply]
      pointwise [act, pay20_apply]
      blk_point []
    · simp only []
      rw [pay18_apply]
      pointwise [act]
      blk_point []
    · exact View.cover_of_tiledL _ ![512, 512] rfl y
  · rw [outsAt0_D m c t h0 h1 h2]; frame_out
    refine View.canon_append_of_piecesOf (Val := Elt Ideal) (s := S1024x512) (e := .bf16) (act (iblk m c 0 t) (iblk m c 1 t)) [] [_, _] ⟨fun x => ?_, fun x => ?_, trivial⟩ y ?_
    · simp only []
      rw [pay2_apply]
      pointwise [act, pay20_apply]
      blk_point []
    · simp only []
      rw [pay18_apply]
      pointwise [act]
      blk_point []
    · exact View.cover_of_tiledL _ ![512, 512] rfl y
  · rw [outsAt0_C m c t h0 h1 h2]; frame_out
    refine View.canon_append_of_piecesOf (Val := Elt Ideal) (s := S1024x512) (e := .bf16) (act (iblk m c 0 t) (iblk m c 1 t)) [] [_, _] ⟨fun x => ?_, fun x => ?_, trivial⟩ y ?_
    · simp only []
      rw [pay2_apply]
      pointwise [act, pay20_apply]
      blk_point []
    · simp only []
      rw [pay18_apply]
      pointwise [act]
      blk_point []
    · exact View.cover_of_tiledL _ ![512, 512] rfl y
  · rw [outsAt0_B m c t h0 h1 h2]; frame_out
    refine View.canon_append_of_piecesOf (Val := Elt Ideal) (s := S1024x512) (e := .bf16) (act (iblk m c 0 t) (iblk m c 1 t)) [] [_, _] ⟨fun x => ?_, fun x => ?_, trivial⟩ y ?_
    · simp only []
      rw [pay2_apply]
      pointwise [act, pay20_apply]
      blk_point []
    · simp only []
      rw [pay18_apply]
      pointwise [act]
      blk_point []
    · exact View.cover_of_tiledL _ ![512, 512] rfl y

/-- A row block's first point starts the sum over the hidden columns. -/
theorem acc_first (c : Dev nD) (t : Fin cfg0.N) (h : t.val % 8 = 0) (y) : (outsAt0 m c t.val t.isLt).2.2.2.2 y
    = part (iblk m c 0 t) (iblk m c 1 t) (iblk m c 2 t) y := by
  rcases kinds t with ⟨h0, h1, h2⟩ | ⟨h0, h1, h2⟩ | ⟨h0, h1, h2⟩ | ⟨h0, h1, h2⟩
  · rw [outsAt0_A m c t h0 h1 h2]; frame_open
    simp (disch := decide) only [↓ View.readCov_skip, ↓ View.readCov_cons_toLoadRect, ↓ View.readCov_fill]
    frame_out
    refine View.canon_append_of_piecesOf (Val := Elt Ideal) (s := S1024x1024) (e := .f32) (part (iblk m c 0 t) (iblk m c 1 t) (iblk m c 2 t)) [_] [_, _] ⟨fun x => ?_, fun x => ?_, trivial⟩ y ?_
    · simp only []
      rw [pay3_apply, View.ld_apply, pay16_apply, zero_add]
      pointwise [part, act, pay1_apply, pay20_apply]
      blk_point []
    · simp only []
      rw [pay19_apply, View.ld_apply, pay16_apply, zero_add]
      pointwise [part, act, pay17_apply]
      blk_point []
    · exact View.cover_of_tiledL _ ![512, 1024] rfl y
  · rw [outsAt0_D m c t h0 h1 h2]; frame_open
    simp (disch := decide) only [↓ View.readCov_skip, ↓ View.readCov_cons_toLoadRect, ↓ View.readCov_fill]
    frame_out
    refine View.canon_append_of_piecesOf (Val := Elt Ideal) (s := S1024x1024) (e := .f32) (part (iblk m c 0 t) (iblk m c 1 t) (iblk m c 2 t)) [_] [_, _] ⟨fun x => ?_, fun x => ?_, trivial⟩ y ?_
    · simp only []
      rw [pay3_apply, View.ld_apply, pay16_apply, zero_add]
      pointwise [part, act, pay1_apply, pay20_apply]
      blk_point []
    · simp only []
      rw [pay19_apply, View.ld_apply, pay16_apply, zero_add]
      pointwise [part, act, pay17_apply]
      blk_point []
    · exact View.cover_of_tiledL _ ![512, 1024] rfl y
  · omega
  · omega

theorem acc_next (c : Dev nD) (t : Fin cfg0.N) (h : ¬t.val % 8 = 0) (y) : (outsAt0 m c t.val t.isLt).2.2.2.2 y
    = (outsAt0 m c (t.val - 1) (by omega)).2.2.2.2 y + part (iblk m c 0 t) (iblk m c 1 t) (iblk m c 2 t) y := by
  rcases kinds t with ⟨h0, h1, h2⟩ | ⟨h0, h1, h2⟩ | ⟨h0, h1, h2⟩ | ⟨h0, h1, h2⟩
  · omega
  · omega
  · rw [outsAt0_C m c t h0 h1 h2]; frame_out
    simp only [Idealize.ShloMosaic.read_unread_whole]
    refine View.canon_append_of_piecesOf (Val := Elt Ideal) (s := S1024x1024) (e := .f32) (fun y => (outsAt0 m c (t.val - 1) (by omega)).2.2.2.2 y + part (iblk m c 0 t) (iblk m c 1 t) (iblk m c 2 t) y) [] [_, _] ⟨fun x => ?_, fun x => ?_, trivial⟩ y ?_
    · simp only []
      rw [pay3_apply, View.ld_apply]
      refine congrArg₂ (· + ·) rfl ?_
      pointwise [part, act, pay1_apply, pay20_apply]
      blk_point []
    · simp only []
      rw [pay19_apply, View.ld_apply]
      refine congrArg₂ (· + ·) rfl ?_
      pointwise [part, act, pay17_apply]
      blk_point []
    · exact View.cover_of_tiledL _ ![512, 1024] rfl y
  · rw [outsAt0_B m c t h0 h1 h2]; frame_out
    simp only [Idealize.ShloMosaic.read_unread_whole]
    refine View.canon_append_of_piecesOf (Val := Elt Ideal) (s := S1024x1024) (e := .f32) (fun y => (outsAt0 m c (t.val - 1) (by omega)).2.2.2.2 y + part (iblk m c 0 t) (iblk m c 1 t) (iblk m c 2 t) y) [] [_, _] ⟨fun x => ?_, fun x => ?_, trivial⟩ y ?_
    · simp only []
      rw [pay3_apply, View.ld_apply]
      refine congrArg₂ (· + ·) rfl ?_
      pointwise [part, act, pay1_apply, pay20_apply]
      blk_point []
    · simp only []
      rw [pay19_apply, View.ld_apply]
      refine congrArg₂ (· + ·) rfl ?_
      pointwise [part, act, pay17_apply]
      blk_point []
    · exact View.cover_of_tiledL _ ![512, 1024] rfl y

end Cert.FfnFwd

end
-- ==== Proof.FwdRows.lean ====
/-
  The MLP: the three rows of sums one row block adds to the running ones.
-/
module

public import proofs.«01_k».proof.Proof.FwdBlocks
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (y : Vec Ideal S1024x1024 .f32) (gp : Vec Ideal S1x1024 .f32) (gt : Vec Ideal S1x1024 .f32) (x tg : Vec Ideal S1024x1024 .f32)

/-- The rows: of the squared error, of `dx2 * xn` times the gain, and of the same times the gate. -/
def sums (i : S8x1024.Idx) : EReal :=
  if (i 0 : ℕ) = 0 then ∑ p : Fin 1024, k0_pay10 (F := Ideal) y gp gt x tg (ix2 p (i 1)) * k0_pay10 (F := Ideal) y gp gt x tg (ix2 p (i 1))
  else if (i 0 : ℕ) = 1 then (∑ p : Fin 1024, k0_pay11 (F := Ideal) y gp gt x tg (ix2 p (i 1)) * k0_pay8 (F := Ideal) y (ix2 p (i 1))) * gp (ix2 0 (i 1))
  else if (i 0 : ℕ) = 2 then (∑ p : Fin 1024, k0_pay11 (F := Ideal) y gp gt x tg (ix2 p (i 1)) * k0_pay8 (F := Ideal) y (ix2 p (i 1))) * gt (ix2 0 (i 1))
  else 0

theorem sums_zero (d : Fin 1024) : sums y gp gt x tg (ix2 0 d)
    = ∑ p : Fin 1024, k0_pay10 (F := Ideal) y gp gt x tg (ix2 p d) * k0_pay10 (F := Ideal) y gp gt x tg (ix2 p d) := if_pos rfl

theorem sums_one (d : Fin 1024) : sums y gp gt x tg (ix2 1 d)
    = (∑ p : Fin 1024, k0_pay11 (F := Ideal) y gp gt x tg (ix2 p d) * k0_pay8 (F := Ideal) y (ix2 p d)) * gp (ix2 0 d) :=
  (if_neg Nat.one_ne_zero).trans (if_pos rfl)

theorem sums_two (d : Fin 1024) : sums y gp gt x tg (ix2 2 d)
    = (∑ p : Fin 1024, k0_pay11 (F := Ideal) y gp gt x tg (ix2 p d) * k0_pay8 (F := Ideal) y (ix2 p d)) * gt (ix2 0 d) :=
  (if_neg (Nat.succ_ne_zero 1)).trans ((if_neg (by decide : ¬ (2 : ℕ) = 1)).trans (if_pos rfl))

theorem sums_rest (i : S8x1024.Idx) (h : 3 ≤ (i 0 : ℕ)) : sums y gp gt x tg i = 0 := by
  unfold sums
  rw [if_neg (by omega), if_neg (by omega), if_neg (by omega)]

/-- Column `d` of row `k`, as the row's rectangle places it. -/
theorem row_emb (k : ℕ) (hk : k < 8) (inb) (d : Fin 1024) :
    (Rect.unit (s := S8x1024) ![k, 0] ![1, 1024] inb).emb (ix2 0 d) = ix2 ⟨k, hk⟩ d := by
  funext a
  apply Fin.ext
  match a with
  | ⟨0, _⟩ => show k + 1 * 0 = k; omega
  | ⟨1, _⟩ => show 0 + 1 * (d : ℕ) = d; omega

theorem row_mem (k : ℕ) (inb) (i : S8x1024.Idx) (h : (i 0 : ℕ) = k) :
    i ∈ (Rect.unit (s := S8x1024) ![k, 0] ![1, 1024] inb).set := by
  refine Rect.mem_set_unit.mpr fun a => ?_
  match a with
  | ⟨0, _⟩ => exact ⟨h.ge, by show (i 0 : ℕ) < k + 1; omega⟩
  | ⟨1, _⟩ => exact ⟨Nat.zero_le _, by show (i 1 : ℕ) < 0 + 1024; have := (i 1).isLt; simpa using this⟩

/-- Row five of the modulation block. -/
theorem ld_gate (v : Vec Ideal S6x1024 .f32) (inb) (d : Fin 1024) :
    View.ld (S := S6x1024) v (Rect.unit ![5, 0] ![1, 1024] inb) (ix2 0 d) = v (ix2 5 d) := by
  refine congrArg v (funext fun a => Fin.ext ?_)
  match a with
  | ⟨0, _⟩ => rfl
  | ⟨1, _⟩ => show 0 + 1 * (d : ℕ) = d; omega

/-- The three stores of the row block's last point, over the sums of the row blocks before. -/
theorem rows_read {κ : Kind} {sp : Space} (v : View sig κ sp S8x1024 .f32) (f : v.ty.Contents (Elt Ideal)) (prev : Vec Ideal S8x1024 .f32)
    (hf : v.read (Elt Ideal) f = prev) (i) :
    v.read (Elt Ideal) (v.writes (Elt Ideal) f
      [⟨Rect.unit ![2, 0] ![1, 1024] inb_S8x1024_S1x1024_2_0,
          k0_pay5 gt (k0_pay14 y gp gt x tg) (View.ld prev (Rect.unit ![2, 0] ![1, 1024] inb_S8x1024_S1x1024_2_0))⟩,
        ⟨Rect.unit ![1, 0] ![1, 1024] inb_S8x1024_S1x1024_1_0,
          k0_pay4 gp (k0_pay14 y gp gt x tg) (View.ld prev (Rect.unit ![1, 0] ![1, 1024] inb_S8x1024_S1x1024_1_0))⟩,
        ⟨Rect.unit ![0, 0] ![1, 1024] inb_S8x1024_S1x1024_0_0,
          k0_pay13 y gp gt x tg (View.ld prev (Rect.unit ![0, 0] ![1, 1024] inb_S8x1024_S1x1024_0_0))⟩]) i
      = prev i + sums y gp gt x tg i := by
  refine Whole.read_writes_of_piecesOf (Val := Elt Ideal) v f
    (fun i => prev i + sums y gp gt x tg i) [_, _, _] ⟨fun z => ?_, fun z => ?_, fun z => ?_, trivial⟩ (fun i hi => ?_) i
  · simp only []
    rw [pay5_apply, pay14_apply, View.ld_apply]
    refine congrArg₂ (· + ·) rfl ?_
    idx_vars z; obtain rfl : z0 = 0 := Subsingleton.elim _ _
    rw [row_emb 2 (by decide)]
    exact (sums_two y gp gt x tg z1).symm
  · simp only []
    rw [pay4_apply, pay14_apply, View.ld_apply]
    refine congrArg₂ (· + ·) rfl ?_
    idx_vars z; obtain rfl : z0 = 0 := Subsingleton.elim _ _
    rw [row_emb 1 (by decide)]
    exact (sums_one y gp gt x tg z1).symm
  · simp only []
    rw [pay13_apply, View.ld_apply]
    refine congrArg₂ (· + ·) rfl ?_
    idx_vars z; obtain rfl : z0 = 0 := Subsingleton.elim _ _
    rw [row_emb 0 (by decide)]
    exact (sums_zero y gp gt x tg z1).symm
  · have h3 : 3 ≤ (i 0 : ℕ) := by
      by_contra hlt
      rcases (by omega : (i 0 : ℕ) = 0 ∨ (i 0 : ℕ) = 1 ∨ (i 0 : ℕ) = 2) with h | h | h
      · exact hi _ (List.mem_cons_of_mem _ (List.mem_cons_of_mem _ List.mem_cons_self)) (row_mem 0 inb_S8x1024_S1x1024_0_0 i h)
      · exact hi _ (List.mem_cons_of_mem _ List.mem_cons_self) (row_mem 1 inb_S8x1024_S1x1024_1_0 i h)
      · exact hi _ List.mem_cons_self (row_mem 2 inb_S8x1024_S1x1024_2_0 i h)
    show v.read (Elt Ideal) f i = prev i + sums y gp gt x tg i
    rw [sums_rest _ _ _ _ _ i h3, add_zero, hf]

end Cert.FfnFwd

end
-- ==== Proof.FwdLast.lean ====
/-
  The MLP: what the last point of a row block leaves in the three other results.
-/
module

public import proofs.«01_k».proof.Proof.FwdRows

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (m : (ℓ : Loc nD τ sig) → Buf (Elt Ideal) ℓ)

/-- Row five of the modulation block, as one row. -/
abbrev gate (v : Vec Ideal S6x1024 .f32) : Vec Ideal S1x1024 .f32 := fun j => v (ix2 5 (j 1))

theorem ld_gate_row (v : Vec Ideal S6x1024 .f32) (inb) :
    (View.ld (S := S6x1024) v (Rect.unit ![5, 0] ![1, 1024] inb) : Vec Ideal S1x1024 .f32) = gate v := by
  funext j
  idx_vars j; obtain rfl : j0 = 0 := Subsingleton.elim _ _
  exact ld_gate v inb j1

theorem dx_last (c : Dev nD) (t : Fin cfg0.N) (h : t.val % 8 = 7) (y) : (outsAt0 m c t.val t.isLt).2.2.1 y
    = k0_pay11 (F := Ideal) (outsAt0 m c t.val t.isLt).2.2.2.2 (iblk m c 6 t) (gate (iblk m c 5 t)) (iblk m c 3 t) (iblk m c 4 t) y := by
  rcases kinds t with ⟨h0, h1, h2⟩ | ⟨h0, h1, h2⟩ | ⟨h0, h1, h2⟩ | ⟨h0, h1, h2⟩
  · omega
  · omega
  · rw [outsAt0_C m c t h0 h1 h2]; frame_out
    simp (disch := decide) only [↓ Whole.readCov_whole]
    generalize hd : (View.canon _ : Vec Ideal S1024x1024 .f32) = acc
    rw [← pay12_apply, ld_gate_row]
  · omega

theorem dy_last (c : Dev nD) (t : Fin cfg0.N) (h : t.val % 8 = 7) (y) : (outsAt0 m c t.val t.isLt).2.1 y
    = k0_pay6 (F := Ideal) (k0_pay7 (outsAt0 m c t.val t.isLt).2.2.2.2) (k0_pay8 (outsAt0 m c t.val t.isLt).2.2.2.2)
      (k0_pay9 (iblk m c 6 t) (gate (iblk m c 5 t)))
      (k0_pay11 (outsAt0 m c t.val t.isLt).2.2.2.2 (iblk m c 6 t) (gate (iblk m c 5 t)) (iblk m c 3 t) (iblk m c 4 t)) y := by
  rcases kinds t with ⟨h0, h1, h2⟩ | ⟨h0, h1, h2⟩ | ⟨h0, h1, h2⟩ | ⟨h0, h1, h2⟩
  · omega
  · omega
  · rw [outsAt0_C m c t h0 h1 h2]; frame_out
    simp (disch := decide) only [↓ Whole.readCov_whole]
    generalize hd : (View.canon _ : Vec Ideal S1024x1024 .f32) = acc
    rw [ld_gate_row]
  · omega

theorem st_zero (c : Dev nD) (t : Fin cfg0.N) (h : t.val % 32 = 0) (y) : (outsAt0 m c t.val t.isLt).2.2.2.1 y = 0 := by
  rcases kinds t with ⟨h0, h1, h2⟩ | ⟨h0, h1, h2⟩ | ⟨h0, h1, h2⟩ | ⟨h0, h1, h2⟩
  · rw [outsAt0_A m c t h0 h1 h2]; frame_out
    rw [pay15_apply]
  all_goals omega

theorem st_carry (c : Dev nD) (t : Fin cfg0.N) (h : ¬ t.val % 32 = 0) (h7 : ¬ t.val % 8 = 7) (y) : (outsAt0 m c t.val t.isLt).2.2.2.1 y
    = (outsAt0 m c (t.val - 1) (by omega)).2.2.2.1 y := by
  rcases kinds t with ⟨h0, h1, h2⟩ | ⟨h0, h1, h2⟩ | ⟨h0, h1, h2⟩ | ⟨h0, h1, h2⟩
  · omega
  · rw [outsAt0_D m c t h0 h1 h2]; rfl
  · omega
  · rw [outsAt0_B m c t h0 h1 h2]; rfl

theorem st_last (c : Dev nD) (t : Fin cfg0.N) (h : t.val % 8 = 7) (y) : (outsAt0 m c t.val t.isLt).2.2.2.1 y
    = (outsAt0 m c (t.val - 1) (by omega)).2.2.2.1 y + sums (outsAt0 m c t.val t.isLt).2.2.2.2 (iblk m c 6 t) (gate (iblk m c 5 t)) (iblk m c 3 t) (iblk m c 4 t) y := by
  rcases kinds t with ⟨h0, h1, h2⟩ | ⟨h0, h1, h2⟩ | ⟨h0, h1, h2⟩ | ⟨h0, h1, h2⟩
  · omega
  · omega
  · rw [outsAt0_C m c t h0 h1 h2]; frame_out
    simp (disch := decide) only [↓ Whole.readCov_whole]
    generalize hd : (View.canon _ : Vec Ideal S1024x1024 .f32) = acc
    generalize hp : outsAt0 m c (t.val - 1) _ = prev
    rw [← ld_gate_row _ inb_S6x1024_S1x1024_5_0]
    exact rows_read _ (iblk m c 6 t) _ (iblk m c 3 t) (iblk m c 4 t) _ _ prev.2.2.2.1 (Memref.IsWhole.read_unread _ _) y
  · omega

end Cert.FfnFwd

end
-- ==== Proof.FwdArrays.lean ====
/-
  The MLP: what the kernel's four result arrays hold after the run, as functions of its operands.
-/
module

public import proofs.«01_k».proof.Proof.Gen.KernelFwdIdeal.Value
public import proofs.«01_k».proof.Proof.FwdLast

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (m : (ℓ : Loc nD τ sig) → Buf (Elt Ideal) ℓ)

/-- The activation: the square of the positive part of `h · wu`. -/
def ACT (h : S4096x1024.Idx → EReal) (wu : S1024x4096.Idx → EReal) (i : S4096x4096.Idx) : EReal :=
  max (∑ k : Fin 1024, h (ix2 (i 0) k) * wu (ix2 k (i 1))) 0 * max (∑ k : Fin 1024, h (ix2 (i 0) k) * wu (ix2 k (i 1))) 0

/-- Its product with the down projection. -/
def DOWN (r : S4096x4096.Idx → EReal) (wd : S4096x1024.Idx → EReal) (i : S4096x1024.Idx) : EReal :=
  ∑ q : Fin 4096, r (ix2 (i 0) q) * wd (ix2 q (i 1))

/-- One over the root mean square of a row. -/
def RS (y : S4096x1024.Idx → EReal) (t : Fin 4096) : EReal :=
  Ideal.rsqrt (Ideal.div (∑ k : Fin 1024, y (ix2 t k) * y (ix2 t k)) (Ideal.ofBits .f32 0x44800000#32) + Ideal.ofBits .f32 0x358637BD#32)

/-- The block's output, less the target. -/
def ERR (y x tg : S4096x1024.Idx → EReal) (md : S6x1024.Idx → EReal) (g : S1x1024.Idx → EReal) (i : S4096x1024.Idx) : EReal :=
  x i + y i * RS y (i 0) * (md (ix2 5 (i 1)) * g (ix2 0 (i 1))) - tg i

/-- The gradient of the loss at the block's output. -/
def DX (y x tg : S4096x1024.Idx → EReal) (md : S6x1024.Idx → EReal) (g : S1x1024.Idx → EReal) (i : S4096x1024.Idx) : EReal :=
  ERR y x tg md g i * Ideal.ofBits .f32 0x3A800000#32

/-- The gradient at the down projection's product. -/
def DY (dx y : S4096x1024.Idx → EReal) (md : S6x1024.Idx → EReal) (g : S1x1024.Idx → EReal) (i : S4096x1024.Idx) : EReal :=
  RS y (i 0) * (dx i * (md (ix2 5 (i 1)) * g (ix2 0 (i 1))) - y i * RS y (i 0) * Ideal.div
    (∑ e : Fin 1024, dx (ix2 (i 0) e) * (md (ix2 5 e) * g (ix2 0 e)) * (y (ix2 (i 0) e) * RS y (i 0))) (Ideal.ofBits .f32 0x44800000#32))

theorem row_lt (b : Fin 4) (p : Fin 1024) : 1024 * (b : ℕ) + p < 4096 := by omega

/-- The rows of sums over one row block. -/
def SB (y x tg : S4096x1024.Idx → EReal) (md : S6x1024.Idx → EReal) (g : S1x1024.Idx → EReal) (b : Fin 4) (j : S8x1024.Idx) : EReal :=
  if (j 0 : ℕ) = 0 then ∑ p : Fin 1024, ERR y x tg md g (ix2 ⟨1024 * b + p, row_lt b p⟩ (j 1)) * ERR y x tg md g (ix2 ⟨1024 * b + p, row_lt b p⟩ (j 1))
  else if (j 0 : ℕ) = 1 then (∑ p : Fin 1024, DX y x tg md g (ix2 ⟨1024 * b + p, row_lt b p⟩ (j 1))
    * (y (ix2 ⟨1024 * b + p, row_lt b p⟩ (j 1)) * RS y ⟨1024 * b + p, row_lt b p⟩)) * g (ix2 0 (j 1))
  else if (j 0 : ℕ) = 2 then (∑ p : Fin 1024, DX y x tg md g (ix2 ⟨1024 * b + p, row_lt b p⟩ (j 1))
    * (y (ix2 ⟨1024 * b + p, row_lt b p⟩ (j 1)) * RS y ⟨1024 * b + p, row_lt b p⟩)) * md (ix2 5 (j 1))
  else 0

theorem idx : ∀ t : Fin cfg0.N, win0_0.index t = ![t.val / 8, 0] ∧ win0_1.index t = ![t.val % 8 / 2, 0, t.val % 8 % 2] ∧
    win0_2.index t = ![t.val % 8, 0] ∧ win0_3.index t = ![t.val / 8, 0] ∧
    win0_4.index t = ![t.val / 8, 0] ∧ win0_5.index t = ![0, 0] ∧
    win0_6.index t = ![0, 0] ∧ win0_7.index t = ![t.val / 8, t.val % 8] ∧ win0_8.index t = ![t.val / 8, 0] ∧
    win0_9.index t = ![t.val / 8, 0] ∧ win0_10.index t = ![0, 0] :=
  (by decide +kernel : ∀ t : Fin grid0.N, _)

/-- The operands, by name. -/
abbrev hA (c : Dev nD) : S4096x1024.Idx → EReal := m ((c : Thread nD τ).loc main_arg0)
abbrev xA (c : Dev nD) : S4096x1024.Idx → EReal := m ((c : Thread nD τ).loc main_arg1)
abbrev tgA (c : Dev nD) : S4096x1024.Idx → EReal := m ((c : Thread nD τ).loc main_arg2)
abbrev wuA (c : Dev nD) : S1024x4096.Idx → EReal := m ((c : Thread nD τ).loc main_arg3)
abbrev wdA (c : Dev nD) : S4096x1024.Idx → EReal := m ((c : Thread nD τ).loc main_arg4)
abbrev mdA (c : Dev nD) : S6x1024.Idx → EReal := m ((c : Thread nD τ).loc main_arg5)
abbrev gA (c : Dev nD) : S1x1024.Idx → EReal := m ((c : Thread nD τ).loc main_arg6)

theorem blk_lt (t : Fin cfg0.N) : t.val / 8 < 4 := by
  have := lt_of_lt_of_eq t.isLt (show cfg0.N = 32 from N_0); omega

/-- Row `p` of the block of point `t`. -/
abbrev row (t : Fin cfg0.N) (p : Fin 1024) : Fin 4096 := ⟨1024 * (t.val / 8) + p, by have := blk_lt t; omega⟩
/-- Hidden column `q` of the block of point `t`. -/
abbrev col (t : Fin cfg0.N) (q : Fin 512) : Fin 4096 := ⟨512 * (t.val % 8) + q, by omega⟩

end Cert.FfnFwd

end
-- ==== Proof.FwdReads.lean ====
/-
  The MLP: a grid point's blocks as pieces of the operands.
-/
module

public import proofs.«01_k».proof.Proof.FwdArrays

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (m : (ℓ : Loc nD τ sig) → Buf (Elt Ideal) ℓ)

/-- The up projection, its columns in four groups. -/
theorem wu_host (c : Dev nD) : (V m c main_v3 : FVec Ideal S4x1024x1024 .bf16) = (truncf .bf16 (transpose S4x1024x1024 [1, 0, 2] (shapeCast S1024x4x1024
    (m ((c : Thread nD τ).loc main_arg3) : FVec Ideal S1024x4096 .f32) shapeCasts_S1024x4096_S1024x4x1024) transposes_S1024x4x1024_S4x1024x1024_1_0_2) bitsLt_bf16_f32 : FVec Ideal S4x1024x1024 .bf16) := by
  unfold V
  unfold_abbrev_sides
  simp only [List.flatten_cons, List.flatten_nil, List.append_nil, List.cons_append, List.nil_append]
  after_results
  rfl

/-- The same, entry by entry. -/
theorem wu_host_apply (c : Dev nD) (a : Fin 4) (d k : Fin 1024) : (V m c main_v3 : FVec Ideal S4x1024x1024 .bf16) (ix3 a d k)
    = wuA m c (ix2 d ⟨1024 * (a : ℕ) + k, by omega⟩) := by
  rw [wu_host]
  show _ = m ((c : Thread nD τ).loc main_arg3) _
  pointwise []
  blk_point []

/-- A block of the regrouped up projection, cut from the given one. -/
theorem wu_blk (c : Dev nD) (t : Fin cfg0.N) (d : Fin 1024) (q : Fin 512) : iblk m c 1 t (ix3 0 d q) = wuA m c (ix2 d (col t q)) := by
  have e : iblk m c 1 t (ix3 0 d q) = (V m c main_v3 : FVec Ideal S4x1024x1024 .bf16)
      (ix3 ⟨t.val % 8 / 2, by omega⟩ d ⟨512 * (t.val % 8 % 2) + q, by omega⟩) := by
    show V m c main_v3 _ = V m c main_v3 _
    refine congrArg (V m c main_v3) ?_
    blk_point [idx t]
  rw [e, wu_host_apply]
  refine congrArg (fun z => wuA m c (ix2 d z)) (Fin.ext ?_)
  show 1024 * (t.val % 8 / 2) + (512 * (t.val % 8 % 2) + (q : ℕ)) = 512 * (t.val % 8) + q
  omega

theorem h_blk (c : Dev nD) (t : Fin cfg0.N) (p d : Fin 1024) : iblk m c 0 t (ix2 p d) = hA m c (ix2 (row t p) d) := by
  blk_point [iblk, idx t]

theorem wd_blk (c : Dev nD) (t : Fin cfg0.N) (q : Fin 512) (d : Fin 1024) : iblk m c 2 t (ix2 q d) = wdA m c (ix2 (col t q) d) := by
  blk_point [iblk, idx t]

theorem x_blk (c : Dev nD) (t : Fin cfg0.N) (p d : Fin 1024) : iblk m c 3 t (ix2 p d) = xA m c (ix2 (row t p) d) := by
  blk_point [iblk, idx t]

theorem tg_blk (c : Dev nD) (t : Fin cfg0.N) (p d : Fin 1024) : iblk m c 4 t (ix2 p d) = tgA m c (ix2 (row t p) d) := by
  blk_point [iblk, idx t]

theorem md_blk (c : Dev nD) (t : Fin cfg0.N) (d : Fin 1024) : iblk m c 5 t (ix2 5 d) = mdA m c (ix2 5 d) := by
  blk_point [iblk, idx t]

theorem g_blk (c : Dev nD) (t : Fin cfg0.N) (d : Fin 1024) : iblk m c 6 t (ix2 0 d) = gA m c (ix2 0 d) := by
  blk_point [iblk, idx t]

/-- The activation, and its product with the down projection. -/
abbrev rV (c : Dev nD) : S4096x4096.Idx → EReal := ACT (hA m c) (wuA m c)
abbrev yV (c : Dev nD) : S4096x1024.Idx → EReal := DOWN (rV m c) (wdA m c)

theorem act_blk (c : Dev nD) (t : Fin cfg0.N) (p : Fin 1024) (q : Fin 512) :
    act (iblk m c 0 t) (iblk m c 1 t) (ix2 p q) = rV m c (ix2 (row t p) (col t q)) := by
  unfold act rV ACT
  simp only [ix2_0, ix2_1, h_blk, wu_blk]

theorem part_blk (c : Dev nD) (t : Fin cfg0.N) (p d : Fin 1024) :
    part (iblk m c 0 t) (iblk m c 1 t) (iblk m c 2 t) (ix2 p d)
      = ∑ q : Fin 512, rV m c (ix2 (row t p) (col t q)) * wdA m c (ix2 (col t q) d) :=
  Finset.sum_congr rfl fun q _ => congrArg₂ (· * ·) (act_blk m c t p q) (wd_blk m c t q d)

end Cert.FfnFwd

end
-- ==== Proof.FwdFinal.lean ====
/-
  The MLP: the sums over the grid, and the kernel's four result arrays after the run.
-/
module

public import proofs.«01_k».proof.Proof.FwdReads

@[expose] public section

set_option maxRecDepth 16384

noncomputable section

open Idealize.ShloMosaic Idealize.ShloMosaic.TcCoe Idealize.SL.Sem
open Idealize.ShloMosaic.Pipeline (Dat)

namespace Cert.FfnFwd

open Cert.KernelFwdIdeal Cert.KernelFwdIdeal.Gen

variable (m : (ℓ : Loc nD τ sig) → Buf (Elt Ideal) ℓ)

/-- At a row block's last point the scratch holds the whole sum over the hidden columns. -/
theorem y_sum (c : Dev nD) (t : Fin cfg0.N) (h : t.val % 8 = 7) (p d : Fin 1024) :
    (outsAt0 m c t.val t.isLt).2.2.2.2 (ix2 p d) = yV m c (ix2 (row t p) d) := by
  have e := Pipeline.eq_sum_fin_of_reset_step_apply_of_flush (fun n h => (outsAt0 m c n h).2.2.2.2) 8 (fun _ => (0 : EReal))
    (fun t => part (iblk m c 0 t) (iblk m c 1 t) (iblk m c 2 t))
    (fun t h j => by rw [zero_add]; exact acc_first m c t h j) (fun t h j => acc_next m c t h j) t h (ix2 p d)
  refine e.trans ?_
  rw [zero_add]
  refine (Fintype.sum_congr _ _ fun s => part_blk m c _ p d).trans ?_
  refine Fin.sum_mul_add_congr fun s q hl => ?_
  have e1 : row ⟨8 * (t.val / 8) + s.val, Pipeline.run_point_lt_of_flush t h s⟩ p = row t p := by
    apply Fin.ext; show 1024 * ((8 * (t.val / 8) + s.val) / 8) + (p : ℕ) = 1024 * (t.val / 8) + p; omega
  have e2 : col ⟨8 * (t.val / 8) + s.val, Pipeline.run_point_lt_of_flush t h s⟩ q = ⟨s.val * 512 + q.val, hl⟩ := by
    apply Fin.ext; show 512 * ((8 * (t.val / 8) + s.val) % 8) + (q : ℕ) = s.val * 512 + q; omega
  rw [e1, e2]
  rfl

theorem rs_blk (c : Dev nD) (t : Fin cfg0.N) (h : t.val % 8 = 7) (p : Fin 1024) :
    k0_pay7 (F := Ideal) (outsAt0 m c t.val t.isLt).2.2.2.2 (ix2 p 0) = RS (yV m c) (row t p) := by
  rw [pay7_apply]
  simp only [ix2_0, ix2_1, y_sum m c t h]
  rfl

theorem yn_blk (c : Dev nD) (t : Fin cfg0.N) (h : t.val % 8 = 7) (p d : Fin 1024) :
    k0_pay8 (F := Ideal) (outsAt0 m c t.val t.isLt).2.2.2.2 (ix2 p d) = yV m c (ix2 (row t p) d) * RS (yV m c) (row t p) := by
  rw [pay8_apply]
  exact congrArg₂ (· * ·) (y_sum m c t h p d) (rs_blk m c t h p)

theorem gg_blk (c : Dev nD) (t : Fin cfg0.N) (d : Fin 1024) :
    k0_pay9 (F := Ideal) (iblk m c 6 t) (gate (iblk m c 5 t)) (ix2 0 d) = mdA m c (ix2 5 d) * gA m c (ix2 0 d) := by
  rw [pay9_apply]
  exact congrArg₂ (· * ·) (md_blk m c t d) (g_blk m c t d)

theorem err_blk (c : Dev nD) (t : Fin cfg0.N) (h : t.val % 8 = 7) (p d : Fin 1024) :
    k0_pay10 (F := Ideal) (outsAt0 m c t.val t.isLt).2.2.2.2 (iblk m c 6 t) (gate (iblk m c 5 t)) (iblk m c 3 t) (iblk m c 4 t) (ix2 p d)
      = ERR (yV m c) (xA m c) (tgA m c) (mdA m c) (gA m c) (ix2 (row t p) d) := by
  rw [pay10_apply]
  simp only [ix2_0, ix2_1, yn_blk m c t h, gg_blk, x_blk, tg_blk]
  rfl

/-- The gradient of the loss at the block's output, and the gradient before it. -/
abbrev dxV (c : Dev nD) : S4096x1024.Idx → EReal := DX (yV m c) (xA m c) (tgA m c) (mdA m c) (gA m c)
abbrev dyV (c : Dev nD) : S4096x1024.Idx → EReal := DY (dxV m c) (yV m c) (mdA m c) (gA m c)

theorem dx_blk (c : Dev nD) (t : Fin cfg0.N) (h : t.val % 8 = 7) (p d : Fin 1024) :
    k0_pay11 (F := Ideal) (outsAt0 m c t.val t.isLt).2.2.2.2 (iblk m c 6 t) (gate (iblk m c 5 t)) (iblk m c 3 t) (iblk m c 4 t) (ix2 p d)
      = dxV m c (ix2 (row t p) d) := by
  rw [pay11_apply]
  exact congrArg (· * _) (err_blk m c t h p d)

theorem dy_point (c : Dev nD) (t : Fin cfg0.N) (h : t.val % 8 = 7) (p d : Fin 1024) :
    (outsAt0 m c t.val t.isLt).2.1 (ix2 p d) = dyV m c (ix2 (row t p) d) := by
  rw [dy_last m c t h, pay6_apply]
  simp only [ix2_0, ix2_1, rs_blk m c t h, yn_blk m c t h, gg_blk, dx_blk m c t h]
  rfl

theorem sums_blk (c : Dev nD) (t : Fin cfg0.N) (h : t.val % 8 = 7) (j) :
    sums (outsAt0 m c t.val t.isLt).2.2.2.2 (iblk m c 6 t) (gate (iblk m c 5 t)) (iblk m c 3 t) (iblk m c 4 t) j
      = SB (yV m c) (xA m c) (tgA m c) (mdA m c) (gA m c) ⟨t.val / 8, blk_lt t⟩ j := by
  idx_vars j
  unfold sums SB
  simp only [ix2_0, ix2_1, yn_blk m c t h, err_blk m c t h, dx_blk m c t h, g_blk, gate, md_blk]
  rfl

theorem st_sum (c : Dev nD) (t : Fin cfg0.N) (h : t.val % 32 = 31) (j) :
    (outsAt0 m c t.val t.isLt).2.2.2.1 j = ∑ b : Fin 4, SB (yV m c) (xA m c) (tgA m c) (mdA m c) (gA m c) b j := by
  have e := Pipeline.eq_sum_fin_of_reset_step_apply_of_flush (fun n h => (outsAt0 m c n h).2.2.2.1) 32 (fun _ => (0 : EReal))
    (fun t j => if t.val % 8 = 7 then SB (yV m c) (xA m c) (tgA m c) (mdA m c) (gA m c) ⟨t.val / 8, blk_lt t⟩ j else 0)
    (fun t h j => by rw [if_neg (by omega), add_zero]; exact st_zero m c t h j)
    (fun t h j => by
      by_cases h7 : t.val % 8 = 7
      · rw [if_pos h7, ← sums_blk m c t h7]; exact st_last m c t h7 j
      · rw [if_neg h7, add_zero]; exact st_carry m c t h h7 j) t h j
  refine e.trans ?_
  rw [zero_add]
  have ht : t.val = 31 := by have := lt_of_lt_of_eq t.isLt (show cfg0.N = 32 from N_0); omega
  refine (Fin.sum_divmod_congr (A := 4) (S := 8) (f := fun a s => if (s : ℕ) = 7 then SB (yV m c) (xA m c) (tgA m c) (mdA m c) (gA m c) a j else 0)
    fun s ha hs => ?_).trans ?_
  · have e0 : 32 * (t.val / 32) + s.val = s.val := by omega
    simp only [e0]
  · refine Fintype.sum_congr _ _ fun b => ?_
    rw [Finset.sum_eq_single (7 : Fin 8)]
    · rfl
    · intro s _ hs
      exact if_neg fun h => hs (Fin.ext h)
    · intro h; exact absurd (Finset.mem_univ _) h

/-- The first result: the activation. -/
theorem final7 (c : Dev nD) : (dats m 0 c).arrAt 7 cfg0.N = rV m c := by
  refine (dats m 0 c).arrAt_eq_of_covers 7 _ (by decide +kernel) fun t hf y => ?_
  blk_simp
  rw [after0_7, act_point]
  obtain ⟨p, q, rfl⟩ : ∃ (p : Fin 1024) (q : Fin 512), y = ix2 p q := ⟨y 0, y 1, eq_ix2 y⟩
  refine (act_blk m c t p q).trans (congrArg (rV m c) ?_)
  blk_point [idx t]

/-- The second: the gradient at the down projection's product. -/
theorem final8 (c : Dev nD) : (dats m 0 c).arrAt 8 cfg0.N = dyV m c := by
  refine (dats m 0 c).arrAt_eq_of_covers 8 _ (by decide +kernel) fun t hf y => ?_
  blk_simp
  rw [after0_8]
  obtain ⟨p, q, rfl⟩ : ∃ (p q : Fin 1024), y = ix2 p q := ⟨y 0, y 1, eq_ix2 y⟩
  refine (dy_point m c t ((flush0_8 t).mp hf) p q).trans (congrArg (dyV m c) ?_)
  blk_point [idx t]

/-- The third: the gradient of the loss at the block's output. -/
theorem final9 (c : Dev nD) : (dats m 0 c).arrAt 9 cfg0.N = dxV m c := by
  refine (dats m 0 c).arrAt_eq_of_covers 9 _ (by decide +kernel) fun t hf y => ?_
  blk_simp
  rw [after0_9, dx_last m c t ((flush0_9 t).mp hf)]
  obtain ⟨p, q, rfl⟩ : ∃ (p q : Fin 1024), y = ix2 p q := ⟨y 0, y 1, eq_ix2 y⟩
  refine (dx_blk m c t ((flush0_9 t).mp hf) p q).trans (congrArg (dxV m c) ?_)
  blk_point [idx t]

/-- The fourth: the rows of sums. -/
theorem final10 (c : Dev nD) : (dats m 0 c).arrAt 10 cfg0.N = fun y => ∑ b : Fin 4, SB (yV m c) (xA m c) (tgA m c) (mdA m c) (gA m c) b y := by
  refine (dats m 0 c).arrAt_eq_of_covers 10 _ (by decide +kernel) fun t hf y => ?_
  blk_simp
  rw [after0_10]
  obtain ⟨p, q, rfl⟩ : ∃ (p : Fin 8) (q : Fin 1024), y = ix2 p q := ⟨y 0, y 1, eq_ix2 y⟩
  refine (st_sum m c t ((flush0_10 t).mp hf) _).trans
    (congrArg (fun z => ∑ b : Fin 4, SB (yV m c) (xA m c) (tgA m c) (mdA m c) (gA m c) b z) ?_)
  blk_point [idx t]

end Cert.FfnFwd

end
-- ==== Proof.FwdRef.lean ====
/-
  The MLP: what the reference computes, entry by entry.
-/
module

public import proofs.«01_k».proof.Proof.Gen.ReferenceFwdIdeal.Read
public import proofs.«01_k».proof.Proof.Gen.ReferenceFwdIdeal
public import proofs.«01_k».proof.Proof.FwdArrays

@[expose] public section

set_option maxRecDepth 16384

noncomputable section

open Idealize.ShloMosaic Idealize.ShloMosaic.TcCoe Idealize.SL.Sem

namespace Cert.FfnFwd.Ref

open Cert.ReferenceFwdIdeal Cert.ReferenceFwdIdeal.Gen Cert.ReferenceFwdIdeal.Read

variable (h x tg : FVec Ideal S4096x1024 .f32) (wu : FVec Ideal S1024x4096 .f32) (wd : FVec Ideal S4096x1024 .f32)
  (md : FVec Ideal S6x1024 .f32) (g : FVec Ideal S1x1024 .f32)

theorem act_eq (t q : Fin 4096) : val_main_v2 (F := Ideal) h wu (ix2 t q) = ACT h wu (ix2 t q) := by
  unfold ACT
  pointwise [val_main_v2, val_main_v1, val_main_v0, val_main_call0_v0, val_main_call0_cst]

/-- The product with the down projection. -/
abbrev Y : S4096x1024.Idx → EReal := DOWN (ACT h wu) wd

theorem y_eq (t : Fin 4096) (d : Fin 1024) : val_main_v3 (F := Ideal) h wu wd (ix2 t d) = Y h wu wd (ix2 t d) := by
  unfold Y DOWN val_main_v3
  simp only [ix2_0, ix2_1, ← act_eq]
  generalize val_main_v2 (F := Ideal) h wu = r
  pointwise []

theorem gate_eq (d : Fin 1024) : val_main_v4 (F := Ideal) md (ix2 0 d) = md (ix2 5 d) := by
  pointwise [val_main_v4]

/-- The mean square of a row, with the small constant. -/
def MS (y : S4096x1024.Idx → EReal) (t : Fin 4096) : EReal :=
  Ideal.div (∑ k : Fin 1024, y (ix2 t k) * y (ix2 t k)) (Ideal.ofBits .f32 0x44800000#32) + Ideal.ofBits .f32 0x358637BD#32

theorem ms_eq (t : Fin 4096) : val_main_v11 (F := Ideal) h wu wd (ix2 t 0) = MS (Y h wu wd) t := by
  unfold MS val_main_v11 val_main_v9 val_main_v7 val_main_v6 val_main_v5
  simp only [← y_eq]
  generalize val_main_v3 (F := Ideal) h wu wd = y
  pointwise [val_main_v10, val_main_v8, val_main_cst, val_main_cst_0, val_main_cst_1]

theorem rs_eq (t : Fin 4096) : val_main_v12 (F := Ideal) h wu wd (ix2 t 0) = RS (Y h wu wd) t :=
  congrArg Ideal.rsqrt (ms_eq h wu wd t)

theorem yn_eq (t : Fin 4096) (d : Fin 1024) : val_main_v17 (F := Ideal) h wu wd (ix2 t d) = Y h wu wd (ix2 t d) * RS (Y h wu wd) t := by
  rw [← rs_eq, ← y_eq]
  unfold val_main_v17 val_main_v16
  generalize val_main_v12 (F := Ideal) h wu wd = r
  generalize val_main_v3 (F := Ideal) h wu wd = y
  pointwise []

/-- The block's output, less the target. -/
def RERR (y : S4096x1024.Idx → EReal) (i : S4096x1024.Idx) : EReal :=
  x i + md (ix2 5 (i 1)) * (y i * RS y (i 0) * g (ix2 0 (i 1))) - tg i

theorem err_eq (t : Fin 4096) (d : Fin 1024) : val_main_v23 (F := Ideal) h x tg wu wd md g (ix2 t d)
    = RERR x tg md g (Y h wu wd) (ix2 t d) := by
  unfold RERR val_main_v23 val_main_v22 val_main_v21 val_main_v20 val_main_v19 val_main_v18
  simp only [ix2_0, ix2_1, ← yn_eq]
  generalize val_main_v17 (F := Ideal) h wu wd = n
  have hs := gate_eq md
  generalize val_main_v4 (F := Ideal) md = s at hs ⊢
  pointwise []
  simp only [hs]

/-- The gradient of the loss at the block's output. -/
def RDX (y : S4096x1024.Idx → EReal) (i : S4096x1024.Idx) : EReal :=
  Ideal.div (Ideal.ofBits .f32 0x3F000000#32 * 1) (Ideal.ofBits .f32 0x44800000#32) * (Ideal.ofBits .f32 0x40000000#32 * RERR x tg md g y i)

theorem dx_eq (t : Fin 4096) (d : Fin 1024) : val_main_v37 (F := Ideal) h x tg wu wd md g (ix2 t d)
    = RDX x tg md g (Y h wu wd) (ix2 t d) := by
  unfold RDX val_main_v37 val_main_v36 val_main_v35 val_main_v34 val_main_v33 val_main_v32 val_main_v26
  rw [← err_eq]
  generalize val_main_v23 (F := Ideal) h x tg wu wd md g = e
  pointwise [val_main_cst_8, val_main_cst_9, val_main_cst_10, val_main_cst_3, val_main_v25]

theorem sum_gate (d : Fin 1024) : val_main_v42 (F := Ideal) h x tg wu wd md g (ix2 0 d)
    = ∑ t : Fin 4096, RDX x tg md g (Y h wu wd) (ix2 t d) * (Y h wu wd (ix2 t d) * RS (Y h wu wd) t * g (ix2 0 d)) := by
  unfold val_main_v42 val_main_v41 val_main_v40 val_main_v19 val_main_v18
  simp only [← dx_eq, ← yn_eq]
  generalize val_main_v37 (F := Ideal) h x tg wu wd md g = e
  generalize val_main_v17 (F := Ideal) h wu wd = n
  pointwise [val_main_cst_11]

theorem sum_gain (d : Fin 1024) : val_main_v45 (F := Ideal) h x tg wu wd md g (ix2 0 d)
    = ∑ t : Fin 4096, Y h wu wd (ix2 t d) * RS (Y h wu wd) t * (md (ix2 5 d) * RDX x tg md g (Y h wu wd) (ix2 t d)) := by
  unfold val_main_v45 val_main_v44 val_main_v43 val_main_v39 val_main_v38
  simp only [← dx_eq, ← yn_eq]
  generalize val_main_v37 (F := Ideal) h x tg wu wd md g = e
  generalize val_main_v17 (F := Ideal) h wu wd = n
  have hs := gate_eq md
  generalize val_main_v4 (F := Ideal) md = s at hs ⊢
  pointwise [val_main_cst_12]
  simp only [hs]

theorem sum_err (d : Fin 1024) : val_main_v65 (F := Ideal) h x tg wu wd md g (ix2 0 d)
    = ∑ t : Fin 4096, RERR x tg md g (Y h wu wd) (ix2 t d) * RERR x tg md g (Y h wu wd) (ix2 t d) := by
  have e : val_main_v62 (F := Ideal) h x tg wu wd md g = val_main_v23 (F := Ideal) h x tg wu wd md g := rfl
  unfold val_main_v65 val_main_v64 val_main_v63
  simp only [← err_eq, e]
  generalize val_main_v23 (F := Ideal) h x tg wu wd md g = n
  pointwise [val_main_cst_16]

/-- The derivative of the norm's factor, times what it meets. -/
def RC (dx y : S4096x1024.Idx → EReal) (t : Fin 4096) : EReal :=
  Ideal.div ((∑ e : Fin 1024, y (ix2 t e) * (md (ix2 5 e) * dx (ix2 t e) * g (ix2 0 e)))
    * (Ideal.ofBits .f32 0xBF000000#32 * Ideal.div (RS y t) (MS y t))) (Ideal.ofBits .f32 0x44800000#32)

theorem rc_eq (t : Fin 4096) : val_main_v56 (F := Ideal) h x tg wu wd md g (ix1 t)
    = RC md g (RDX x tg md g (Y h wu wd)) (Y h wu wd) t := by
  unfold RC
  simp only [← dx_eq, ← rs_eq, ← ms_eq, ← y_eq]
  unfold val_main_v56 val_main_v55 val_main_v53 val_main_v50 val_main_v49 val_main_v48 val_main_v47 val_main_v39 val_main_v38 val_main_v15 val_main_v13
  generalize val_main_v37 (F := Ideal) h x tg wu wd md g = e
  generalize val_main_v12 (F := Ideal) h wu wd = r
  generalize val_main_v11 (F := Ideal) h wu wd = r2
  generalize val_main_v3 (F := Ideal) h wu wd = y
  have hs := gate_eq md
  generalize val_main_v4 (F := Ideal) md = s at hs ⊢
  pointwise [val_main_cst_13, val_main_cst_14, val_main_cst_15, val_main_cst_2, val_main_v14, val_main_v54, val_main_v46]
  simp only [hs, Fin.sum_univ_one]

/-- The gradient at the down projection's product. -/
def RDY (dx y : S4096x1024.Idx → EReal) (i : S4096x1024.Idx) : EReal :=
  md (ix2 5 (i 1)) * dx i * g (ix2 0 (i 1)) * RS y (i 0) + y i * RC md g dx y (i 0) + RC md g dx y (i 0) * y i

theorem dy_eq (t : Fin 4096) (d : Fin 1024) : val_main_v61 (F := Ideal) h x tg wu wd md g (ix2 t d)
    = RDY md g (RDX x tg md g (Y h wu wd)) (Y h wu wd) (ix2 t d) := by
  unfold RDY
  simp only [ix2_0, ix2_1, ← rc_eq]
  simp only [← dx_eq, ← rs_eq, ← y_eq]
  unfold val_main_v61 val_main_v60 val_main_v59 val_main_v58 val_main_v57 val_main_v52 val_main_v51 val_main_v47 val_main_v46 val_main_v39 val_main_v38
  generalize val_main_v56 (F := Ideal) h x tg wu wd md g = c
  generalize val_main_v37 (F := Ideal) h x tg wu wd md g = e
  generalize val_main_v12 (F := Ideal) h wu wd = r
  generalize val_main_v3 (F := Ideal) h wu wd = y
  have hs := gate_eq md
  generalize val_main_v4 (F := Ideal) md = s at hs ⊢
  pointwise []
  simp only [hs]

/-- The reference's rows of sums. -/
def RST (y : S4096x1024.Idx → EReal) (j : S8x1024.Idx) : EReal :=
  if (j 0 : ℕ) = 0 then ∑ t : Fin 4096, RERR x tg md g y (ix2 t (j 1)) * RERR x tg md g y (ix2 t (j 1))
  else if (j 0 : ℕ) = 1 then ∑ t : Fin 4096, RDX x tg md g y (ix2 t (j 1)) * (y (ix2 t (j 1)) * RS y t * g (ix2 0 (j 1)))
  else if (j 0 : ℕ) = 2 then ∑ t : Fin 4096, y (ix2 t (j 1)) * RS y t * (md (ix2 5 (j 1)) * RDX x tg md g y (ix2 t (j 1)))
  else 0

theorem st_eq (k : Fin 8) (d : Fin 1024) : val_main_v69 (F := Ideal) h x tg wu wd md g (ix2 k d)
    = RST x tg md g (Y h wu wd) (ix2 k d) := by
  unfold RST val_main_v69 val_main_v68
  simp only [ix2_0, ix2_1, ← sum_err, ← sum_gate, ← sum_gain]
  generalize val_main_v65 (F := Ideal) h x tg wu wd md g = a
  generalize val_main_v42 (F := Ideal) h x tg wu wd md g = b
  generalize val_main_v45 (F := Ideal) h x tg wu wd md g = e
  pointwise [val_main_cst_17]
  by_cases h0 : (k : ℕ) = 0
  · rw [dif_pos (by omega), if_pos h0]
    exact congrArg (fun z : Fin 1 => a (ix2 z d)) (Subsingleton.elim _ _)
  by_cases h1 : (k : ℕ) = 1
  · rw [dif_neg (by omega), dif_pos (by omega), if_neg h0, if_pos h1]
    exact congrArg (fun z : Fin 1 => b (ix2 z d)) (Subsingleton.elim _ _)
  by_cases h2 : (k : ℕ) = 2
  · rw [dif_neg (by omega), dif_neg (by omega), dif_pos (by omega), if_neg h0, if_neg h1, if_pos h2]
    exact congrArg (fun z : Fin 1 => e (ix2 z d)) (Subsingleton.elim _ _)
  · rw [dif_neg (by omega), dif_neg (by omega), dif_neg (by omega), if_neg h0, if_neg h1, if_neg h2]

end Cert.FfnFwd.Ref

end
-- ==== Proof.FwdEq.lean ====
/-
  The MLP: the kernel's four functions are the reference's, for finite operands.
-/
module

public import proofs.«01_k».proof.Proof.FwdRef
public import proofs.«01_k».proof.Proof.Reals

@[expose] public section

set_option maxRecDepth 16384

noncomputable section

open Idealize.ShloMosaic Idealize.ShloMosaic.TcCoe Idealize.SL.Sem

namespace Cert.FfnFwd.Eq

open Cert.ReferenceFwdIdeal Cert.FfnFwd.Ref Cert.Reals

theorem lit_half : Ideal.ofBits .f32 0x3F000000#32 = ((1 / 2 : ℝ) : EReal) := by
  simp [Ideal.ofBits, Ideal.ieee, -EReal.coe_mul]; norm_num

theorem lit_inv : Ideal.ofBits .f32 0x3A800000#32 = ((1 / 1024 : ℝ) : EReal) := by
  simp [Ideal.ofBits, Ideal.ieee, -EReal.coe_mul]; norm_num

variable (y x tg : S4096x1024.Idx → EReal) (md : S6x1024.Idx → EReal) (g : S1x1024.Idx → EReal)

theorem err_fun : ERR y x tg md g = RERR x tg md g y :=
  funext fun i => congrArg (fun z => x i + z - tg i) (mul_left_comm _ _ _)

theorem dx_fun : DX y x tg md g = RDX x tg md g y := by
  funext i
  unfold DX RDX
  rw [err_fun, lit_half, lit_inv, lit_two, lit_1024, mul_one, div_real _ (show (1024 : ℝ) ≠ 0 by norm_num), ← mul_assoc, ← EReal.coe_mul, mul_comm]
  refine congrArg (fun z : ℝ => (z : EReal) * _) ?_
  norm_num

variable (Hr : S4096x1024.Idx → ℝ) (WUr : S1024x4096.Idx → ℝ) (WDr : S4096x1024.Idx → ℝ)
  (Yr Dr Xr Tr : S4096x1024.Idx → ℝ) (Mr : S6x1024.Idx → ℝ) (Gr : S1x1024.Idx → ℝ)

/-- The mean square of a row of real numbers, with the small constant. -/
def ms (t : Fin 4096) : ℝ := (∑ k : Fin 1024, Yr (ix2 t k) * Yr (ix2 t k)) / 1024 + eps

theorem ms_pos (t : Fin 4096) : 0 < ms Yr t :=
  add_pos_of_nonneg_of_pos (div_nonneg (Finset.sum_nonneg fun k _ => mul_self_nonneg _) (by norm_num)) eps_pos

theorem ms_real (t : Fin 4096) : MS (fun i => (Yr i : EReal)) t = (ms Yr t : EReal) := by
  unfold MS ms
  simp only [lit_1024, lit_eps, ← EReal.coe_mul, coe_sum, div_real _ (show (1024 : ℝ) ≠ 0 by norm_num), ← EReal.coe_add]

theorem rs_real (t : Fin 4096) : RS (fun i => (Yr i : EReal)) t = (((Real.sqrt (ms Yr t))⁻¹ : ℝ) : EReal) := by
  rw [← rsqrt_pos (ms_pos Yr t), ← ms_real]
  rfl

theorem act_real (i) : ∃ r : ℝ, ACT (fun i => (Hr i : EReal)) (fun i => (WUr i : EReal)) i = r := by
  unfold ACT
  simp only [← EReal.coe_mul, coe_sum]
  generalize (∑ k : Fin 1024, Hr (ix2 (i 0) k) * WUr (ix2 k (i 1))) = u
  rcases le_total 0 u with h | h
  · rw [max_eq_left (EReal.coe_nonneg.mpr h), ← EReal.coe_mul]; exact ⟨_, rfl⟩
  · rw [max_eq_right (EReal.coe_nonpos.mpr h), mul_zero]; exact ⟨0, rfl⟩

theorem y_real : ∃ Y : S4096x1024.Idx → ℝ, DOWN (ACT (fun i => (Hr i : EReal)) (fun i => (WUr i : EReal))) (fun i => (WDr i : EReal)) = fun i => (Y i : EReal) := by
  choose A hA using act_real Hr WUr
  refine ⟨fun i => ∑ q : Fin 4096, A (ix2 (i 0) q) * WDr (ix2 q (i 1)), funext fun i => ?_⟩
  unfold DOWN
  simp only [hA, ← EReal.coe_mul, coe_sum]

theorem dx_real : ∃ D : S4096x1024.Idx → ℝ, DX (fun i => (Yr i : EReal)) (fun i => (Xr i : EReal)) (fun i => (Tr i : EReal)) (fun i => (Mr i : EReal)) (fun i => (Gr i : EReal))
    = fun i => (D i : EReal) := by
  have e : ∀ i, ∃ r : ℝ, DX (fun i => (Yr i : EReal)) (fun i => (Xr i : EReal)) (fun i => (Tr i : EReal)) (fun i => (Mr i : EReal)) (fun i => (Gr i : EReal)) i = r := by
    intro i
    obtain ⟨t, d, rfl⟩ : ∃ (t : Fin 4096) (d : Fin 1024), i = ix2 t d := ⟨i 0, i 1, eq_ix2 i⟩
    unfold DX ERR
    simp only [ix2_0, ix2_1, rs_real, lit_inv, ← EReal.coe_mul, ← EReal.coe_add, ← EReal.coe_sub]
    exact ⟨_, rfl⟩
  choose D hD using e
  exact ⟨D, funext hD⟩

theorem dy_fun : DY (fun i => (Dr i : EReal)) (fun i => (Yr i : EReal)) (fun i => (Mr i : EReal)) (fun i => (Gr i : EReal))
    = RDY (fun i => (Mr i : EReal)) (fun i => (Gr i : EReal)) (fun i => (Dr i : EReal)) (fun i => (Yr i : EReal)) := by
  funext i
  obtain ⟨t, d, rfl⟩ : ∃ (t : Fin 4096) (d : Fin 1024), i = ix2 t d := ⟨i 0, i 1, eq_ix2 i⟩
  unfold DY RDY RC
  simp only [ix2_0, ix2_1]
  have hm := (ms_pos Yr t).ne'
  simp only [rs_real, ms_real, lit_neg_half, lit_1024, ← EReal.coe_mul, ← EReal.coe_add, coe_sum, div_real _ hm,
    div_real _ (show (1024 : ℝ) ≠ 0 by norm_num), ← EReal.coe_sub]
  refine congrArg (fun z : ℝ => (z : EReal)) ?_
  have e := rms_bwd (fun k : Fin 1024 => Yr (ix2 t k)) (fun k => Mr (ix2 5 k) * Dr (ix2 t k) * Gr (ix2 0 k)) (ms Yr t) (ms_pos Yr t) d 1024
  have c (k : Fin 1024) : Dr (ix2 t k) * (Mr (ix2 5 k) * Gr (ix2 0 k)) = Mr (ix2 5 k) * Dr (ix2 t k) * Gr (ix2 0 k) := by ring
  simp only [c]
  exact e

theorem st_fun (j) : ∑ b : Fin 4, SB (fun i => (Yr i : EReal)) (fun i => (Xr i : EReal)) (fun i => (Tr i : EReal)) (fun i => (Mr i : EReal)) (fun i => (Gr i : EReal)) b j
    = RST (fun i => (Xr i : EReal)) (fun i => (Tr i : EReal)) (fun i => (Mr i : EReal)) (fun i => (Gr i : EReal)) (fun i => (Yr i : EReal)) j := by
  obtain ⟨k, d, rfl⟩ : ∃ (k : Fin 8) (d : Fin 1024), j = ix2 k d := ⟨j 0, j 1, eq_ix2 j⟩
  unfold SB RST
  simp only [ix2_0, ix2_1, ← dx_fun, ← err_fun]
  obtain ⟨D, hD⟩ := dx_real Yr Xr Tr Mr Gr
  have blocks {α : Type} [AddCommMonoid α] (f : Fin 4096 → α) : ∑ b : Fin 4, ∑ p : Fin 1024, f ⟨1024 * b + p, row_lt b p⟩ = ∑ t, f t :=
    Fin.sum_mul_add_congr (S := 4) (n := 1024) (F := fun (b : Fin 4) (p : Fin 1024) => f ⟨1024 * (b : ℕ) + p, row_lt b p⟩)
      fun b p hl => congrArg f (Fin.ext (by show 1024 * (b : ℕ) + p = b * 1024 + p; ring))
  by_cases h0 : (k : ℕ) = 0
  · refine (Finset.sum_congr rfl fun b _ => if_pos h0).trans ?_
    rw [if_pos h0]
    generalize ERR (fun i => (Yr i : EReal)) (fun i => (Xr i : EReal)) (fun i => (Tr i : EReal)) (fun i => (Mr i : EReal)) (fun i => (Gr i : EReal)) = E
    exact blocks fun t => E (ix2 t d) * E (ix2 t d)
  rw [hD]
  by_cases h1 : (k : ℕ) = 1
  · simp only [if_neg h0, if_pos h1, rs_real, ← EReal.coe_mul, coe_sum]
    rw [← Finset.sum_mul, blocks fun t => D (ix2 t d) * (Yr (ix2 t d) * (Real.sqrt (ms Yr t))⁻¹), Finset.sum_mul]
    exact congrArg _ (Finset.sum_congr rfl fun _ _ => by ring)
  by_cases h2 : (k : ℕ) = 2
  · simp only [if_neg h0, if_neg h1, if_pos h2, rs_real, ← EReal.coe_mul, coe_sum]
    rw [← Finset.sum_mul, blocks fun t => D (ix2 t d) * (Yr (ix2 t d) * (Real.sqrt (ms Yr t))⁻¹), Finset.sum_mul]
    exact congrArg _ (Finset.sum_congr rfl fun _ _ => by ring)
  · simp only [h0, h1, h2, if_false, Finset.sum_const_zero]

end Cert.FfnFwd.Eq

end
-- ==== Proof.FwdClaim.lean ====
/-
  The MLP: the claim. On finite operands the kernel and the reference leave the same four arrays.
-/
module

public import proofs.«01_k».proof.Proof.FwdFinal
public import proofs.«01_k».proof.Proof.FwdEq
public import proofs.«01_k».proof.Proof.Gen.Pre_finite_fwd
public import proofs.«01_k».proof.Defs

@[expose] public section

set_option maxRecDepth 16384

noncomputable section

open Idealize.ShloMosaic Idealize.ShloMosaic.TcCoe Idealize.SL.Sem

namespace Cert.FfnFwd

open Cert.KernelFwdIdeal in
/-- Where the operands are finite, they are real numbers and the kernel's arrays are the reference's. -/
theorem arrays (m : (ℓ : Loc nD τ sig) → Buf (Elt Ideal) ℓ) (c : Dev nD)
    (hpre : Cert.Pre_KernelFwdIdeal_finite_fwd (hPre_finite_fwd := Cert.Pre_finite_fwd.Gen.facts) m) :
    dxV m c = Ref.RDX (xA m c) (tgA m c) (mdA m c) (gA m c) (yV m c) ∧
    dyV m c = Ref.RDY (mdA m c) (gA m c) (Ref.RDX (xA m c) (tgA m c) (mdA m c) (gA m c) (yV m c)) (yV m c) ∧
    (fun y => ∑ b : Fin 4, SB (yV m c) (xA m c) (tgA m c) (mdA m c) (gA m c) b y)
      = Ref.RST (xA m c) (tgA m c) (mdA m c) (gA m c) (yV m c) := by
  obtain ⟨h0, h1, h2, h3, h4, h5, h6⟩ := hpre c
  obtain ⟨Hr, e0⟩ := Reals.real_of_finite _ _ h0
  obtain ⟨Xr, e1⟩ := Reals.real_of_finite _ _ h1
  obtain ⟨Tr, e2⟩ := Reals.real_of_finite _ _ h2
  obtain ⟨WUr, e3⟩ := Reals.real_of_finite _ _ h3
  obtain ⟨WDr, e4⟩ := Reals.real_of_finite _ _ h4
  obtain ⟨Mr, e5⟩ := Reals.real_of_finite _ _ h5
  obtain ⟨Gr, e6⟩ := Reals.real_of_finite _ _ h6
  have hdx := Eq.dx_fun (yV m c) (xA m c) (tgA m c) (mdA m c) (gA m c)
  obtain ⟨Yr, hY⟩ := Eq.y_real Hr WUr WDr
  have hy : yV m c = fun i => (Yr i : EReal) := by
    refine Eq.trans ?_ hY
    unfold yV rV
    rw [show hA m c = _ from e0, show wuA m c = _ from e3, show wdA m c = _ from e4]
  refine ⟨hdx, ?_, ?_⟩
  · unfold dyV dxV
    rw [← hdx, hy, show xA m c = _ from e1, show tgA m c = _ from e2, show mdA m c = _ from e5, show gA m c = _ from e6]
    obtain ⟨Dr, hD⟩ := Eq.dx_real Yr Xr Tr Mr Gr
    rw [hD]
    exact Eq.dy_fun Yr Dr Mr Gr
  · rw [hy, show xA m c = _ from e1, show tgA m c = _ from e2, show mdA m c = _ from e5, show gA m c = _ from e6]
    exact funext fun j => Eq.st_fun Yr Xr Tr Mr Gr j

open Cert.KernelFwdIdeal in
/-- The rows of sums over the whole sequence. -/
def ST (m : (ℓ : Loc nD τ sig) → Buf (Elt Ideal) ℓ) (c : Dev nD) (y : S8x1024.Idx) : EReal :=
  ∑ b : Fin 4, SB (yV m c) (xA m c) (tgA m c) (mdA m c) (gA m c) b y

open Cert.ReferenceFwdIdeal in
theorem ref_r (h : FVec Ideal S4096x1024 .f32) (wu) : Read.val_main_v66 (F := Ideal) h wu = ACT h wu := by
  funext i
  rw [eq_ix2 i]
  exact Ref.act_eq h wu _ _

open Cert.ReferenceFwdIdeal in
theorem ref_dy (h x tg : FVec Ideal S4096x1024 .f32) (wu wd md g) :
    Read.val_main_v67 (F := Ideal) h x tg wu wd md g = Ref.RDY md g (Ref.RDX x tg md g (DOWN (ACT h wu) wd)) (DOWN (ACT h wu) wd) := by
  funext i
  rw [eq_ix2 i]
  exact Ref.dy_eq h x tg wu wd md g _ _

open Cert.ReferenceFwdIdeal in
theorem ref_dx (h x tg : FVec Ideal S4096x1024 .f32) (wu wd md g) :
    Read.val_main_v37 (F := Ideal) h x tg wu wd md g = Ref.RDX x tg md g (DOWN (ACT h wu) wd) := by
  funext i
  rw [eq_ix2 i]
  exact Ref.dx_eq h x tg wu wd md g _ _

open Cert.ReferenceFwdIdeal in
theorem ref_st (h x tg : FVec Ideal S4096x1024 .f32) (wu wd md g) :
    Read.val_main_v69 (F := Ideal) h x tg wu wd md g = Ref.RST x tg md g (DOWN (ACT h wu) wd) := by
  funext i
  rw [eq_ix2 i]
  exact Ref.st_eq h x tg wu wd md g _ _

theorem algebraic : Cert.algebraic_KernelFwdIdeal_ReferenceFwdIdeal_pre_finite_fwd (hKernelFwdIdeal := Cert.KernelFwdIdeal.Gen.facts)
    (hReferenceFwdIdeal := Cert.ReferenceFwdIdeal.Gen.facts) (hPre_finite_fwd := Cert.Pre_finite_fwd.Gen.facts) := by
  intro m g m' g' hpre hagree
  refine ⟨fun c => rV m c, fun c => dyV m c, fun c => dxV m c, fun c => ST m c, ?_, ?_⟩
  · refine (θ_run _ _ _).mono (fun r h c => ?_) (Cert.KernelFwdIdeal.Value.run_blocks m g)
    exact ⟨(h c).1.trans (final7 m c), (h c).2.1.trans (final8 m c), (h c).2.2.1.trans (final9 m c), (h c).2.2.2.1.trans (final10 m c), (h c).2.2.2.2⟩
  · refine (θ_run _ _ _).mono (fun r h c => ?_) (Cert.ReferenceFwdIdeal.Value.run m' g')
    obtain ⟨e0, e1, e2, e3, e4, e5, e6⟩ := hagree c
    obtain ⟨a0, a1, a2⟩ := arrays m c hpre
    refine ⟨(h c).1.trans ?_, (h c).2.1.trans ?_, (h c).2.2.1.trans ?_, (h c).2.2.2.1.trans ?_, (h c).2.2.2.2⟩
    · rw [Cert.ReferenceFwdIdeal.Read.val_main_v66_eq, e0, e3]
      exact ref_r _ _
    · rw [Cert.ReferenceFwdIdeal.Read.val_main_v67_eq, e0, e1, e2, e3, e4, e5, e6]
      exact (ref_dy _ _ _ _ _ _ _).trans a1.symm
    · rw [Cert.ReferenceFwdIdeal.Read.val_main_v37_eq, e0, e1, e2, e3, e4, e5, e6]
      exact (ref_dx _ _ _ _ _ _ _).trans a0.symm
    · rw [Cert.ReferenceFwdIdeal.Read.val_main_v69_eq, e0, e1, e2, e3, e4, e5, e6]
      exact (ref_st _ _ _ _ _ _ _).trans a2.symm

end Cert.FfnFwd

end
-- ==== Proof.InStored.lean ====
/-
  The gradient at the input projection: the values the kernel stores, at an index, over the extended reals.
-/
module

public import proofs.«01_k».proof.Proof.Gen.KernelInIdeal.Frame
public import proofs.«01_k».proof.Proof.Whole
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixIn

open Cert.KernelInIdeal Cert.KernelInIdeal.Gen

/-! ### The stored values at an index

The kernel takes the block's rows in two halves of 256, each with its own copy of the same formulas. -/

theorem pay4_apply (a0 w0 a1 w1 a2 w2) (j : S256x1024.Idx) : k0_pay4 (F := Ideal) a0 w0 a1 w1 a2 w2 j
    = (∑ k : Fin 768, a0 (ix2 (j 0) k) * w0 (ix3 0 (j 1) k)) + (∑ k : Fin 768, a1 (ix2 (j 0) k) * w1 (ix3 0 (j 1) k))
      + ∑ k : Fin 768, a2 (ix2 (j 0) k) * w2 (ix3 0 (j 1) k) := by
  idx_vars j
  pointwise [k0_pay4]

theorem pay16_apply (a0 w0 a1 w1 a2 w2) (j : S256x1024.Idx) : k0_pay16 (F := Ideal) a0 w0 a1 w1 a2 w2 j
    = (∑ k : Fin 768, a0 (ix2 (j 0) k) * w0 (ix3 0 (j 1) k)) + (∑ k : Fin 768, a1 (ix2 (j 0) k) * w1 (ix3 0 (j 1) k))
      + ∑ k : Fin 768, a2 (ix2 (j 0) k) * w2 (ix3 0 (j 1) k) := by
  idx_vars j
  pointwise [k0_pay16]

theorem pay5_apply (x) (j : S256x768.Idx) : k0_pay5 (F := Ideal) x j = x j := by
  idx_vars j
  pointwise [k0_pay5]

theorem pay6_apply (x) (j : S1024x768.Idx) : k0_pay6 (F := Ideal) x j = x (ix3 0 (j 0) (j 1)) := by
  idx_vars j
  pointwise [k0_pay6]

theorem pay17_apply (x) (j : S256x768.Idx) : k0_pay17 (F := Ideal) x j = x j := by
  idx_vars j
  pointwise [k0_pay17]

theorem pay7_apply (s a w) (j : S256x1024.Idx) : k0_pay7 (F := Ideal) s a w j
    = s j + ∑ k : Fin 768, a (ix2 (j 0) k) * w (ix2 (j 1) k) := by
  idx_vars j
  pointwise [k0_pay7]

theorem pay18_apply (s a w) (j : S256x1024.Idx) : k0_pay18 (F := Ideal) s a w j
    = s j + ∑ k : Fin 768, a (ix2 (j 0) k) * w (ix3 0 (j 1) k) := by
  idx_vars j
  pointwise [k0_pay18]

theorem pay2_apply (j) : k0_pay2 (F := Ideal) j = 0 := by pointwise [k0_pay2]

theorem pay3_apply (x) (j : S1x1024.Idx) : k0_pay3 (F := Ideal) x j = 1 + x j := by
  idx_vars j
  pointwise [k0_pay3]

theorem pay14_apply (g sc) (j : S256x1024.Idx) : k0_pay14 (F := Ideal) g sc j = sc (ix2 0 (j 1)) * g (ix2 0 (j 1)) := by
  idx_vars j
  pointwise [k0_pay14]

theorem pay8_apply (x) (j : S256x1.Idx) : k0_pay8 (F := Ideal) x j
    = Ideal.rsqrt (Ideal.div (∑ k : Fin 1024, x (ix2 (j 0) k) * x (ix2 (j 0) k)) (Ideal.ofBits .f32 0x44800000#32) + Ideal.ofBits .f32 0x358637BD#32) := by
  idx_vars j
  pointwise [k0_pay8]

theorem pay9_apply (x) (j : S256x1024.Idx) : k0_pay9 (F := Ideal) x j
    = x j * k0_pay8 (F := Ideal) x (ix2 (j 0) 0) := by
  idx_vars j
  pointwise [k0_pay9]

theorem pay10_apply (s a w st) (j : S1x1024.Idx) : k0_pay10 (F := Ideal) s a w st j
    = st j + ∑ p : Fin 256, k0_pay7 (F := Ideal) s a w (ix2 p (j 1)) := by
  idx_vars j
  unfold k0_pay10
  generalize k0_pay7 (F := Ideal) s a w = dh
  pointwise []

theorem pay11_apply (s a w x) (j : S1x1024.Idx) : k0_pay11 (F := Ideal) s a w x j
    = ∑ p : Fin 256, k0_pay7 (F := Ideal) s a w (ix2 p (j 1)) * k0_pay9 (F := Ideal) x (ix2 p (j 1)) := by
  idx_vars j
  unfold k0_pay11
  generalize k0_pay7 (F := Ideal) s a w = dh
  generalize k0_pay9 (F := Ideal) x = xn
  pointwise []

theorem pay12_apply (g s a w x st) (j : S1x1024.Idx) : k0_pay12 (F := Ideal) g s a w x st j
    = st j + k0_pay11 (F := Ideal) s a w x j * g j := by
  idx_vars j
  unfold k0_pay12
  generalize k0_pay11 (F := Ideal) s a w x = q
  pointwise []

theorem pay13_apply (sc s a w x st) (j : S1x1024.Idx) : k0_pay13 (F := Ideal) sc s a w x st j
    = st j + k0_pay11 (F := Ideal) s a w x j * sc j := by
  idx_vars j
  unfold k0_pay13
  generalize k0_pay11 (F := Ideal) s a w x = q
  pointwise []

theorem pay19_apply (x) (j : S256x1.Idx) : k0_pay19 (F := Ideal) x j
    = Ideal.rsqrt (Ideal.div (∑ k : Fin 1024, x (ix2 (j 0) k) * x (ix2 (j 0) k)) (Ideal.ofBits .f32 0x44800000#32) + Ideal.ofBits .f32 0x358637BD#32) := by
  idx_vars j
  pointwise [k0_pay19]

theorem pay20_apply (x) (j : S256x1024.Idx) : k0_pay20 (F := Ideal) x j
    = x j * k0_pay19 (F := Ideal) x (ix2 (j 0) 0) := by
  idx_vars j
  pointwise [k0_pay20]

theorem pay21_apply (s a w st) (j : S1x1024.Idx) : k0_pay21 (F := Ideal) s a w st j
    = st j + ∑ p : Fin 256, k0_pay18 (F := Ideal) s a w (ix2 p (j 1)) := by
  idx_vars j
  unfold k0_pay21
  generalize k0_pay18 (F := Ideal) s a w = dh
  pointwise []

theorem pay22_apply (s a w x) (j : S1x1024.Idx) : k0_pay22 (F := Ideal) s a w x j
    = ∑ p : Fin 256, k0_pay18 (F := Ideal) s a w (ix2 p (j 1)) * k0_pay20 (F := Ideal) x (ix2 p (j 1)) := by
  idx_vars j
  unfold k0_pay22
  generalize k0_pay18 (F := Ideal) s a w = dh
  generalize k0_pay20 (F := Ideal) x = xn
  pointwise []

theorem pay23_apply (g s a w x st) (j : S1x1024.Idx) : k0_pay23 (F := Ideal) g s a w x st j
    = st j + k0_pay22 (F := Ideal) s a w x j * g j := by
  idx_vars j
  unfold k0_pay23
  generalize k0_pay22 (F := Ideal) s a w x = q
  pointwise []

theorem pay24_apply (sc s a w x st) (j : S1x1024.Idx) : k0_pay24 (F := Ideal) sc s a w x st j
    = st j + k0_pay22 (F := Ideal) s a w x j * sc j := by
  idx_vars j
  unfold k0_pay24
  generalize k0_pay22 (F := Ideal) s a w x = q
  pointwise []

theorem pay15_apply (dh rs xn dx v) (j : S256x1024.Idx) : k0_pay15 (F := Ideal) dh rs xn dx v j
    = dx j + rs (ix2 (j 0) 0) * (dh j * v j - xn j * Ideal.div
        (∑ e : Fin 1024, dh (ix2 (j 0) e) * v (ix2 (j 0) e) * xn (ix2 (j 0) e)) (Ideal.ofBits .f32 0x44800000#32)) := by
  idx_vars j
  pointwise [k0_pay15]

theorem pay1_apply (g sc dh rs xn dx) (j : S256x1024.Idx) : k0_pay1 (F := Ideal) g sc dh rs xn dx j
    = dx j + rs (ix2 (j 0) 0) * (dh j * (sc (ix2 0 (j 1)) * g (ix2 0 (j 1))) - xn j * Ideal.div
        (∑ e : Fin 1024, dh (ix2 (j 0) e) * (sc (ix2 0 e) * g (ix2 0 e)) * xn (ix2 (j 0) e)) (Ideal.ofBits .f32 0x44800000#32)) := by
  idx_vars j
  pointwise [k0_pay1]

end Cert.MixIn

end
-- ==== Proof.InBlocks.lean ====
/-
  The gradient at the input projection: what the kernel leaves in its blocks at one grid point.  Point `t` handles the
  rows `512 t …`, in two halves of 256.
-/
module

public import proofs.«01_k».proof.Proof.InStored
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.MixIn

open Cert.KernelInIdeal Cert.KernelInIdeal.Gen

variable (m : (ℓ : Loc nD τ sig) → Buf (Elt Ideal) ℓ)

theorem col_lt (j : Fin 4) (k : Fin 768) : 768 * (j : ℕ) + k < 3072 := by omega

/-- A block of the projected gradient: the sum over the four column groups. -/
def dh (dp : Vec Ideal S512x3072 .bf16) (w : Vec Ideal S4x1024x768 .bf16) (y : S512x1024.Idx) : EReal :=
  ∑ j : Fin 4, ∑ k : Fin 768, dp (ix2 (y 0) ⟨768 * j + k, col_lt j k⟩) * w (ix3 j (y 1) k)

/-- One over the root mean square of a row of the block. -/
def rs (x : Vec Ideal S512x1024 .f32) (p : Fin 512) : EReal :=
  Ideal.rsqrt (Ideal.div (∑ k : Fin 1024, x (ix2 p k) * x (ix2 p k)) (Ideal.ofBits .f32 0x44800000#32) + Ideal.ofBits .f32 0x358637BD#32)

/-- A block of the gradient at the input. -/
def gx (dh x dx : S512x1024.Idx → EReal) (g : S1x1024.Idx → EReal) (sc : Fin 1024 → EReal) (y : S512x1024.Idx) : EReal :=
  dx y + rs x (y 0) * (dh y * ((1 + sc (y 1)) * g (ix2 0 (y 1))) - x y * rs x (y 0) * Ideal.div
    (∑ e : Fin 1024, dh (ix2 (y 0) e) * ((1 + sc e) * g (ix2 0 e)) * (x (ix2 (y 0) e) * rs x (y 0))) (Ideal.ofBits .f32 0x44800000#32))

section Halves

variable (dp : Vec Ideal S512x3072 .bf16) (w : Vec Ideal S4x1024x768 .bf16) (x dx : Vec Ideal S512x1024 .f32)
  (g : Vec Ideal S1x1024 .f32) (md : Vec Ideal S6x1024 .f32)

/-- The projected gradient of the first half of the rows, as the kernel writes it. -/
def dhTop : FVec Ideal S256x1024 .f32 :=
  k0_pay7 (k0_pay4 (View.ld dp (Rect.unit ![0, 0] ![256, 768] inb_S512x3072_S256x768_0_0)) (View.ld w (Rect.unit ![0, 0, 0] ![1, 1024, 768] inb_S4x1024x768_S1x1024x768_0_0_0)) (View.ld dp (Rect.unit ![0, 768] ![256, 768] inb_S512x3072_S256x768_0_768)) (View.ld w (Rect.unit ![1, 0, 0] ![1, 1024, 768] inb_S4x1024x768_S1x1024x768_1_0_0)) (View.ld dp (Rect.unit ![0, 1536] ![256, 768] inb_S512x3072_S256x768_0_1536)) (View.ld w (Rect.unit ![2, 0, 0] ![1, 1024, 768] inb_S4x1024x768_S1x1024x768_2_0_0))) (k0_pay5 (View.ld dp (Rect.unit ![0, 2304] ![256, 768] inb_S512x3072_S256x768_0_2304))) (k0_pay6 (View.ld w (Rect.unit ![3, 0, 0] ![1, 1024, 768] inb_S4x1024x768_S1x1024x768_3_0_0)))

/-- The same of the second half. -/
def dhBot : FVec Ideal S256x1024 .f32 :=
  k0_pay18 (k0_pay16 (View.ld dp (Rect.unit ![256, 0] ![256, 768] inb_S512x3072_S256x768_256_0)) (View.ld w (Rect.unit ![0, 0, 0] ![1, 1024, 768] inb_S4x1024x768_S1x1024x768_0_0_0)) (View.ld dp (Rect.unit ![256, 768] ![256, 768] inb_S512x3072_S256x768_256_768)) (View.ld w (Rect.unit ![1, 0, 0] ![1, 1024, 768] inb_S4x1024x768_S1x1024x768_1_0_0)) (View.ld dp (Rect.unit ![256, 1536] ![256, 768] inb_S512x3072_S256x768_256_1536)) (View.ld w (Rect.unit ![2, 0, 0] ![1, 1024, 768] inb_S4x1024x768_S1x1024x768_2_0_0))) (k0_pay17 (View.ld dp (Rect.unit ![256, 2304] ![256, 768] inb_S512x3072_S256x768_256_2304))) (View.ld w (Rect.unit ![3, 0, 0] ![1, 1024, 768] inb_S4x1024x768_S1x1024x768_3_0_0))

theorem lo_lt (p : Fin 256) : (p : ℕ) < 512 := by omega
theorem hi_lt (p : Fin 256) : 256 + (p : ℕ) < 512 := by omega

theorem ld_dp (o c : ℕ) (inb) (p : Fin 256) (k : Fin 768) (P : Fin 512) (K : Fin 3072) (hP : o + 1 * (p : ℕ) = P) (hK : c + 1 * (k : ℕ) = K) :
    View.ld (S := S512x3072) dp (Rect.unit ![o, c] ![256, 768] inb) (ix2 p k) = dp (ix2 P K) := by
  refine congrArg dp (funext fun a => Fin.ext ?_)
  match a with
  | ⟨0, _⟩ => exact hP
  | ⟨1, _⟩ => exact hK

theorem ld_w (j : ℕ) (inb) (d : Fin 1024) (k : Fin 768) (J : Fin 4) (hJ : j = J) :
    View.ld (S := S4x1024x768) w (Rect.unit ![j, 0, 0] ![1, 1024, 768] inb) (ix3 0 d k) = w (ix3 J d k) := by
  refine congrArg w (funext fun a => Fin.ext ?_)
  match a with
  | ⟨0, _⟩ => exact (show j + 1 * 0 = J by omega)
  | ⟨1, _⟩ => exact (show 0 + 1 * (d : ℕ) = d by omega)
  | ⟨2, _⟩ => exact (show 0 + 1 * (k : ℕ) = k by omega)

theorem dhTop_apply (p : Fin 256) (d : Fin 1024) : dhTop dp w (ix2 p d) = dh dp w (ix2 ⟨p, lo_lt p⟩ d) := by
  unfold dhTop dh
  rw [pay7_apply, pay4_apply, Fin.sum_univ_four]
  simp only [pay5_apply, pay6_apply, ix2_0, ix2_1]
  refine congrArg₂ (· + ·) (congrArg₂ (· + ·) (congrArg₂ (· + ·) ?_ ?_) ?_) ?_
  · exact Finset.sum_congr rfl fun k _ => congrArg₂ (· * ·) (ld_dp dp _ _ _ p k _ _ (by show 0 + 1 * (p : ℕ) = p; omega) (by show 0 + 1 * (k : ℕ) = 0 + k; omega)) (ld_w w _ _ d k _ rfl)
  · exact Finset.sum_congr rfl fun k _ => congrArg₂ (· * ·) (ld_dp dp _ _ _ p k _ _ (by show 0 + 1 * (p : ℕ) = p; omega) (by show 768 + 1 * (k : ℕ) = 768 + k; omega)) (ld_w w _ _ d k _ rfl)
  · exact Finset.sum_congr rfl fun k _ => congrArg₂ (· * ·) (ld_dp dp _ _ _ p k _ _ (by show 0 + 1 * (p : ℕ) = p; omega) (by show 1536 + 1 * (k : ℕ) = 1536 + k; omega)) (ld_w w _ _ d k _ rfl)
  · exact Finset.sum_congr rfl fun k _ => congrArg₂ (· * ·) (ld_dp dp _ _ _ p k _ _ (by show 0 + 1 * (p : ℕ) = p; omega) (by show 2304 + 1 * (k : ℕ) = 2304 + k; omega)) (ld_w w _ _ d k _ rfl)

theorem dhBot_apply (p : Fin 256) (d : Fin 1024) : dhBot dp w (ix2 p d) = dh dp w (ix2 ⟨256 + p, hi_lt p⟩ d) := by
  unfold dhBot dh
  rw [pay18_apply, pay16_apply, Fin.sum_univ_four]
  simp only [pay17_apply, ix2_0, ix2_1]
  refine congrArg₂ (· + ·) (congrArg₂ (· + ·) (congrArg₂ (· + ·) ?_ ?_) ?_) ?_
  · exact Finset.sum_congr rfl fun k _ => congrArg₂ (· * ·) (ld_dp dp _ _ _ p k _ _ (by show 256 + 1 * (p : ℕ) = 256 + p; omega) (by show 0 + 1 * (k : ℕ) = 0 + k; omega)) (ld_w w _ _ d k _ rfl)
  · exact Finset.sum_congr rfl fun k _ => congrArg₂ (· * ·) (ld_dp dp _ _ _ p k _ _ (by show 256 + 1 * (p : ℕ) = 256 + p; omega) (by show 768 + 1 * (k : ℕ) = 768 + k; omega)) (ld_w w _ _ d k _ rfl)
  · exact Finset.sum_congr rfl fun k _ => congrArg₂ (· * ·) (ld_dp dp _ _ _ p k _ _ (by show 256 + 1 * (p : ℕ) = 256 + p; omega) (by show 1536 + 1 * (k : ℕ) = 1536 + k; omega)) (ld_w w _ _ d k _ rfl)
  · exact Finset.sum_congr rfl fun k _ => congrArg₂ (· * ·) (ld_dp dp _ _ _ p k _ _ (by show 256 + 1 * (p : ℕ) = 256 + p; omega) (by show 2304 + 1 * (k : ℕ) = 2304 + k; omega)) (ld_w w _ _ d k _ rfl)

def lo (x : Vec Ideal S512x1024 .f32) : Vec Ideal S256x1024 .f32 := View.ld x (Rect.unit ![0, 0] ![256, 1024] inb_S512x1024_S256x1024_0_0)
def hi (x : Vec Ideal S512x1024 .f32) : Vec Ideal S256x1024 .f32 := View.ld x (Rect.unit ![256, 0] ![256, 1024] inb_S512x1024_S256x1024_256_0)

theorem lo_apply (p : Fin 256) (d : Fin 1024) : lo x (ix2 p d) = x (ix2 ⟨p, lo_lt p⟩ d) := by
  refine congrArg x (funext fun a => Fin.ext ?_)
  match a with
  | ⟨0, _⟩ => exact (show 0 + 1 * (p : ℕ) = p by omega)
  | ⟨1, _⟩ => exact (show 0 + 1 * (d : ℕ) = d by omega)

theorem hi_apply (p : Fin 256) (d : Fin 1024) : hi x (ix2 p d) = x (ix2 ⟨256 + p, hi_lt p⟩ d) := by
  refine congrArg x (funext fun a => Fin.ext ?_)
  match a with
  | ⟨0, _⟩ => exact (show 256 + 1 * (p : ℕ) = 256 + p by omega)
  | ⟨1, _⟩ => exact (show 0 + 1 * (d : ℕ) = d by omega)

theorem rs_lo (p : Fin 256) : k0_pay8 (F := Ideal) (lo x) (ix2 p 0) = rs x ⟨p, lo_lt p⟩ := by
  rw [pay8_apply]
  simp only [ix2_0, lo_apply]
  rfl

theorem rs_hi (p : Fin 256) : k0_pay19 (F := Ideal) (hi x) (ix2 p 0) = rs x ⟨256 + p, hi_lt p⟩ := by
  rw [pay19_apply]
  simp only [ix2_0, hi_apply]
  rfl

theorem xn_lo (p : Fin 256) (d : Fin 1024) : k0_pay9 (F := Ideal) (lo x) (ix2 p d) = x (ix2 ⟨p, lo_lt p⟩ d) * rs x ⟨p, lo_lt p⟩ := by
  rw [pay9_apply, ix2_0, rs_lo, lo_apply]

theorem xn_hi (p : Fin 256) (d : Fin 1024) : k0_pay20 (F := Ideal) (hi x) (ix2 p d) = x (ix2 ⟨256 + p, hi_lt p⟩ d) * rs x ⟨256 + p, hi_lt p⟩ := by
  rw [pay20_apply, ix2_0, rs_hi, hi_apply]

/-- Row one of the modulation block. -/
theorem ld_scale (inb) (d : Fin 1024) :
    View.ld (S := S6x1024) md (Rect.unit ![1, 0] ![1, 1024] inb) (ix2 0 d) = md (ix2 1 d) := by
  refine congrArg md (funext fun a => Fin.ext ?_)
  match a with
  | ⟨0, _⟩ => rfl
  | ⟨1, _⟩ => show 0 + 1 * (d : ℕ) = d; omega

def scale : FVec Ideal S1x1024 .f32 := k0_pay3 (View.ld md (Rect.unit ![1, 0] ![1, 1024] inb_S6x1024_S1x1024_1_0))

theorem scale_apply (d : Fin 1024) : scale md (ix2 0 d) = 1 + md (ix2 1 d) := by
  unfold scale
  rw [pay3_apply, ld_scale]

theorem gx_lo (p : Fin 256) (d : Fin 1024) :
    k0_pay15 (F := Ideal) (dhTop dp w) (k0_pay8 (lo x)) (k0_pay9 (lo x)) (lo dx) (k0_pay14 g (scale md)) (ix2 p d)
      = gx (dh dp w) x dx g (fun e => md (ix2 1 e)) (ix2 ⟨p, lo_lt p⟩ d) := by
  rw [pay15_apply]
  simp only [ix2_0, ix2_1, pay14_apply, scale_apply, dhTop_apply, lo_apply, rs_lo, xn_lo]
  rfl

theorem gx_hi (p : Fin 256) (d : Fin 1024) :
    k0_pay1 (F := Ideal) g (scale md) (dhBot dp w) (k0_pay19 (hi x)) (k0_pay20 (hi x)) (hi dx) (ix2 p d)
      = gx (dh dp w) x dx g (fun e => md (ix2 1 e)) (ix2 ⟨256 + p, hi_lt p⟩ d) := by
  rw [pay1_apply]
  simp only [ix2_0, ix2_1, scale_apply, dhBot_apply, hi_apply, rs_hi, xn_hi]
  rfl

end Halves

theorem lo_emb (inb) (p : Fin 256) (d : Fin 1024) :
    (Rect.unit (s := S512x1024) ![0, 0] ![256, 1024] inb).emb (ix2 p d) = ix2 ⟨p, lo_lt p⟩ d := by
  funext a
  apply Fin.ext
  match a with
  | ⟨0, _⟩ => show 0 + 1 * (p : ℕ) = p; omega
  | ⟨1, _⟩ => show 0 + 1 * (d : ℕ) = d; omega

theorem hi_emb (inb) (p : Fin 256) (d : Fin 1024) :
    (Rect.unit (s := S512x1024) ![256, 0] ![256, 1024] inb).emb (ix2 p d) = ix2 ⟨256 + p, hi_lt p⟩ d := by
  funext a
  apply Fin.ext
  match a with
  | ⟨0, _⟩ => show 256 + 1 * (p : ℕ) = 256 + p; omega
  | ⟨1, _⟩ => show 0 + 1 * (d : ℕ) = d; omega

theorem gx_point (c : Dev nD) (t : Fin cfg0.N) (y) : (outsAt0 m c t.val t.isLt).1 y
    = gx (dh (iblk m c 0 t) (iblk m c 1 t)) (iblk m c 2 t) (iblk m c 3 t) (iblk m c 5 t) (fun e => iblk m c 4 t (ix2 1 e)) y := by
  by_cases h : t.val % 8 = 0
  · rw [outsAt0_A m c t h]; frame_out
    refine View.canon_append_of_piecesOf (Val := Elt Ideal) (s := S512x1024) (e := .f32) (gx (dh (iblk m c 0 t) (iblk m c 1 t)) (iblk m c 2 t) (iblk m c 3 t) (iblk m c 5 t) (fun e => iblk m c 4 t (ix2 1 e))) [] [_, _] ⟨fun x => ?_, fun x => ?_, trivial⟩ y ?_
    · simp only []
      obtain ⟨p, d, rfl⟩ : ∃ (p : Fin 256) (d : Fin 1024), x = ix2 p d := ⟨x 0, x 1, eq_ix2 x⟩
      rw [hi_emb]
      exact gx_hi _ _ _ _ _ _ p d
    · simp only []
      obtain ⟨p, d, rfl⟩ : ∃ (p : Fin 256) (d : Fin 1024), x = ix2 p d := ⟨x 0, x 1, eq_ix2 x⟩
      rw [lo_emb]
      exact gx_lo _ _ _ _ _ _ p d
    · exact View.cover_of_tiledL _ ![256, 1024] rfl y
  · rw [outsAt0_B m c t h]; frame_out
    refine View.canon_append_of_piecesOf (Val := Elt Ideal) (s := S512x1024) (e := .f32) (gx (dh (iblk m c 0 t) (iblk m c 1 t)) (iblk m c 2 t) (iblk m c 3 t) (iblk m c 5 t) (fun e => iblk m c 4 t (ix2 1 e))) [] [_, _] ⟨fun x => ?_, fun x => ?_, trivial⟩ y ?_
    · simp only []
      obtain ⟨p, d, rfl⟩ : ∃ (p : Fin 256) (d : Fin 1024), x = ix2 p d := ⟨x 0, x 1, eq_ix2 x⟩
      rw [hi_emb]
      exact gx_hi _ _ _ _ _ _ p d
    · simp only []
      obtain ⟨p, d, rfl⟩ : ∃ (p : Fin 256) (d : Fin 1024), x = ix2 p d := ⟨x 0, x 1, eq_ix2 x⟩
      rw [lo_emb]
      exact gx_lo _ _ _ _ _ _ p d
    · exact View.cover_of_tiledL _ ![256, 1024] rfl y

end Cert.MixIn

end
-- ==== Proof.InRows.lean ====
/-
  The gradient at the input projection: the three rows of sums a grid point adds.
-/
module

public import proofs.«01_k».proof.Proof.InBlocks

@[expose] public section

set_option maxRecDepth 16384

noncomputable section

open Idealize.ShloMosaic Idealize.ShloMosaic.TcCoe Idealize.SL.Sem
open Idealize.ShloMosaic.Pipeline (Dat)

namespace Cert.MixIn

open Cert.KernelInIdeal Cert.KernelInIdeal.Gen

variable (m : (ℓ : Loc nD τ sig) → Buf (Elt Ideal) ℓ)

/-- The three rows of sums over half a block: of `dh`, of `dh * xn` times the gain, of `dh * xn` times `1 + scale`. -/
def half (dh xn : S256x1024.Idx → EReal) (g sc : S1x1024.Idx → EReal) (y : S8x1024.Idx) : EReal :=
  if (y 0 : ℕ) = 0 then ∑ p : Fin 256, dh (ix2 p (y 1))
  else if (y 0 : ℕ) = 1 then (∑ p : Fin 256, dh (ix2 p (y 1)) * xn (ix2 p (y 1))) * g (ix2 0 (y 1))
  else if (y 0 : ℕ) = 2 then (∑ p : Fin 256, dh (ix2 p (y 1)) * xn (ix2 p (y 1))) * sc (ix2 0 (y 1))
  else 0

theorem half_zero (dh xn g sc) (d : Fin 1024) : half dh xn g sc (ix2 0 d) = ∑ p : Fin 256, dh (ix2 p d) := if_pos rfl

theorem half_one (dh xn g sc) (d : Fin 1024) : half dh xn g sc (ix2 1 d)
    = (∑ p : Fin 256, dh (ix2 p d) * xn (ix2 p d)) * g (ix2 0 d) :=
  (if_neg Nat.one_ne_zero).trans (if_pos rfl)

theorem half_two (dh xn g sc) (d : Fin 1024) : half dh xn g sc (ix2 2 d)
    = (∑ p : Fin 256, dh (ix2 p d) * xn (ix2 p d)) * sc (ix2 0 d) :=
  (if_neg (Nat.succ_ne_zero 1)).trans ((if_neg (by decide : ¬ (2 : ℕ) = 1)).trans (if_pos rfl))

theorem half_rest (dh xn g sc) (y : S8x1024.Idx) (h : 3 ≤ (y 0 : ℕ)) : half dh xn g sc y = 0 := by
  unfold half
  rw [if_neg (by omega), if_neg (by omega), if_neg (by omega)]

/-- Column `d` of row `k`, as the row's rectangle places it. -/
theorem row_emb (k : ℕ) (hk : k < 8) (inb) (d : Fin 1024) :
    (Rect.unit (s := S8x1024) ![k, 0] ![1, 1024] inb).emb (ix2 0 d) = ix2 ⟨k, hk⟩ d := by
  funext a
  apply Fin.ext
  match a with
  | ⟨0, _⟩ => show k + 1 * 0 = k; omega
  | ⟨1, _⟩ => show 0 + 1 * (d : ℕ) = d; omega

theorem row_mem (k : ℕ) (inb) (y : S8x1024.Idx) (h : (y 0 : ℕ) = k) :
    y ∈ (Rect.unit (s := S8x1024) ![k, 0] ![1, 1024] inb).set := by
  refine Rect.mem_set_unit.mpr fun a => ?_
  match a with
  | ⟨0, _⟩ => exact ⟨h.ge, by show (y 0 : ℕ) < k + 1; omega⟩
  | ⟨1, _⟩ => exact ⟨Nat.zero_le _, by show (y 1 : ℕ) < 0 + 1024; have := (y 1).isLt; simpa using this⟩

theorem row_not_mem (k : ℕ) (inb) (y : S8x1024.Idx) (h : (y 0 : ℕ) ≠ k) :
    y ∉ (Rect.unit (s := S8x1024) ![k, 0] ![1, 1024] inb).set := by
  intro hm
  have := Rect.mem_set_unit.mp hm ⟨0, by decide⟩
  have h1 : k ≤ (y 0 : ℕ) := this.1
  have h2 : (y 0 : ℕ) < k + 1 := this.2
  omega

section Stores

variable (s0 s1 : FVec Ideal S256x1024 .f32) (a0 a1 : FVec Ideal S256x768 .bf16) (w0 : FVec Ideal S1024x768 .bf16) (w1 : FVec Ideal S1x1024x768 .bf16)
  (x0 x1 : FVec Ideal S256x1024 .f32) (g sc : FVec Ideal S1x1024 .f32) (prev : Vec Ideal S8x1024 .f32)

/-- The contents before, with both halves' sums. -/
abbrev after (y : S8x1024.Idx) : EReal :=
  prev y + half (k0_pay7 (F := Ideal) s0 a0 w0) (k0_pay9 (F := Ideal) x0) g sc y + half (k0_pay18 (F := Ideal) s1 a1 w1) (k0_pay20 (F := Ideal) x1) g sc y

/-- The second half's three stores. -/
abbrev late : List (View.Piece (Elt Ideal) S8x1024 .f32) :=
  [⟨Rect.unit ![2, 0] ![1, 1024] inb_S8x1024_S1x1024_2_0,
          k0_pay24 sc s1 a1 w1 x1 (k0_pay13 sc s0 a0 w0 x0 (View.ld prev (Rect.unit ![2, 0] ![1, 1024] inb_S8x1024_S1x1024_2_0)))⟩,
    ⟨Rect.unit ![1, 0] ![1, 1024] inb_S8x1024_S1x1024_1_0,
          k0_pay23 g s1 a1 w1 x1 (k0_pay12 g s0 a0 w0 x0 (View.ld prev (Rect.unit ![1, 0] ![1, 1024] inb_S8x1024_S1x1024_1_0)))⟩,
    ⟨Rect.unit ![0, 0] ![1, 1024] inb_S8x1024_S1x1024_0_0,
          k0_pay21 s1 a1 w1 (k0_pay10 s0 a0 w0 (View.ld prev (Rect.unit ![0, 0] ![1, 1024] inb_S8x1024_S1x1024_0_0)))⟩]

/-- The first half's. -/
abbrev early : List (View.Piece (Elt Ideal) S8x1024 .f32) :=
  [⟨Rect.unit ![2, 0] ![1, 1024] inb_S8x1024_S1x1024_2_0, k0_pay13 sc s0 a0 w0 x0 (View.ld prev (Rect.unit ![2, 0] ![1, 1024] inb_S8x1024_S1x1024_2_0))⟩,
    ⟨Rect.unit ![1, 0] ![1, 1024] inb_S8x1024_S1x1024_1_0, k0_pay12 g s0 a0 w0 x0 (View.ld prev (Rect.unit ![1, 0] ![1, 1024] inb_S8x1024_S1x1024_1_0))⟩,
    ⟨Rect.unit ![0, 0] ![1, 1024] inb_S8x1024_S1x1024_0_0, k0_pay10 s0 a0 w0 (View.ld prev (Rect.unit ![0, 0] ![1, 1024] inb_S8x1024_S1x1024_0_0))⟩]

theorem late_pieces : View.PiecesOf (after s0 s1 a0 a1 w0 w1 x0 x1 g sc prev) (late s0 s1 a0 a1 w0 w1 x0 x1 g sc prev) := by
  refine ⟨fun x => ?_, fun x => ?_, fun x => ?_, trivial⟩
  · simp only []
    rw [pay24_apply, pay22_apply, pay13_apply, pay11_apply, View.ld_apply]
    obtain ⟨b, e, rfl⟩ : ∃ (b : Fin 1) (e : Fin 1024), x = ix2 b e := ⟨x 0, x 1, eq_ix2 x⟩
    obtain rfl : b = 0 := Subsingleton.elim _ _
    refine congrArg₂ (· + ·) (congrArg₂ (· + ·) rfl ?_) ?_
    · rw [row_emb 2 (by decide)]; exact (half_two _ _ g sc e).symm
    · rw [row_emb 2 (by decide)]; exact (half_two _ _ g sc e).symm
  · simp only []
    rw [pay23_apply, pay22_apply, pay12_apply, pay11_apply, View.ld_apply]
    obtain ⟨b, e, rfl⟩ : ∃ (b : Fin 1) (e : Fin 1024), x = ix2 b e := ⟨x 0, x 1, eq_ix2 x⟩
    obtain rfl : b = 0 := Subsingleton.elim _ _
    refine congrArg₂ (· + ·) (congrArg₂ (· + ·) rfl ?_) ?_
    · rw [row_emb 1 (by decide)]; exact (half_one _ _ g sc e).symm
    · rw [row_emb 1 (by decide)]; exact (half_one _ _ g sc e).symm
  · simp only []
    rw [pay21_apply, pay10_apply, View.ld_apply]
    obtain ⟨b, e, rfl⟩ : ∃ (b : Fin 1) (e : Fin 1024), x = ix2 b e := ⟨x 0, x 1, eq_ix2 x⟩
    obtain rfl : b = 0 := Subsingleton.elim _ _
    refine congrArg₂ (· + ·) (congrArg₂ (· + ·) rfl ?_) ?_
    · rw [row_emb 0 (by decide)]; exact (half_zero _ (k0_pay9 (F := Ideal) x0) g sc e).symm
    · rw [row_emb 0 (by decide)]; exact (half_zero _ (k0_pay20 (F := Ideal) x1) g sc e).symm

theorem late_rest (y) (hy : ∀ p ∈ late s0 s1 a0 a1 w0 w1 x0 x1 g sc prev, y ∉ p.1.set) : 3 ≤ (y 0 : ℕ) := by
  by_contra hlt
  rcases (by omega : (y 0 : ℕ) = 0 ∨ (y 0 : ℕ) = 1 ∨ (y 0 : ℕ) = 2) with h | h | h
  · exact hy _ (List.mem_cons_of_mem _ (List.mem_cons_of_mem _ List.mem_cons_self)) (row_mem 0 inb_S8x1024_S1x1024_0_0 y h)
  · exact hy _ (List.mem_cons_of_mem _ List.mem_cons_self) (row_mem 1 inb_S8x1024_S1x1024_1_0 y h)
  · exact hy _ List.mem_cons_self (row_mem 2 inb_S8x1024_S1x1024_2_0 y h)

theorem early_rest (y : S8x1024.Idx) (h : 3 ≤ (y 0 : ℕ)) : ∀ p ∈ early s0 a0 w0 x0 g sc prev, y ∉ p.1.set := by
  intro p hp
  simp only [early, List.mem_cons, List.not_mem_nil, or_false] at hp
  rcases hp with rfl | rfl | rfl
  · exact row_not_mem 2 inb_S8x1024_S1x1024_2_0 y (by omega)
  · exact row_not_mem 1 inb_S8x1024_S1x1024_1_0 y (by omega)
  · exact row_not_mem 0 inb_S8x1024_S1x1024_0_0 y (by omega)

theorem after_rest (y : S8x1024.Idx) (h : 3 ≤ (y 0 : ℕ)) : after s0 s1 a0 a1 w0 w1 x0 x1 g sc prev y = prev y := by
  unfold after
  rw [half_rest _ _ _ _ y h, half_rest _ _ _ _ y h, add_zero, add_zero]

/-- Both halves' stores over what the point before left. -/
theorem rows_read {κ : Kind} {sp : Space} (v : View sig κ sp S8x1024 .f32) (f : v.ty.Contents (Elt Ideal)) (hf : v.read (Elt Ideal) f = prev) (y) :
    v.read (Elt Ideal) (v.writes (Elt Ideal) f (late s0 s1 a0 a1 w0 w1 x0 x1 g sc prev ++ early s0 a0 w0 x0 g sc prev)) y
      = after s0 s1 a0 a1 w0 w1 x0 x1 g sc prev y := by
  rw [View.writes_append]
  refine Whole.read_writes_of_piecesOf v _ _ _ (late_pieces s0 s1 a0 a1 w0 w1 x0 x1 g sc prev) (fun y hy => ?_) y
  have h := late_rest s0 s1 a0 a1 w0 w1 x0 x1 g sc prev y hy
  rw [after_rest _ _ _ _ _ _ _ _ _ _ _ y h, View.read_writes_apply_of_forall_not_mem v f y _ (early_rest s0 a0 w0 x0 g sc prev y h), hf]

/-- Both halves' stores over a fill. -/
theorem rows_fill (inb) (y) : View.canon (late s0 s1 a0 a1 w0 w1 x0 x1 g sc (k0_pay2 (F := Ideal)) ++ (early s0 a0 w0 x0 g sc (k0_pay2 (F := Ideal))
      ++ [⟨Rect.unit ![0, 0] ![8, 1024] inb, k0_pay2 (F := Ideal)⟩])) y = after s0 s1 a0 a1 w0 w1 x0 x1 g sc (k0_pay2 (F := Ideal)) y := by
  refine Whole.canon_of_piecesOf_over (Val := Elt Ideal) (s := S8x1024) (e := .f32) (after s0 s1 a0 a1 w0 w1 x0 x1 g sc (k0_pay2 (F := Ideal))) _ _ (late_pieces s0 s1 a0 a1 w0 w1 x0 x1 g sc (k0_pay2 (F := Ideal))) (fun y hy => ?_) y
  have h := late_rest s0 s1 a0 a1 w0 w1 x0 x1 g sc _ y hy
  rw [after_rest _ _ _ _ _ _ _ _ _ _ _ y h, Whole.canon_append_of_not_mem _ _ y (early_rest s0 a0 w0 x0 g sc _ y h)]
  exact congrFun (View.canon_cons_unit_lit inb _ _ (by decide)) y

end Stores

/-- What a point adds to the rows of sums. -/
def sums (dp : Vec Ideal S512x3072 .bf16) (w : Vec Ideal S4x1024x768 .bf16) (x : Vec Ideal S512x1024 .f32) (g : Vec Ideal S1x1024 .f32)
    (md : Vec Ideal S6x1024 .f32) (y : S8x1024.Idx) : EReal :=
  half (dhTop dp w) (k0_pay9 (F := Ideal) (lo x)) g (scale md) y + half (dhBot dp w) (k0_pay20 (F := Ideal) (hi x)) g (scale md) y

theorem st_first (c : Dev nD) (t : Fin cfg0.N) (h : t.val % 8 = 0) (y) : (outsAt0 m c t.val t.isLt).2 y
    = sums (iblk m c 0 t) (iblk m c 1 t) (iblk m c 2 t) (iblk m c 5 t) (iblk m c 4 t) y := by
  rw [outsAt0_A m c t h]; frame_open
  simp (disch := decide) only [↓ View.readCov_skip, ↓ View.readCov_cons_toLoadRect, ↓ View.readCov_fill]
  frame_out
  refine (rows_fill _ _ _ _ _ _ _ _ (iblk m c 5 t) (scale (iblk m c 4 t)) inb_S8x1024_S8x1024_0_0 y).trans ?_
  unfold after sums
  rw [pay2_apply, zero_add]
  rfl

theorem st_next (c : Dev nD) (t : Fin cfg0.N) (h : ¬ t.val % 8 = 0) (y) : (outsAt0 m c t.val t.isLt).2 y
    = (outsAt0 m c (t.val - 1) (by omega)).2 y + sums (iblk m c 0 t) (iblk m c 1 t) (iblk m c 2 t) (iblk m c 5 t) (iblk m c 4 t) y := by
  rw [outsAt0_B m c t h]; frame_open
  simp (disch := decide) only [↓ View.readCov_skip, ↓ View.readCov_cons_toLoadRect, ↓ View.readCov_fill]
  frame_out
  generalize hp : outsAt0 m c (t.val - 1) _ = prev
  refine (rows_read _ _ _ _ _ _ _ _ (iblk m c 5 t) (scale (iblk m c 4 t)) prev.2 _ _ (Memref.IsWhole.read_unread _ _) y).trans ?_
  unfold after sums
  rw [add_assoc]
  rfl

end Cert.MixIn

end
-- ==== Proof.InFinal.lean ====
/-
  The gradient at the input projection: a grid point's blocks as pieces of the operands.
-/
module

public import proofs.«01_k».proof.Proof.Gen.KernelInIdeal.Value
public import proofs.«01_k».proof.Proof.InRows
public import proofs.«01_k».proof.Proof.BwdArrays

@[expose] public section

set_option maxRecDepth 16384

noncomputable section

open Idealize.ShloMosaic Idealize.ShloMosaic.TcCoe Idealize.SL.Sem
open Idealize.ShloMosaic.Pipeline (Dat)

namespace Cert.MixIn

open Cert.KernelInIdeal Cert.KernelInIdeal.Gen
open Cert.FfnBwd (RS)

variable (m : (ℓ : Loc nD τ sig) → Buf (Elt Ideal) ℓ)

/-- The gradient at the projection's input. -/
def DH (dp : S4096x3072.Idx → EReal) (w : S1024x3072.Idx → EReal) (i : S4096x1024.Idx) : EReal :=
  ∑ q : Fin 3072, dp (ix2 (i 0) q) * w (ix2 (i 1) q)

/-- The gradient at the block's input. -/
def GX (dh x dx : S4096x1024.Idx → EReal) (g : S1x1024.Idx → EReal) (md : S6x1024.Idx → EReal) (i : S4096x1024.Idx) : EReal :=
  dx i + RS x (i 0) * (dh i * ((1 + md (ix2 1 (i 1))) * g (ix2 0 (i 1))) - x i * RS x (i 0) * Ideal.div
    (∑ e : Fin 1024, dh (ix2 (i 0) e) * ((1 + md (ix2 1 e)) * g (ix2 0 e)) * (x (ix2 (i 0) e) * RS x (i 0))) (Ideal.ofBits .f32 0x44800000#32))

theorem row_lt (b : Fin 16) (p : Fin 256) : 256 * (b : ℕ) + p < 4096 := by omega

/-- The rows of sums over 256 rows. -/
def SB (dh x : S4096x1024.Idx → EReal) (g : S1x1024.Idx → EReal) (md : S6x1024.Idx → EReal) (b : Fin 16) (j : S8x1024.Idx) : EReal :=
  if (j 0 : ℕ) = 0 then ∑ p : Fin 256, dh (ix2 ⟨256 * b + p, row_lt b p⟩ (j 1))
  else if (j 0 : ℕ) = 1 then (∑ p : Fin 256, dh (ix2 ⟨256 * b + p, row_lt b p⟩ (j 1))
    * (x (ix2 ⟨256 * b + p, row_lt b p⟩ (j 1)) * RS x ⟨256 * b + p, row_lt b p⟩)) * g (ix2 0 (j 1))
  else if (j 0 : ℕ) = 2 then (∑ p : Fin 256, dh (ix2 ⟨256 * b + p, row_lt b p⟩ (j 1))
    * (x (ix2 ⟨256 * b + p, row_lt b p⟩ (j 1)) * RS x ⟨256 * b + p, row_lt b p⟩)) * (1 + md (ix2 1 (j 1)))
  else 0

theorem idx : ∀ t : Fin cfg0.N, win0_0.index t = ![t.val, 0] ∧ win0_1.index t = ![0, 0, 0] ∧
    win0_2.index t = ![t.val, 0] ∧ win0_3.index t = ![t.val, 0] ∧
    win0_4.index t = ![0, 0] ∧ win0_5.index t = ![0, 0] ∧
    win0_6.index t = ![t.val, 0] ∧ win0_7.index t = ![0, 0] :=
  (by decide +kernel : ∀ t : Fin grid0.N, _)

/-- The operands, by name. -/
abbrev dpA (c : Dev nD) : S4096x3072.Idx → EReal := m ((c : Thread nD τ).loc main_arg0)
abbrev wA (c : Dev nD) : S1024x3072.Idx → EReal := m ((c : Thread nD τ).loc main_arg1)
abbrev xA (c : Dev nD) : S4096x1024.Idx → EReal := m ((c : Thread nD τ).loc main_arg2)
abbrev dxA (c : Dev nD) : S4096x1024.Idx → EReal := m ((c : Thread nD τ).loc main_arg3)
abbrev mdA (c : Dev nD) : S6x1024.Idx → EReal := m ((c : Thread nD τ).loc main_arg4)
abbrev gA (c : Dev nD) : S1x1024.Idx → EReal := m ((c : Thread nD τ).loc main_arg5)

theorem t_lt (t : Fin cfg0.N) : t.val < 8 := lt_of_lt_of_eq t.isLt (show cfg0.N = 8 from N_0)

/-- Row `p` of the block of point `t`. -/
abbrev row (t : Fin cfg0.N) (p : Fin 512) : Fin 4096 := ⟨512 * t.val + p, by have := t_lt t; omega⟩

theorem dp_host (c : Dev nD) : (V m c main_v2 : FVec Ideal S4096x3072 .bf16)
    = (truncf .bf16 (m ((c : Thread nD τ).loc main_arg0) : FVec Ideal S4096x3072 .f32) bitsLt_bf16_f32 : FVec Ideal S4096x3072 .bf16) := by
  unfold V
  unfold_abbrev_sides
  after_results

/-- The projection, its columns in four groups. -/
theorem w_host (c : Dev nD) : (V m c main_v3 : FVec Ideal S4x1024x768 .bf16) = (truncf .bf16 (transpose S4x1024x768 [1, 0, 2] (shapeCast S1024x4x768
    (m ((c : Thread nD τ).loc main_arg1) : FVec Ideal S1024x3072 .f32) shapeCasts_S1024x3072_S1024x4x768) transposes_S1024x4x768_S4x1024x768_1_0_2) bitsLt_bf16_f32 : FVec Ideal S4x1024x768 .bf16) := by
  unfold V
  unfold_abbrev_sides
  simp only [List.flatten_cons, List.flatten_nil, List.append_nil, List.cons_append, List.nil_append]
  after_results
  rfl

/-- The same, entry by entry. -/
theorem w_host_apply (c : Dev nD) (a : Fin 4) (d : Fin 1024) (k : Fin 768) : (V m c main_v3 : FVec Ideal S4x1024x768 .bf16) (ix3 a d k)
    = wA m c (ix2 d ⟨768 * a + k, col_lt a k⟩) := by
  rw [w_host]
  show _ = m ((c : Thread nD τ).loc main_arg1) _
  pointwise []
  blk_point []

theorem dp_blk (c : Dev nD) (t : Fin cfg0.N) (p : Fin 512) (q : Fin 3072) : iblk m c 0 t (ix2 p q) = dpA m c (ix2 (row t p) q) := by
  have e : iblk m c 0 t (ix2 p q) = (V m c main_v2 : FVec Ideal S4096x3072 .bf16) (ix2 (row t p) q) := by
    show V m c main_v2 _ = V m c main_v2 _
    refine congrArg (V m c main_v2) ?_
    blk_point [idx t]
  rw [e, dp_host]
  rfl

theorem w_blk (c : Dev nD) (t : Fin cfg0.N) (a : Fin 4) (d : Fin 1024) (k : Fin 768) : iblk m c 1 t (ix3 a d k) = wA m c (ix2 d ⟨768 * a + k, col_lt a k⟩) := by
  have e : iblk m c 1 t (ix3 a d k) = (V m c main_v3 : FVec Ideal S4x1024x768 .bf16) (ix3 a d k) := by
    show V m c main_v3 _ = V m c main_v3 _
    refine congrArg (V m c main_v3) ?_
    blk_point [idx t]
  rw [e, w_host_apply]

theorem dh_blk (c : Dev nD) (t : Fin cfg0.N) (p : Fin 512) (d : Fin 1024) :
    dh (iblk m c 0 t) (iblk m c 1 t) (ix2 p d) = DH (dpA m c) (wA m c) (ix2 (row t p) d) := by
  unfold dh DH
  simp only [ix2_0, ix2_1, dp_blk, w_blk]
  exact Fin.sum_mul_add_congr (S := 4) (n := 768) (F := fun (j : Fin 4) (k : Fin 768) => dpA m c (ix2 (row t p) ⟨768 * j + k, col_lt j k⟩) * wA m c (ix2 d ⟨768 * j + k, col_lt j k⟩))
      (f := fun q : Fin 3072 => dpA m c (ix2 (row t p) q) * wA m c (ix2 d q))
      fun j k hl => congrArg (fun q : Fin 3072 => dpA m c (ix2 (row t p) q) * wA m c (ix2 d q)) (Fin.ext (by show 768 * (j : ℕ) + k = j * 768 + k; ring))

theorem x_blk (c : Dev nD) (t : Fin cfg0.N) (p : Fin 512) (d : Fin 1024) : iblk m c 2 t (ix2 p d) = xA m c (ix2 (row t p) d) := by
  blk_point [iblk, idx t]

theorem dx_blk (c : Dev nD) (t : Fin cfg0.N) (p : Fin 512) (d : Fin 1024) : iblk m c 3 t (ix2 p d) = dxA m c (ix2 (row t p) d) := by
  blk_point [iblk, idx t]

theorem md_blk (c : Dev nD) (t : Fin cfg0.N) (d : Fin 1024) : iblk m c 4 t (ix2 1 d) = mdA m c (ix2 1 d) := by
  blk_point [iblk, idx t]

theorem g_blk (c : Dev nD) (t : Fin cfg0.N) (d : Fin 1024) : iblk m c 5 t (ix2 0 d) = gA m c (ix2 0 d) := by
  blk_point [iblk, idx t]

theorem rs_blk (c : Dev nD) (t : Fin cfg0.N) (p : Fin 512) : rs (iblk m c 2 t) p = RS (xA m c) (row t p) := by
  unfold rs RS
  simp only [x_blk]

theorem gx_blk (c : Dev nD) (t : Fin cfg0.N) (p : Fin 512) (d : Fin 1024) :
    gx (dh (iblk m c 0 t) (iblk m c 1 t)) (iblk m c 2 t) (iblk m c 3 t) (iblk m c 5 t) (fun e => iblk m c 4 t (ix2 1 e)) (ix2 p d)
      = GX (DH (dpA m c) (wA m c)) (xA m c) (dxA m c) (gA m c) (mdA m c) (ix2 (row t p) d) := by
  unfold gx GX
  simp only [ix2_0, ix2_1, dh_blk, x_blk, dx_blk, md_blk, g_blk, rs_blk]

theorem sums_blk (c : Dev nD) (t : Fin cfg0.N) (j) :
    sums (iblk m c 0 t) (iblk m c 1 t) (iblk m c 2 t) (iblk m c 5 t) (iblk m c 4 t) j
      = SB (DH (dpA m c) (wA m c)) (xA m c) (gA m c) (mdA m c) ⟨2 * t.val, by have := t_lt t; omega⟩ j
        + SB (DH (dpA m c) (wA m c)) (xA m c) (gA m c) (mdA m c) ⟨2 * t.val + 1, by have := t_lt t; omega⟩ j := by
  have e0 (p : Fin 256) : row t ⟨p, lo_lt p⟩ = ⟨256 * (2 * t.val) + p, by have := t_lt t; omega⟩ := by
    apply Fin.ext; show 512 * t.val + (p : ℕ) = 256 * (2 * t.val) + p; omega
  have e1 (p : Fin 256) : row t ⟨256 + p, hi_lt p⟩ = ⟨256 * (2 * t.val + 1) + p, by have := t_lt t; omega⟩ := by
    apply Fin.ext; show 512 * t.val + (256 + (p : ℕ)) = 256 * (2 * t.val + 1) + p; omega
  obtain ⟨k, d, rfl⟩ : ∃ (k : Fin 8) (d : Fin 1024), j = ix2 k d := ⟨j 0, j 1, eq_ix2 j⟩
  unfold sums
  refine congrArg₂ (· + ·) ?_ ?_
  · unfold half SB
    simp only [ix2_0, ix2_1, dhTop_apply, xn_lo, scale_apply, dh_blk, x_blk, rs_blk, md_blk, g_blk, e0]
    rfl
  · unfold half SB
    simp only [ix2_0, ix2_1, dhBot_apply, xn_hi, scale_apply, dh_blk, x_blk, rs_blk, md_blk, g_blk, e1]
    rfl

/-- After the last point the rows hold the sums over the whole sequence. -/
theorem st_sum (c : Dev nD) (t : Fin cfg0.N) (h : t.val % 8 = 7) (j) :
    (outsAt0 m c t.val t.isLt).2 j = ∑ b : Fin 16, SB (DH (dpA m c) (wA m c)) (xA m c) (gA m c) (mdA m c) b j := by
  have e := Pipeline.eq_sum_fin_of_reset_step_apply_of_flush (fun n h => (outsAt0 m c n h).2) 8 (fun _ => (0 : EReal))
    (fun t => sums (iblk m c 0 t) (iblk m c 1 t) (iblk m c 2 t) (iblk m c 5 t) (iblk m c 4 t))
    (fun t h j => by rw [zero_add]; exact st_first m c t h j) (fun t h j => st_next m c t h j) t h j
  refine e.trans ?_
  rw [zero_add]
  have ht : t.val = 7 := by have := t_lt t; omega
  generalize hS : SB (DH (dpA m c) (wA m c)) (xA m c) (gA m c) (mdA m c) = S
  refine (Fintype.sum_congr _ (fun s : Fin 8 => ∑ h : Fin 2, S ⟨2 * s + h, by omega⟩ j) fun s => ?_).trans ?_
  · rw [sums_blk, hS, Fin.sum_univ_two]
    have e0 : 8 * (t.val / 8) + s.val = s.val := by omega
    simp only [e0]
    rfl
  · exact Fin.sum_mul_add_congr (S := 8) (n := 2) (F := fun (s : Fin 8) (h : Fin 2) => S ⟨2 * s + h, by omega⟩ j) (f := fun b : Fin 16 => S b j)
      fun s h hl => congrArg (fun b : Fin 16 => S b j) (Fin.ext (by show 2 * (s : ℕ) + h = s * 2 + h; ring))

/-- The first result: the gradient at the block's input. -/
theorem final6 (c : Dev nD) : (dats m 0 c).arrAt 6 cfg0.N = GX (DH (dpA m c) (wA m c)) (xA m c) (dxA m c) (gA m c) (mdA m c) := by
  refine (dats m 0 c).arrAt_eq_of_covers 6 _ (by decide +kernel) fun t hf y => ?_
  blk_simp
  rw [after0_6, gx_point]
  obtain ⟨p, q, rfl⟩ : ∃ (p : Fin 512) (q : Fin 1024), y = ix2 p q := ⟨y 0, y 1, eq_ix2 y⟩
  refine (gx_blk m c t p q).trans (congrArg (GX (DH (dpA m c) (wA m c)) (xA m c) (dxA m c) (gA m c) (mdA m c)) ?_)
  blk_point [idx t]

/-- The rows of sums over the whole sequence. -/
def ST (c : Dev nD) (y : S8x1024.Idx) : EReal := ∑ b : Fin 16, SB (DH (dpA m c) (wA m c)) (xA m c) (gA m c) (mdA m c) b y

/-- The second: the rows of sums. -/
theorem final7 (c : Dev nD) : (dats m 0 c).arrAt 7 cfg0.N = ST m c := by
  refine (dats m 0 c).arrAt_eq_of_covers 7 _ (by decide +kernel) fun t hf y => ?_
  blk_simp
  rw [after0_7]
  obtain ⟨p, q, rfl⟩ : ∃ (p : Fin 8) (q : Fin 1024), y = ix2 p q := ⟨y 0, y 1, eq_ix2 y⟩
  refine (st_sum m c t ((flush0_7 t).mp hf) _).trans (congrArg (ST m c) ?_)
  blk_point [idx t]

end Cert.MixIn

end
-- ==== Proof.InRef.lean ====
/-
  The gradient at the input projection: what the reference computes, entry by entry.
-/
module

public import proofs.«01_k».proof.Proof.Gen.ReferenceInIdeal.Read
public import proofs.«01_k».proof.Proof.Gen.ReferenceInIdeal
public import proofs.«01_k».proof.Proof.InFinal
public import proofs.«01_k».proof.Proof.BwdRef

@[expose] public section

set_option maxRecDepth 16384

noncomputable section

open Idealize.ShloMosaic Idealize.ShloMosaic.TcCoe Idealize.SL.Sem
open Idealize.ShloMosaic.Pipeline (Dat)

namespace Cert.MixIn.Ref

open Cert.ReferenceInIdeal Cert.ReferenceInIdeal.Gen Cert.ReferenceInIdeal.Read
open Cert.FfnBwd (RS)
open Cert.FfnBwd.Ref (MS)

variable (dp : FVec Ideal S4096x3072 .f32) (w : FVec Ideal S1024x3072 .f32) (x dx : FVec Ideal S4096x1024 .f32)
  (md : FVec Ideal S6x1024 .f32) (g : FVec Ideal S1x1024 .f32)

theorem ms_eq (t : Fin 4096) : val_main_v8 (F := Ideal) x (ix2 t 0) = MS x t := by
  pointwise [val_main_v8, val_main_v7, val_main_v6, val_main_v5, val_main_v4, val_main_v3, val_main_v2, val_main_cst, val_main_cst_0, val_main_cst_1, MS]

theorem rs_eq (t : Fin 4096) : val_main_v9 (F := Ideal) x (ix2 t 0) = RS x t :=
  congrArg Ideal.rsqrt (ms_eq x t)

theorem xn_eq (t : Fin 4096) (d : Fin 1024) : val_main_v14 (F := Ideal) x (ix2 t d) = x (ix2 t d) * RS x t := by
  rw [← rs_eq]
  unfold val_main_v14 val_main_v13
  generalize val_main_v9 (F := Ideal) x = r
  pointwise []

theorem sc_eq (d : Fin 1024) : val_main_v18 (F := Ideal) md (ix2 0 d) = 1 + md (ix2 1 d) := by
  pointwise [val_main_v18, val_main_v17, val_main_cst_3, val_main_v1]

theorem dh_eq (t : Fin 4096) (d : Fin 1024) : val_main_v24 (F := Ideal) dp w (ix2 t d) = DH dp w (ix2 t d) := by
  pointwise [val_main_v24, DH]

theorem sum_shift (d : Fin 1024) : val_main_v26 (F := Ideal) dp w (ix2 0 d)
    = ∑ t : Fin 4096, DH dp w (ix2 t d) := by
  unfold val_main_v26 val_main_v25
  simp only [← dh_eq]
  generalize val_main_v24 (F := Ideal) dp w = h
  pointwise [val_main_cst_4]

theorem sum_scale (d : Fin 1024) : val_main_v29 (F := Ideal) dp w x g (ix2 0 d)
    = ∑ t : Fin 4096, x (ix2 t d) * RS x t * g (ix2 0 d) * DH dp w (ix2 t d) := by
  unfold val_main_v29 val_main_v28 val_main_v27 val_main_v16 val_main_v15
  simp only [← dh_eq, ← xn_eq]
  generalize val_main_v24 (F := Ideal) dp w = h
  generalize val_main_v14 (F := Ideal) x = n
  pointwise [val_main_cst_5]

theorem sum_gain (d : Fin 1024) : val_main_v34 (F := Ideal) dp w x md (ix2 0 d)
    = ∑ t : Fin 4096, x (ix2 t d) * RS x t * (DH dp w (ix2 t d) * (1 + md (ix2 1 d))) := by
  unfold val_main_v34 val_main_v33 val_main_v32 val_main_v31 val_main_v30
  simp only [← dh_eq, ← xn_eq]
  generalize val_main_v24 (F := Ideal) dp w = h
  generalize val_main_v14 (F := Ideal) x = n
  have hs := sc_eq md
  generalize val_main_v18 (F := Ideal) md = s at hs ⊢
  pointwise [val_main_cst_6]
  simp only [hs]

/-- The derivative of the norm's factor, times what it meets. -/
def RC (dh : S4096x1024.Idx → EReal) (t : Fin 4096) : EReal :=
  Ideal.div ((∑ e : Fin 1024, x (ix2 t e) * (dh (ix2 t e) * (1 + md (ix2 1 e)) * g (ix2 0 e)))
    * (Ideal.ofBits .f32 0xBF000000#32 * Ideal.div (RS x t) (MS x t))) (Ideal.ofBits .f32 0x44800000#32)

theorem rc_eq (t : Fin 4096) : val_main_v45 (F := Ideal) dp w x md g (ix1 t) = RC x md g (DH dp w) t := by
  unfold RC
  simp only [← dh_eq, ← rs_eq, ← ms_eq]
  unfold val_main_v45 val_main_v44 val_main_v42 val_main_v39 val_main_v38 val_main_v37 val_main_v36 val_main_v31 val_main_v30 val_main_v12 val_main_v10
  generalize val_main_v24 (F := Ideal) dp w = h
  generalize val_main_v9 (F := Ideal) x = r
  generalize val_main_v8 (F := Ideal) x = r2
  have hs := sc_eq md
  generalize val_main_v18 (F := Ideal) md = s at hs ⊢
  pointwise [val_main_cst_7, val_main_cst_8, val_main_cst_9, val_main_cst_2, val_main_v11, val_main_v43, val_main_v35]
  simp only [hs, Fin.sum_univ_one]

/-- The reference's gradient at the block's input. -/
def RGX (dh : S4096x1024.Idx → EReal) (i : S4096x1024.Idx) : EReal :=
  dx i + (dh i * (1 + md (ix2 1 (i 1))) * g (ix2 0 (i 1)) * RS x (i 0) + x i * RC x md g dh (i 0) + RC x md g dh (i 0) * x i)

theorem gx_eq (t : Fin 4096) (d : Fin 1024) : val_main_v51 (F := Ideal) dp w x dx md g (ix2 t d)
    = RGX x dx md g (DH dp w) (ix2 t d) := by
  unfold RGX
  simp only [ix2_0, ix2_1, ← dh_eq, ← rs_eq, ← rc_eq]
  unfold val_main_v51 val_main_v50 val_main_v49 val_main_v48 val_main_v47 val_main_v46 val_main_v41 val_main_v40 val_main_v36 val_main_v31 val_main_v30 val_main_v35
  generalize val_main_v24 (F := Ideal) dp w = h
  generalize val_main_v45 (F := Ideal) dp w x md g = c
  generalize val_main_v9 (F := Ideal) x = r
  have hs := sc_eq md
  generalize val_main_v18 (F := Ideal) md = s at hs ⊢
  pointwise []
  simp only [hs]

/-- The reference's rows of sums. -/
def RST (dh : S4096x1024.Idx → EReal) (j : S8x1024.Idx) : EReal :=
  if (j 0 : ℕ) = 0 then ∑ t : Fin 4096, dh (ix2 t (j 1))
  else if (j 0 : ℕ) = 1 then ∑ t : Fin 4096, x (ix2 t (j 1)) * RS x t * g (ix2 0 (j 1)) * dh (ix2 t (j 1))
  else if (j 0 : ℕ) = 2 then ∑ t : Fin 4096, x (ix2 t (j 1)) * RS x t * (dh (ix2 t (j 1)) * (1 + md (ix2 1 (j 1))))
  else 0

theorem st_eq (k : Fin 8) (d : Fin 1024) : val_main_v53 (F := Ideal) dp w x md g (ix2 k d)
    = RST x md g (DH dp w) (ix2 k d) := by
  unfold RST val_main_v53 val_main_v52
  simp only [ix2_0, ix2_1, ← sum_shift, ← sum_scale, ← sum_gain]
  generalize val_main_v26 (F := Ideal) dp w = a
  generalize val_main_v29 (F := Ideal) dp w x g = b
  generalize val_main_v34 (F := Ideal) dp w x md = e
  pointwise [val_main_cst_10]
  by_cases h0 : (k : ℕ) = 0
  · rw [dif_pos (by omega), if_pos h0]
    exact congrArg (fun z : Fin 1 => a (ix2 z d)) (Subsingleton.elim _ _)
  by_cases h1 : (k : ℕ) = 1
  · rw [dif_neg (by omega), dif_pos (by omega), if_neg h0, if_pos h1]
    exact congrArg (fun z : Fin 1 => b (ix2 z d)) (Subsingleton.elim _ _)
  by_cases h2 : (k : ℕ) = 2
  · rw [dif_neg (by omega), dif_neg (by omega), dif_pos (by omega), if_neg h0, if_neg h1, if_pos h2]
    exact congrArg (fun z : Fin 1 => e (ix2 z d)) (Subsingleton.elim _ _)
  · rw [dif_neg (by omega), dif_neg (by omega), dif_neg (by omega), if_neg h0, if_neg h1, if_neg h2]

end Cert.MixIn.Ref

end
-- ==== Proof.InClaim.lean ====
/-
  The gradient at the input projection: the kernel's two functions are the reference's, for finite operands; and the claim.
-/
module

public import proofs.«01_k».proof.Proof.InRef
public import proofs.«01_k».proof.Proof.BwdEq
public import proofs.«01_k».proof.Proof.Gen.Pre_finite_in
public import proofs.«01_k».proof.Defs

@[expose] public section

set_option maxRecDepth 16384

noncomputable section

open Idealize.ShloMosaic Idealize.ShloMosaic.TcCoe Idealize.SL.Sem
open Idealize.ShloMosaic.Pipeline (Dat)

namespace Cert.MixIn.Eq

open Cert.ReferenceInIdeal Cert.MixIn.Ref Cert.Reals
open Cert.FfnBwd (RS)
open Cert.FfnBwd.Eq (ms ms_pos ms_real rs_real)

variable (dx : S4096x1024.Idx → EReal) (DPr : S4096x3072.Idx → ℝ) (Wr : S1024x3072.Idx → ℝ) (Xr : S4096x1024.Idx → ℝ) (Mr : S6x1024.Idx → ℝ) (Gr : S1x1024.Idx → ℝ)

theorem dh_real : ∃ D : S4096x1024.Idx → ℝ, DH (fun i => (DPr i : EReal)) (fun i => (Wr i : EReal)) = fun i => (D i : EReal) := by
  refine ⟨fun i => ∑ q : Fin 3072, DPr (ix2 (i 0) q) * Wr (ix2 (i 1) q), funext fun i => ?_⟩
  unfold DH
  simp only [← EReal.coe_mul, coe_sum]

theorem gx_fun (D : S4096x1024.Idx → ℝ) : GX (fun i => (D i : EReal)) (fun i => (Xr i : EReal)) dx (fun i => (Gr i : EReal)) (fun i => (Mr i : EReal))
    = RGX (fun i => (Xr i : EReal)) dx (fun i => (Mr i : EReal)) (fun i => (Gr i : EReal)) (fun i => (D i : EReal)) := by
  funext i
  obtain ⟨t, d, rfl⟩ : ∃ (t : Fin 4096) (d : Fin 1024), i = ix2 t d := ⟨i 0, i 1, eq_ix2 i⟩
  unfold GX RGX RC
  simp only [ix2_0, ix2_1]
  have hm := (ms_pos Xr t).ne'
  simp only [rs_real, ms_real, lit_neg_half, lit_1024, ← EReal.coe_one, ← EReal.coe_mul, ← EReal.coe_add, coe_sum, div_real _ hm,
    div_real _ (show (1024 : ℝ) ≠ 0 by norm_num), ← EReal.coe_sub]
  refine congrArg (fun z : ℝ => dx (ix2 t d) + (z : EReal)) ?_
  have e := rms_bwd (fun k : Fin 1024 => Xr (ix2 t k)) (fun k => D (ix2 t k) * (1 + Mr (ix2 1 k)) * Gr (ix2 0 k)) (ms Xr t) (ms_pos Xr t) d 1024
  simp only [← mul_assoc] at e ⊢
  exact e

theorem st_fun (D : S4096x1024.Idx → ℝ) (j) : ∑ b : Fin 16, SB (fun i => (D i : EReal)) (fun i => (Xr i : EReal)) (fun i => (Gr i : EReal)) (fun i => (Mr i : EReal)) b j
    = RST (fun i => (Xr i : EReal)) (fun i => (Mr i : EReal)) (fun i => (Gr i : EReal)) (fun i => (D i : EReal)) j := by
  obtain ⟨k, d, rfl⟩ : ∃ (k : Fin 8) (d : Fin 1024), j = ix2 k d := ⟨j 0, j 1, eq_ix2 j⟩
  unfold SB RST
  simp only [ix2_0, ix2_1]
  have blocks (f : Fin 4096 → ℝ) : ∑ b : Fin 16, ∑ p : Fin 256, f ⟨256 * b + p, row_lt b p⟩ = ∑ t, f t :=
    Fin.sum_mul_add_congr (S := 16) (n := 256) (F := fun (b : Fin 16) (p : Fin 256) => f ⟨256 * (b : ℕ) + p, row_lt b p⟩)
      fun b p hl => congrArg f (Fin.ext (by show 256 * (b : ℕ) + p = b * 256 + p; ring))
  by_cases h0 : (k : ℕ) = 0
  · simp only [if_pos h0, coe_sum, blocks fun t => D (ix2 t d)]
  by_cases h1 : (k : ℕ) = 1
  · simp only [if_neg h0, if_pos h1, rs_real, ← EReal.coe_mul, coe_sum]
    rw [← Finset.sum_mul, blocks fun t => D (ix2 t d) * (Xr (ix2 t d) * (Real.sqrt (ms Xr t))⁻¹), Finset.sum_mul]
    exact congrArg _ (Finset.sum_congr rfl fun _ _ => by ring)
  by_cases h2 : (k : ℕ) = 2
  · simp only [if_neg h0, if_neg h1, if_pos h2, rs_real, ← EReal.coe_one, ← EReal.coe_mul, ← EReal.coe_add, coe_sum]
    rw [← Finset.sum_mul, blocks fun t => D (ix2 t d) * (Xr (ix2 t d) * (Real.sqrt (ms Xr t))⁻¹), Finset.sum_mul]
    exact congrArg _ (Finset.sum_congr rfl fun _ _ => by ring)
  · simp only [h0, h1, h2, if_false, Finset.sum_const_zero]

end Cert.MixIn.Eq

namespace Cert.MixIn

open Cert.KernelInIdeal in
/-- Where the operands are finite, they are real numbers and the kernel's two arrays are the reference's. -/
theorem arrays (m : (ℓ : Loc nD τ sig) → Buf (Elt Ideal) ℓ) (c : Dev nD)
    (hpre : Cert.Pre_KernelInIdeal_finite_in (hPre_finite_in := Cert.Pre_finite_in.Gen.facts) m) :
    GX (DH (dpA m c) (wA m c)) (xA m c) (dxA m c) (gA m c) (mdA m c)
      = Ref.RGX (xA m c) (dxA m c) (mdA m c) (gA m c) (DH (dpA m c) (wA m c)) ∧
    ST m c = Ref.RST (xA m c) (mdA m c) (gA m c) (DH (dpA m c) (wA m c)) := by
  obtain ⟨h0, h1, h2, h4, h5⟩ := hpre c
  obtain ⟨DPr, e0⟩ := Reals.real_of_finite _ _ h0
  obtain ⟨Wr, e1⟩ := Reals.real_of_finite _ _ h1
  obtain ⟨Xr, e2⟩ := Reals.real_of_finite _ _ h2
  obtain ⟨Mr, e4⟩ := Reals.real_of_finite _ _ h4
  obtain ⟨Gr, e5⟩ := Reals.real_of_finite _ _ h5
  obtain ⟨D, hD⟩ := Eq.dh_real DPr Wr
  have hdh : DH (dpA m c) (wA m c) = fun i => (D i : EReal) := by
    rw [show dpA m c = _ from e0, show wA m c = _ from e1]; exact hD
  refine ⟨?_, ?_⟩
  · rw [hdh, show xA m c = _ from e2, show mdA m c = _ from e4, show gA m c = _ from e5]
    exact Eq.gx_fun _ Xr Mr Gr D
  · unfold ST
    rw [hdh, show xA m c = _ from e2, show mdA m c = _ from e4, show gA m c = _ from e5]
    exact funext fun j => Eq.st_fun Xr Mr Gr D j

open Cert.ReferenceInIdeal in
theorem ref_gx (dp : FVec Ideal S4096x3072 .f32) (w x dx md g) :
    Read.val_main_v51 (F := Ideal) dp w x dx md g = Ref.RGX x dx md g (DH dp w) := by
  funext i
  rw [eq_ix2 i]
  exact Ref.gx_eq dp w x dx md g _ _

open Cert.ReferenceInIdeal in
theorem ref_st (dp : FVec Ideal S4096x3072 .f32) (w x md g) :
    Read.val_main_v53 (F := Ideal) dp w x md g = Ref.RST x md g (DH dp w) := by
  funext i
  rw [eq_ix2 i]
  exact Ref.st_eq dp w x md g _ _

theorem algebraic : Cert.algebraic_KernelInIdeal_ReferenceInIdeal_pre_finite_in (hKernelInIdeal := Cert.KernelInIdeal.Gen.facts)
    (hReferenceInIdeal := Cert.ReferenceInIdeal.Gen.facts) (hPre_finite_in := Cert.Pre_finite_in.Gen.facts) := by
  intro m g m' g' hpre hagree
  refine ⟨fun c => GX (DH (dpA m c) (wA m c)) (xA m c) (dxA m c) (gA m c) (mdA m c), fun c => ST m c, ?_, ?_⟩
  · refine (θ_run _ _ _).mono (fun r h c => ?_) (Cert.KernelInIdeal.Value.run_blocks m g)
    exact ⟨(h c).1.trans (final6 m c), (h c).2.1.trans (final7 m c), (h c).2.2⟩
  · refine (θ_run _ _ _).mono (fun r h c => ?_) (Cert.ReferenceInIdeal.Value.run m' g')
    obtain ⟨e0, e1, e2, e3, e4, e5⟩ := hagree c
    obtain ⟨a0, a1⟩ := arrays m c hpre
    refine ⟨(h c).1.trans ?_, (h c).2.1.trans ?_, (h c).2.2⟩
    · rw [Cert.ReferenceInIdeal.Read.val_main_v51_eq, e0, e1, e2, e3, e4, e5]
      exact (ref_gx _ _ _ _ _ _).trans a0.symm
    · rw [Cert.ReferenceInIdeal.Read.val_main_v53_eq, e0, e1, e2, e4, e5]
      exact (ref_st _ _ _ _ _).trans a1.symm

end Cert.MixIn

end
-- ==== Proof.OutStored.lean ====
/-
  The gradient at the output projection: the values the kernel stores, entry by entry.
-/
module

public import proofs.«01_k».proof.Proof.Gen.KernelOutIdeal.Value
public import proofs.«01_k».proof.Proof.Whole

@[expose] public section

set_option maxRecDepth 16384

noncomputable section

open Idealize.ShloMosaic Idealize.ShloMosaic.TcCoe Idealize.SL.Sem
open Idealize.ShloMosaic.Pipeline (Dat)

namespace Cert.MixOut

open Cert.KernelOutIdeal Cert.KernelOutIdeal.Gen

theorem pay1_apply (x) (j) : k0_pay1 (F := Ideal) x j = x j := by
  idx_vars j
  pointwise [k0_pay1]

theorem pay2_apply (j) : k0_pay2 (F := Ideal) j = 0 := by pointwise [k0_pay2]

theorem pay3_apply (j : S1024x1024.Idx) : k0_pay3 (F := Ideal) j = 0 := by
  idx_vars j
  pointwise [k0_pay3]

theorem pay4_apply (x) (j : S512x1.Idx) : k0_pay4 (F := Ideal) x j
    = Ideal.rsqrt (Ideal.div (∑ k : Fin 1024, x (ix2 (j 0) k) * x (ix2 (j 0) k)) (Ideal.ofBits .f32 0x44800000#32) + Ideal.ofBits .f32 0x358637BD#32) := by
  idx_vars j
  pointwise [k0_pay4]

theorem pay5_apply (x) (j : S512x1024.Idx) : k0_pay5 (F := Ideal) x j
    = x j * k0_pay4 (F := Ideal) x (ix2 (j 0) 0) := by
  idx_vars j
  pointwise [k0_pay5]

theorem pay6_apply (dx x st g) (j : S1x1024.Idx) : k0_pay6 (F := Ideal) dx x st g j
    = st j + ∑ p : Fin 512, dx (ix2 p (j 1)) * (k0_pay5 (F := Ideal) x (ix2 p (j 1)) * g (ix2 0 (j 1))) := by
  idx_vars j
  unfold k0_pay6
  generalize k0_pay5 (F := Ideal) x = xn
  pointwise []

theorem pay7_apply (dx gt) (j : S512x1024.Idx) : k0_pay7 (F := Ideal) dx gt j = dx j * gt (ix2 0 (j 1)) := by
  idx_vars j
  pointwise [k0_pay7]

theorem pay8_apply (dx x gt st) (j : S1x1024.Idx) : k0_pay8 (F := Ideal) dx x gt st j
    = st j + ∑ p : Fin 512, k0_pay7 (F := Ideal) dx gt (ix2 p (j 1)) * k0_pay5 (F := Ideal) x (ix2 p (j 1)) := by
  idx_vars j
  unfold k0_pay8
  generalize k0_pay5 (F := Ideal) x = xn
  generalize k0_pay7 (F := Ideal) dx gt = dn
  pointwise []

theorem pay9_apply (rs xn dn g) (j : S512x1024.Idx) : k0_pay9 (F := Ideal) rs xn dn g j
    = rs (ix2 (j 0) 0) * (dn j * g (ix2 0 (j 1)) - xn j * Ideal.div
        (∑ e : Fin 1024, dn (ix2 (j 0) e) * g (ix2 0 e) * xn (ix2 (j 0) e)) (Ideal.ofBits .f32 0x44800000#32)) := by
  idx_vars j
  pointwise [k0_pay9]

theorem pay10_apply (rs xn dn g w) (j : S512x1024.Idx) : k0_pay10 (F := Ideal) rs xn dn g w j
    = ∑ k : Fin 1024, k0_pay9 (F := Ideal) rs xn dn g (ix2 (j 0) k) * w (ix2 (j 1) k) := by
  idx_vars j
  unfold k0_pay10
  generalize k0_pay9 (F := Ideal) rs xn dn g = dy
  pointwise []

theorem pay11_apply (rs xn dn g acc cat) (j : S1024x512.Idx) : k0_pay11 (F := Ideal) rs xn dn g acc cat j
    = acc j + ∑ p : Fin 512, cat (ix2 p (j 0)) * k0_pay9 (F := Ideal) rs xn dn g (ix2 p ⟨j 1, by have := (j 1).isLt; simp at this; omega⟩) := by
  idx_vars j
  unfold k0_pay11
  generalize k0_pay9 (F := Ideal) rs xn dn g = dy
  pointwise []

theorem pay12_apply (rs xn dn g acc cat) (j : S1024x512.Idx) : k0_pay12 (F := Ideal) rs xn dn g acc cat j
    = acc j + ∑ p : Fin 512, cat (ix2 p (j 0)) * k0_pay9 (F := Ideal) rs xn dn g (ix2 p ⟨512 + j 1, by have := (j 1).isLt; simp at this; omega⟩) := by
  idx_vars j
  unfold k0_pay12
  generalize k0_pay9 (F := Ideal) rs xn dn g = dy
  pointwise []

end Cert.MixOut

end
-- ==== Proof.OutBlocks.lean ====
/-
  The gradient at the output projection: what a grid point leaves in its blocks.
-/
module

public import proofs.«01_k».proof.Proof.OutStored

@[expose] public section

set_option maxRecDepth 16384

noncomputable section

open Idealize.ShloMosaic Idealize.ShloMosaic.TcCoe Idealize.SL.Sem
open Idealize.ShloMosaic.Pipeline (Dat)

namespace Cert.MixOut

open Cert.KernelOutIdeal Cert.KernelOutIdeal.Gen

variable (m : (ℓ : Loc nD τ sig) → Buf (Elt Ideal) ℓ)

/-- One over the root mean square of a row of the block. -/
def rs (x : Vec Ideal S512x1024 .f32) (p : Fin 512) : EReal :=
  Ideal.rsqrt (Ideal.div (∑ k : Fin 1024, x (ix2 p k) * x (ix2 p k)) (Ideal.ofBits .f32 0x44800000#32) + Ideal.ofBits .f32 0x358637BD#32)

/-- A block of the gradient at the norm's input. -/
def dy (dx x : Vec Ideal S512x1024 .f32) (g : Vec Ideal S1x1024 .f32) (gt : Fin 1024 → EReal) (y : S512x1024.Idx) : EReal :=
  rs x (y 0) * (dx y * gt (y 1) * g (ix2 0 (y 1)) - x y * rs x (y 0) * Ideal.div
    (∑ e : Fin 1024, dx (ix2 (y 0) e) * gt e * g (ix2 0 e) * (x (ix2 (y 0) e) * rs x (y 0))) (Ideal.ofBits .f32 0x44800000#32))

section Block

variable (dx x : Vec Ideal S512x1024 .f32) (g : Vec Ideal S1x1024 .f32) (md : Vec Ideal S6x1024 .f32)

theorem rs_eq (p : Fin 512) : k0_pay4 (F := Ideal) x (ix2 p 0) = rs x p := by
  rw [pay4_apply]
  rfl

/-- Row two of the modulation block. -/
theorem ld_gate (inb) (d : Fin 1024) :
    View.ld (S := S6x1024) md (Rect.unit ![2, 0] ![1, 1024] inb) (ix2 0 d) = md (ix2 2 d) := by
  refine congrArg md (funext fun a => Fin.ext ?_)
  match a with
  | ⟨0, _⟩ => rfl
  | ⟨1, _⟩ => show 0 + 1 * (d : ℕ) = d; omega

abbrev gate : FVec Ideal S1x1024 .f32 := View.ld (S := S6x1024) md (Rect.unit ![2, 0] ![1, 1024] inb_S6x1024_S1x1024_2_0)

theorem dy_apply (p : Fin 512) (d : Fin 1024) :
    k0_pay9 (F := Ideal) (k0_pay4 x) (k0_pay5 x) (k0_pay7 dx (gate md)) g (ix2 p d) = dy dx x g (fun e => md (ix2 2 e)) (ix2 p d) := by
  have hg : ∀ e, gate md (ix2 0 e) = md (ix2 2 e) := ld_gate md _
  generalize gate md = q at hg ⊢
  rw [pay9_apply]
  simp only [ix2_0, ix2_1, pay7_apply, pay5_apply, hg, rs_eq]
  rfl

theorem dcat_apply (w : Vec Ideal S1024x1024 .bf16) (p : Fin 512) (d : Fin 1024) :
    k0_pay10 (F := Ideal) (k0_pay4 x) (k0_pay5 x) (k0_pay7 dx (gate md)) g w (ix2 p d)
      = ∑ k : Fin 1024, dy dx x g (fun e => md (ix2 2 e)) (ix2 p k) * w (ix2 d k) := by
  rw [pay10_apply]
  simp only [ix2_0, ix2_1, dy_apply]

/-- What a point adds to the weight's gradient. -/
def prod (cat : Vec Ideal S512x1024 .bf16) (h : S512x1024.Idx → EReal) (y : S1024x1024.Idx) : EReal :=
  ∑ p : Fin 512, cat (ix2 p (y 0)) * h (ix2 p (y 1))

theorem col_lt (o : ℕ) (h : o ≤ 512) (b : Fin 512) : o + (b : ℕ) < 1024 := by omega

theorem col_emb (o : ℕ) (h : o ≤ 512) (inb) (a : Fin 1024) (b : Fin 512) :
    (Rect.unit (s := S1024x1024) ![0, o] ![1024, 512] inb).emb (ix2 a b) = ix2 a ⟨o + b, col_lt o h b⟩ := by
  funext k
  apply Fin.ext
  match k with
  | ⟨0, _⟩ => show 0 + 1 * (a : ℕ) = a; omega
  | ⟨1, _⟩ => show o + 1 * (b : ℕ) = o + b; omega

theorem ld_half (acc : Vec Ideal S1024x1024 .f32) (o : ℕ) (h : o ≤ 512) (inb) (a : Fin 1024) (b : Fin 512) :
    View.ld (S := S1024x1024) acc (Rect.unit ![0, o] ![1024, 512] inb) (ix2 a b) = acc (ix2 a ⟨o + b, col_lt o h b⟩) := by
  refine congrArg acc (funext fun k => Fin.ext ?_)
  match k with
  | ⟨0, _⟩ => show 0 + 1 * (a : ℕ) = a; omega
  | ⟨1, _⟩ => show o + 1 * (b : ℕ) = o + b; omega

/-- The two stores of the weight's gradient, over what it held. -/
abbrev halves (cat : Vec Ideal S512x1024 .bf16) (acc : Vec Ideal S1024x1024 .f32) : List (View.Piece (Elt Ideal) S1024x1024 .f32) :=
  [⟨Rect.unit ![0, 512] ![1024, 512] inb_S1024x1024_S1024x512_0_512, k0_pay1 (k0_pay12 (k0_pay4 x) (k0_pay5 x) (k0_pay7 dx (gate md)) g
      (View.ld acc (Rect.unit ![0, 512] ![1024, 512] inb_S1024x1024_S1024x512_0_512)) cat)⟩,
    ⟨Rect.unit ![0, 0] ![1024, 512] inb_S1024x1024_S1024x512_0_0, k0_pay11 (k0_pay4 x) (k0_pay5 x) (k0_pay7 dx (gate md)) g
      (View.ld acc (Rect.unit ![0, 0] ![1024, 512] inb_S1024x1024_S1024x512_0_0)) cat⟩]

theorem halves_pieces (cat : Vec Ideal S512x1024 .bf16) (acc : Vec Ideal S1024x1024 .f32) :
    View.PiecesOf (fun y => acc y + prod cat (dy dx x g (fun e => md (ix2 2 e))) y) (halves dx x g md cat acc) := by
  refine ⟨fun y => ?_, fun y => ?_, trivial⟩
  · simp only []
    obtain ⟨a, b, rfl⟩ : ∃ (a : Fin 1024) (b : Fin 512), y = ix2 a b := ⟨y 0, y 1, eq_ix2 y⟩
    rw [col_emb 512 le_rfl, pay1_apply, pay12_apply, ld_half acc 512 le_rfl]
    refine congrArg₂ (· + ·) rfl (Finset.sum_congr rfl fun p _ => congrArg₂ (· * ·) rfl ?_)
    exact dy_apply dx x g md p _
  · simp only []
    obtain ⟨a, b, rfl⟩ : ∃ (a : Fin 1024) (b : Fin 512), y = ix2 a b := ⟨y 0, y 1, eq_ix2 y⟩
    rw [col_emb 0 (Nat.zero_le _), pay11_apply, ld_half acc 0 (Nat.zero_le _)]
    refine congrArg₂ (· + ·) rfl (Finset.sum_congr rfl fun p _ => congrArg₂ (· * ·) rfl ?_)
    refine (dy_apply dx x g md p _).trans (congrArg (fun q : Fin 1024 => dy dx x g (fun e => md (ix2 2 e)) (ix2 p q)) (Fin.ext ?_))
    show (b : ℕ) = 0 + b
    omega

theorem halves_canon (cat : Vec Ideal S512x1024 .bf16) (acc : Vec Ideal S1024x1024 .f32) (L : List (View.Piece (Elt Ideal) S1024x1024 .f32)) (y) :
    View.canon (halves dx x g md cat acc ++ L) y = acc y + prod cat (dy dx x g (fun e => md (ix2 2 e))) y :=
  View.canon_append_of_piecesOf (Val := Elt Ideal) (s := S1024x1024) (e := .f32) _ L _ (halves_pieces dx x g md cat acc) y
    (View.cover_of_tiledL (halves dx x g md cat acc) ![1024, 512] rfl y)

end Block

theorem dcat_point (c : Dev nD) (t : Fin cfg0.N) (p : Fin 512) (d : Fin 1024) : (outsAt0 m c t.val t.isLt).1 (ix2 p d)
    = ∑ k : Fin 1024, dy (iblk m c 0 t) (iblk m c 1 t) (iblk m c 5 t) (fun e => iblk m c 4 t (ix2 2 e)) (ix2 p k) * iblk m c 3 t (ix2 d k) := by
  by_cases h0 : t.val % 8 = 0
  · have h1 : ¬ t.val % 8 = 7 := by omega
    rw [outsAt0_A m c t h0 h1]; frame_out
    exact dcat_apply _ _ _ _ _ p d
  · by_cases h1 : t.val % 8 = 7
    · rw [outsAt0_C m c t h0 h1]; frame_out
      exact dcat_apply _ _ _ _ _ p d
    · rw [outsAt0_B m c t h0 h1]; frame_out
      exact dcat_apply _ _ _ _ _ p d

theorem acc_first (c : Dev nD) (t : Fin cfg0.N) (h0 : t.val % 8 = 0) (y) : (outsAt0 m c t.val t.isLt).2.2.1 y
    = prod (iblk m c 2 t) (dy (iblk m c 0 t) (iblk m c 1 t) (iblk m c 5 t) (fun e => iblk m c 4 t (ix2 2 e))) y := by
  have h1 : ¬ t.val % 8 = 7 := by omega
  rw [outsAt0_A m c t h0 h1]; frame_open
  simp (disch := decide) only [↓ View.readCov_skip, ↓ View.readCov_cons_toLoadRect, ↓ View.readCov_fill]
  frame_out
  refine (halves_canon _ _ _ _ _ (k0_pay3 (F := Ideal)) [_] y).trans ?_
  rw [pay3_apply, zero_add]

theorem acc_next (c : Dev nD) (t : Fin cfg0.N) (h0 : ¬ t.val % 8 = 0) (y) : (outsAt0 m c t.val t.isLt).2.2.1 y
    = (outsAt0 m c (t.val - 1) (by omega)).2.2.1 y + prod (iblk m c 2 t) (dy (iblk m c 0 t) (iblk m c 1 t) (iblk m c 5 t) (fun e => iblk m c 4 t (ix2 2 e))) y := by
  by_cases h1 : t.val % 8 = 7
  · rw [outsAt0_C m c t h0 h1]; frame_open
    simp (disch := decide) only [↓ View.readCov_skip, ↓ View.readCov_cons_toLoadRect, ↓ View.readCov_fill]
    frame_out
    simp only [Idealize.ShloMosaic.read_unread_whole]
    exact halves_canon _ _ _ _ _ _ [] y
  · rw [outsAt0_B m c t h0 h1]; frame_open
    simp (disch := decide) only [↓ View.readCov_skip, ↓ View.readCov_cons_toLoadRect, ↓ View.readCov_fill]
    frame_out
    simp only [Idealize.ShloMosaic.read_unread_whole]
    exact halves_canon _ _ _ _ _ _ [] y

/-- The last point copies the sums it has just completed. -/
theorem copied (c : Dev nD) (t : Fin cfg0.N) (h0 : ¬ t.val % 8 = 0) (h1 : t.val % 8 = 7) :
    (outsAt0 m c t.val t.isLt).2.2.2 = (outsAt0 m c t.val t.isLt).2.2.1 := by
  rw [outsAt0_C m c t h0 h1]
  simp only [hbw0_C_0, sout0_C_0, kernelRun0_C, kernelRun0_C.sl.dma22]
  refine (View.write_whole_univ _ _ _).trans ?_
  refine (View.read_writes_eq_canon _ _ _ fun y => ?_).trans (View.read_writes_junk_eq_canon _ _).symm
  exact scover0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y

end Cert.MixOut

end
-- ==== Proof.OutRows.lean ====
/-
  The gradient at the output projection: the rows of sums.
-/
module

public import proofs.«01_k».proof.Proof.OutBlocks

@[expose] public section

set_option maxRecDepth 16384

noncomputable section

open Idealize.ShloMosaic Idealize.ShloMosaic.TcCoe Idealize.SL.Sem
open Idealize.ShloMosaic.Pipeline (Dat)

namespace Cert.MixOut

open Cert.KernelOutIdeal Cert.KernelOutIdeal.Gen

variable (m : (ℓ : Loc nD τ sig) → Buf (Elt Ideal) ℓ)

/-- The two rows of sums over a block: for the gate, and for the gain. -/
def sums (dx x : Vec Ideal S512x1024 .f32) (g : Vec Ideal S1x1024 .f32) (gt : Fin 1024 → EReal) (y : S8x1024.Idx) : EReal :=
  if (y 0 : ℕ) = 0 then ∑ p : Fin 512, dx (ix2 p (y 1)) * (x (ix2 p (y 1)) * rs x p * g (ix2 0 (y 1)))
  else if (y 0 : ℕ) = 1 then ∑ p : Fin 512, dx (ix2 p (y 1)) * gt (y 1) * (x (ix2 p (y 1)) * rs x p)
  else 0

theorem sums_zero (dx x g gt) (d : Fin 1024) : sums dx x g gt (ix2 0 d)
    = ∑ p : Fin 512, dx (ix2 p d) * (x (ix2 p d) * rs x p * g (ix2 0 d)) := if_pos rfl

theorem sums_one (dx x g gt) (d : Fin 1024) : sums dx x g gt (ix2 1 d)
    = ∑ p : Fin 512, dx (ix2 p d) * gt d * (x (ix2 p d) * rs x p) :=
  (if_neg Nat.one_ne_zero).trans (if_pos rfl)

theorem sums_rest (dx x g gt) (y : S8x1024.Idx) (h : 2 ≤ (y 0 : ℕ)) : sums dx x g gt y = 0 := by
  unfold sums
  rw [if_neg (by omega), if_neg (by omega)]

/-- Column `d` of row `k`, as the row's rectangle places it. -/
theorem row_emb (k : ℕ) (hk : k < 8) (inb) (d : Fin 1024) :
    (Rect.unit (s := S8x1024) ![k, 0] ![1, 1024] inb).emb (ix2 0 d) = ix2 ⟨k, hk⟩ d := by
  funext a
  apply Fin.ext
  match a with
  | ⟨0, _⟩ => show k + 1 * 0 = k; omega
  | ⟨1, _⟩ => show 0 + 1 * (d : ℕ) = d; omega

theorem row_mem (k : ℕ) (inb) (y : S8x1024.Idx) (h : (y 0 : ℕ) = k) :
    y ∈ (Rect.unit (s := S8x1024) ![k, 0] ![1, 1024] inb).set := by
  refine Rect.mem_set_unit.mpr fun a => ?_
  match a with
  | ⟨0, _⟩ => exact ⟨h.ge, by show (y 0 : ℕ) < k + 1; omega⟩
  | ⟨1, _⟩ => exact ⟨Nat.zero_le _, by show (y 1 : ℕ) < 0 + 1024; have := (y 1).isLt; simpa using this⟩

section Stores

variable (dx x : Vec Ideal S512x1024 .f32) (g : Vec Ideal S1x1024 .f32) (md : Vec Ideal S6x1024 .f32) (prev : Vec Ideal S8x1024 .f32)

/-- The contents before, with the block's sums. -/
abbrev after (y : S8x1024.Idx) : EReal := prev y + sums dx x g (fun e => md (ix2 2 e)) y

/-- The two stores. -/
abbrev rows : List (View.Piece (Elt Ideal) S8x1024 .f32) :=
  [⟨Rect.unit ![1, 0] ![1, 1024] inb_S8x1024_S1x1024_1_0,
      k0_pay8 dx x (gate md) (View.ld prev (Rect.unit ![1, 0] ![1, 1024] inb_S8x1024_S1x1024_1_0))⟩,
    ⟨Rect.unit ![0, 0] ![1, 1024] inb_S8x1024_S1x1024_0_0,
      k0_pay6 dx x (View.ld prev (Rect.unit ![0, 0] ![1, 1024] inb_S8x1024_S1x1024_0_0)) g⟩]

theorem rows_pieces : View.PiecesOf (after dx x g md prev) (rows dx x g md prev) := by
  refine ⟨fun y => ?_, fun y => ?_, trivial⟩
  · simp only []
    have hg : ∀ e, gate md (ix2 0 e) = md (ix2 2 e) := ld_gate md _
    generalize gate md = q at hg ⊢
    rw [pay8_apply, View.ld_apply]
    obtain ⟨b, e, rfl⟩ : ∃ (b : Fin 1) (e : Fin 1024), y = ix2 b e := ⟨y 0, y 1, eq_ix2 y⟩
    obtain rfl : b = 0 := Subsingleton.elim _ _
    refine congrArg₂ (· + ·) rfl ?_
    rw [row_emb 1 (by decide)]
    refine Eq.trans ?_ (sums_one dx x g (fun e => md (ix2 2 e)) e).symm
    simp only [ix2_0, ix2_1, pay7_apply, pay5_apply, rs_eq, hg]
  · simp only []
    rw [pay6_apply, View.ld_apply]
    obtain ⟨b, e, rfl⟩ : ∃ (b : Fin 1) (e : Fin 1024), y = ix2 b e := ⟨y 0, y 1, eq_ix2 y⟩
    obtain rfl : b = 0 := Subsingleton.elim _ _
    refine congrArg₂ (· + ·) rfl ?_
    rw [row_emb 0 (by decide)]
    refine Eq.trans ?_ (sums_zero dx x g (fun e => md (ix2 2 e)) e).symm
    simp only [ix2_0, ix2_1, pay5_apply, rs_eq]

theorem rows_rest (y) (hy : ∀ p ∈ rows dx x g md prev, y ∉ p.1.set) : after dx x g md prev y = prev y := by
  have h : 2 ≤ (y 0 : ℕ) := by
    by_contra hlt
    rcases (by omega : (y 0 : ℕ) = 0 ∨ (y 0 : ℕ) = 1) with h | h
    · exact hy _ (List.mem_cons_of_mem _ List.mem_cons_self) (row_mem 0 inb_S8x1024_S1x1024_0_0 y h)
    · exact hy _ List.mem_cons_self (row_mem 1 inb_S8x1024_S1x1024_1_0 y h)
  unfold after
  rw [sums_rest _ _ _ _ y h, add_zero]

/-- The stores over what the point before left. -/
theorem rows_read {κ : Kind} {sp : Space} (v : View sig κ sp S8x1024 .f32) (f : v.ty.Contents (Elt Ideal)) (hf : v.read (Elt Ideal) f = prev) (y) :
    v.read (Elt Ideal) (v.writes (Elt Ideal) f (rows dx x g md prev)) y = after dx x g md prev y := by
  refine Whole.read_writes_of_piecesOf v _ _ _ (rows_pieces dx x g md prev) (fun y hy => ?_) y
  rw [rows_rest dx x g md prev y hy, hf]

/-- The stores over a fill. -/
theorem rows_fill (inb) (y) : View.canon (rows dx x g md (k0_pay2 (F := Ideal)) ++ [⟨Rect.unit ![0, 0] ![8, 1024] inb, k0_pay2 (F := Ideal)⟩]) y
    = after dx x g md (k0_pay2 (F := Ideal)) y := by
  refine Whole.canon_of_piecesOf_over (Val := Elt Ideal) (s := S8x1024) (e := .f32) (after dx x g md (k0_pay2 (F := Ideal))) _ _
    (rows_pieces dx x g md (k0_pay2 (F := Ideal))) (fun y hy => ?_) y
  rw [rows_rest dx x g md _ y hy]
  exact congrFun (View.canon_cons_unit_lit inb _ _ (by decide)) y

end Stores

theorem st_first (c : Dev nD) (t : Fin cfg0.N) (h0 : t.val % 8 = 0) (y) : (outsAt0 m c t.val t.isLt).2.1 y = sums (iblk m c 0 t) (iblk m c 1 t) (iblk m c 5 t) (fun e => iblk m c 4 t (ix2 2 e)) y := by
  have h1 : ¬ t.val % 8 = 7 := by omega
  rw [outsAt0_A m c t h0 h1]; frame_open
  simp (disch := decide) only [↓ View.readCov_skip, ↓ View.readCov_cons_toLoadRect, ↓ View.readCov_fill]
  frame_out
  refine (rows_fill (iblk m c 0 t) (iblk m c 1 t) (iblk m c 5 t) (iblk m c 4 t) inb_S8x1024_S8x1024_0_0 y).trans ?_
  unfold after
  rw [pay2_apply, zero_add]

theorem st_next (c : Dev nD) (t : Fin cfg0.N) (h0 : ¬ t.val % 8 = 0) (y) : (outsAt0 m c t.val t.isLt).2.1 y
    = (outsAt0 m c (t.val - 1) (by omega)).2.1 y + sums (iblk m c 0 t) (iblk m c 1 t) (iblk m c 5 t) (fun e => iblk m c 4 t (ix2 2 e)) y := by
  by_cases h1 : t.val % 8 = 7
  · rw [outsAt0_C m c t h0 h1]; frame_open
    simp (disch := decide) only [↓ View.readCov_skip, ↓ View.readCov_cons_toLoadRect, ↓ View.readCov_fill]
    frame_out
    generalize hp : outsAt0 m c (t.val - 1) _ = prev
    exact rows_read (iblk m c 0 t) (iblk m c 1 t) (iblk m c 5 t) (iblk m c 4 t) prev.2.1 _ _ (Memref.IsWhole.read_unread _ _) y
  · rw [outsAt0_B m c t h0 h1]; frame_open
    simp (disch := decide) only [↓ View.readCov_skip, ↓ View.readCov_cons_toLoadRect, ↓ View.readCov_fill]
    frame_out
    generalize hp : outsAt0 m c (t.val - 1) _ = prev
    exact rows_read (iblk m c 0 t) (iblk m c 1 t) (iblk m c 5 t) (iblk m c 4 t) prev.2.1 _ _ (Memref.IsWhole.read_unread _ _) y

end Cert.MixOut

end
-- ==== Proof.OutFinal.lean ====
/-
  The gradient at the output projection: the kernel's three arrays as functions of its operands.
-/
module

public import proofs.«01_k».proof.Proof.OutRows
public import proofs.«01_k».proof.Proof.BwdFinal

@[expose] public section

set_option maxRecDepth 16384

noncomputable section

open Idealize.ShloMosaic Idealize.ShloMosaic.TcCoe Idealize.SL.Sem
open Idealize.ShloMosaic.Pipeline (Dat)

namespace Cert.MixOut

open Cert.KernelOutIdeal Cert.KernelOutIdeal.Gen
open Cert.FfnBwd (RS)

variable (m : (ℓ : Loc nD τ sig) → Buf (Elt Ideal) ℓ)

/-- The gradient at the norm's input. -/
def DY (dx x : S4096x1024.Idx → EReal) (g : S1x1024.Idx → EReal) (md : S6x1024.Idx → EReal) (i : S4096x1024.Idx) : EReal :=
  RS x (i 0) * (dx i * md (ix2 2 (i 1)) * g (ix2 0 (i 1)) - x i * RS x (i 0) * Ideal.div
    (∑ e : Fin 1024, dx (ix2 (i 0) e) * md (ix2 2 e) * g (ix2 0 e) * (x (ix2 (i 0) e) * RS x (i 0))) (Ideal.ofBits .f32 0x44800000#32))

/-- The gradient at the projection's input. -/
def DC (dy : S4096x1024.Idx → EReal) (w : S1024x1024.Idx → EReal) (i : S4096x1024.Idx) : EReal :=
  ∑ k : Fin 1024, dy (ix2 (i 0) k) * w (ix2 (i 1) k)

/-- The projection's gradient. -/
def DW (cat dy : S4096x1024.Idx → EReal) (i : S1024x1024.Idx) : EReal :=
  ∑ t : Fin 4096, cat (ix2 t (i 0)) * dy (ix2 t (i 1))

/-- The rows of sums. -/
def ST (dx x : S4096x1024.Idx → EReal) (g : S1x1024.Idx → EReal) (md : S6x1024.Idx → EReal) (j : S8x1024.Idx) : EReal :=
  if (j 0 : ℕ) = 0 then ∑ t : Fin 4096, dx (ix2 t (j 1)) * (x (ix2 t (j 1)) * RS x t * g (ix2 0 (j 1)))
  else if (j 0 : ℕ) = 1 then ∑ t : Fin 4096, dx (ix2 t (j 1)) * md (ix2 2 (j 1)) * (x (ix2 t (j 1)) * RS x t)
  else 0

theorem idx : ∀ t : Fin cfg0.N, win0_0.index t = ![t.val, 0] ∧ win0_1.index t = ![t.val, 0] ∧
    win0_2.index t = ![t.val, 0] ∧ win0_3.index t = ![0, 0] ∧
    win0_4.index t = ![0, 0] ∧ win0_5.index t = ![0, 0] ∧
    win0_6.index t = ![t.val, 0] ∧ win0_7.index t = ![0, 0] :=
  (by decide +kernel : ∀ t : Fin grid0.N, _)

/-- The operands, by name. -/
abbrev dxA (c : Dev nD) : S4096x1024.Idx → EReal := m ((c : Thread nD τ).loc main_arg0)
abbrev xA (c : Dev nD) : S4096x1024.Idx → EReal := m ((c : Thread nD τ).loc main_arg1)
abbrev catA (c : Dev nD) : S4096x1024.Idx → EReal := m ((c : Thread nD τ).loc main_arg2)
abbrev wA (c : Dev nD) : S1024x1024.Idx → EReal := m ((c : Thread nD τ).loc main_arg3)
abbrev mdA (c : Dev nD) : S6x1024.Idx → EReal := m ((c : Thread nD τ).loc main_arg4)
abbrev gA (c : Dev nD) : S1x1024.Idx → EReal := m ((c : Thread nD τ).loc main_arg5)

theorem t_lt (t : Fin cfg0.N) : t.val < 8 := lt_of_lt_of_eq t.isLt (show cfg0.N = 8 from N_0)

/-- Row `p` of the block of point `t`. -/
abbrev row (t : Fin cfg0.N) (p : Fin 512) : Fin 4096 := ⟨512 * t.val + p, by have := t_lt t; omega⟩

theorem cat_host (c : Dev nD) : (V m c main_v0 : FVec Ideal S4096x1024 .bf16)
    = (truncf .bf16 (m ((c : Thread nD τ).loc main_arg2) : FVec Ideal S4096x1024 .f32) bitsLt_bf16_f32 : FVec Ideal S4096x1024 .bf16) := by
  unfold V
  unfold_abbrev_sides
  after_results

theorem w_host (c : Dev nD) : (V m c main_v1 : FVec Ideal S1024x1024 .bf16)
    = (truncf .bf16 (m ((c : Thread nD τ).loc main_arg3) : FVec Ideal S1024x1024 .f32) bitsLt_bf16_f32 : FVec Ideal S1024x1024 .bf16) := by
  unfold V
  unfold_abbrev_sides
  after_results

theorem dx_blk (c : Dev nD) (t : Fin cfg0.N) (p : Fin 512) (d : Fin 1024) : iblk m c 0 t (ix2 p d) = dxA m c (ix2 (row t p) d) := by
  blk_point [iblk, idx t]

theorem x_blk (c : Dev nD) (t : Fin cfg0.N) (p : Fin 512) (d : Fin 1024) : iblk m c 1 t (ix2 p d) = xA m c (ix2 (row t p) d) := by
  blk_point [iblk, idx t]

theorem cat_blk (c : Dev nD) (t : Fin cfg0.N) (p : Fin 512) (d : Fin 1024) : iblk m c 2 t (ix2 p d) = catA m c (ix2 (row t p) d) := by
  have e : iblk m c 2 t (ix2 p d) = (V m c main_v0 : FVec Ideal S4096x1024 .bf16) (ix2 (row t p) d) := by
    show V m c main_v0 _ = V m c main_v0 _
    refine congrArg (V m c main_v0) ?_
    blk_point [idx t]
  rw [e, cat_host]
  rfl

theorem w_blk (c : Dev nD) (t : Fin cfg0.N) (a : Fin 1024) (d : Fin 1024) : iblk m c 3 t (ix2 a d) = wA m c (ix2 a d) := by
  have e : iblk m c 3 t (ix2 a d) = (V m c main_v1 : FVec Ideal S1024x1024 .bf16) (ix2 a d) := by
    show V m c main_v1 _ = V m c main_v1 _
    refine congrArg (V m c main_v1) ?_
    blk_point [idx t]
  rw [e, w_host]
  rfl

theorem md_blk (c : Dev nD) (t : Fin cfg0.N) (d : Fin 1024) : iblk m c 4 t (ix2 2 d) = mdA m c (ix2 2 d) := by
  blk_point [iblk, idx t]

theorem g_blk (c : Dev nD) (t : Fin cfg0.N) (d : Fin 1024) : iblk m c 5 t (ix2 0 d) = gA m c (ix2 0 d) := by
  blk_point [iblk, idx t]

theorem rs_blk (c : Dev nD) (t : Fin cfg0.N) (p : Fin 512) : rs (iblk m c 1 t) p = RS (xA m c) (row t p) := by
  unfold rs RS
  simp only [x_blk]

abbrev DYA (c : Dev nD) : S4096x1024.Idx → EReal := DY (dxA m c) (xA m c) (gA m c) (mdA m c)

theorem dy_blk (c : Dev nD) (t : Fin cfg0.N) (p : Fin 512) (d : Fin 1024) :
    dy (iblk m c 0 t) (iblk m c 1 t) (iblk m c 5 t) (fun e => iblk m c 4 t (ix2 2 e)) (ix2 p d) = DYA m c (ix2 (row t p) d) := by
  unfold dy DYA DY
  simp only [ix2_0, ix2_1, dx_blk, x_blk, md_blk, g_blk, rs_blk]

/-- A sum over the points' rows is the sum over the sequence. -/
theorem all_rows (t : Fin cfg0.N) (f : Fin 4096 → EReal) (F : Fin 8 → EReal)
    (hF : ∀ s : Fin 8, F s = ∑ p : Fin 512, f ⟨512 * (s : ℕ) + p, by omega⟩) : ∑ s : Fin 8, F s = ∑ q, f q := by
  simp only [hF]
  exact Fin.sum_mul_add_congr (S := 8) (n := 512) (F := fun (s : Fin 8) (p : Fin 512) => f ⟨512 * (s : ℕ) + p, by omega⟩) (f := f)
    fun s p hl => congrArg f (Fin.ext (by show 512 * (s : ℕ) + p = s * 512 + p; ring))

theorem st_sum (c : Dev nD) (t : Fin cfg0.N) (h : t.val % 8 = 7) (j) :
    (outsAt0 m c t.val t.isLt).2.1 j = ST (dxA m c) (xA m c) (gA m c) (mdA m c) j := by
  have e := Pipeline.eq_sum_fin_of_reset_step_apply_of_flush (fun n h => (outsAt0 m c n h).2.1) 8 (fun _ => (0 : EReal))
    (fun t => sums (iblk m c 0 t) (iblk m c 1 t) (iblk m c 5 t) (fun e => iblk m c 4 t (ix2 2 e)))
    (fun t h j => by rw [zero_add]; exact st_first m c t h j) (fun t h j => st_next m c t h j) t h j
  refine e.trans ?_
  rw [zero_add]
  have ht : t.val = 7 := by have := t_lt t; omega
  obtain ⟨k, d, rfl⟩ : ∃ (k : Fin 8) (d : Fin 1024), j = ix2 k d := ⟨j 0, j 1, eq_ix2 j⟩
  have e0 (s : Fin 8) : 8 * (t.val / 8) + s.val = s.val := by omega
  by_cases h0 : (k : ℕ) = 0
  · refine Eq.trans ?_ (if_pos h0).symm
    refine all_rows t (fun q => dxA m c (ix2 q d) * (xA m c (ix2 q d) * RS (xA m c) q * gA m c (ix2 0 d))) _ fun s => ?_
    refine (if_pos h0).trans ?_
    simp only [ix2_1, dx_blk, x_blk, rs_blk, g_blk, row, e0]
  by_cases h1 : (k : ℕ) = 1
  · refine Eq.trans ?_ ((if_neg h0).trans (if_pos h1)).symm
    refine all_rows t (fun q => dxA m c (ix2 q d) * mdA m c (ix2 2 d) * (xA m c (ix2 q d) * RS (xA m c) q)) _ fun s => ?_
    refine ((if_neg h0).trans (if_pos h1)).trans ?_
    simp only [ix2_1, dx_blk, x_blk, rs_blk, md_blk, row, e0]
  · refine Eq.trans ?_ ((if_neg h0).trans (if_neg h1)).symm
    exact Finset.sum_eq_zero fun s _ => (if_neg h0).trans (if_neg h1)

theorem DW_apply (cat dy : S4096x1024.Idx → EReal) (a b : Fin 1024) : DW cat dy (ix2 a b) = ∑ t : Fin 4096, cat (ix2 t a) * dy (ix2 t b) := rfl

theorem prod_apply (cat : Vec Ideal S512x1024 .bf16) (h : S512x1024.Idx → EReal) (a b : Fin 1024) :
    prod cat h (ix2 a b) = ∑ p : Fin 512, cat (ix2 p a) * h (ix2 p b) := rfl

theorem acc_sum (c : Dev nD) (t : Fin cfg0.N) (h : t.val % 8 = 7) (j) :
    (outsAt0 m c t.val t.isLt).2.2.1 j = DW (catA m c) (DYA m c) j := by
  have e := Pipeline.eq_sum_fin_of_reset_step_apply_of_flush (fun n h => (outsAt0 m c n h).2.2.1) 8 (fun _ => (0 : EReal))
    (fun t => prod (iblk m c 2 t) (dy (iblk m c 0 t) (iblk m c 1 t) (iblk m c 5 t) (fun e => iblk m c 4 t (ix2 2 e))))
    (fun t h j => by rw [zero_add]; exact acc_first m c t h j) (fun t h j => acc_next m c t h j) t h j
  refine e.trans ?_
  rw [zero_add]
  have ht : t.val = 7 := by have := t_lt t; omega
  have e0 (s : Fin 8) : 8 * (t.val / 8) + s.val = s.val := by omega
  obtain ⟨a, b, rfl⟩ : ∃ (a : Fin 1024) (b : Fin 1024), j = ix2 a b := ⟨j 0, j 1, eq_ix2 j⟩
  rw [DW_apply]
  refine all_rows t (fun q => catA m c (ix2 q a) * DYA m c (ix2 q b)) _ fun s => ?_
  rw [prod_apply]
  simp only [cat_blk, dy_blk, row, e0]

/-- The last point's copy. -/
theorem w_at (c : Dev nD) (t : Fin cfg0.N) (h : t.val % 8 = 7) : (outsAt0 m c t.val t.isLt).2.2.2 = DW (catA m c) (DYA m c) :=
  (copied m c t (by omega) h).trans (funext fun j => acc_sum m c t h j)

/-- The first result: the gradient at the projection's input. -/
theorem final6 (c : Dev nD) : (dats m 0 c).arrAt 6 cfg0.N = DC (DYA m c) (wA m c) := by
  refine (dats m 0 c).arrAt_eq_of_covers 6 _ (by decide +kernel) fun t hf y => ?_
  blk_simp
  rw [after0_6]
  obtain ⟨p, q, rfl⟩ : ∃ (p : Fin 512) (q : Fin 1024), y = ix2 p q := ⟨y 0, y 1, eq_ix2 y⟩
  rw [dcat_point]
  simp only [dy_blk, w_blk]
  refine Eq.trans (b := DC (DYA m c) (wA m c) (ix2 (row t p) q)) rfl (congrArg (DC (DYA m c) (wA m c)) ?_)
  blk_point [idx t]

/-- The second: the rows of sums. -/
theorem final7 (c : Dev nD) : (dats m 0 c).arrAt 7 cfg0.N = ST (dxA m c) (xA m c) (gA m c) (mdA m c) := by
  refine (dats m 0 c).arrAt_eq_of_covers 7 _ (by decide +kernel) fun t hf y => ?_
  blk_simp
  rw [after0_7]
  obtain ⟨p, q, rfl⟩ : ∃ (p : Fin 8) (q : Fin 1024), y = ix2 p q := ⟨y 0, y 1, eq_ix2 y⟩
  refine (st_sum m c t ((flush0_7 t).mp hf) _).trans (congrArg (ST (dxA m c) (xA m c) (gA m c) (mdA m c)) ?_)
  blk_point [idx t]

/-- The third: the projection's gradient, as the last point copies it. -/
theorem final_w (c : Dev nD) (n : ℕ) (h : n < cfg0.N) (e : n = 7) : (outsAt0 m c n h).2.2.2 = DW (catA m c) (DYA m c) :=
  w_at m c ⟨n, h⟩ (by show n % 8 = 7; omega)

theorem last_point : (Fin.last cfg0.N).val - 1 = 7 := by
  rw [Fin.val_last, show cfg0.N = 8 from N_0]

end Cert.MixOut

end
-- ==== Proof.OutRef.lean ====
/-
  The gradient at the output projection: what the reference computes, entry by entry.
-/
module

public import proofs.«01_k».proof.Proof.Gen.ReferenceOutIdeal.Read
public import proofs.«01_k».proof.Proof.Gen.ReferenceOutIdeal
public import proofs.«01_k».proof.Proof.OutFinal
public import proofs.«01_k».proof.Proof.BwdRef

@[expose] public section

set_option maxRecDepth 16384

noncomputable section

open Idealize.ShloMosaic Idealize.ShloMosaic.TcCoe Idealize.SL.Sem
open Idealize.ShloMosaic.Pipeline (Dat)

namespace Cert.MixOut.Ref

open Cert.ReferenceOutIdeal Cert.ReferenceOutIdeal.Gen Cert.ReferenceOutIdeal.Read
open Cert.FfnBwd (RS)
open Cert.FfnBwd.Ref (MS)

variable (dx x cat : FVec Ideal S4096x1024 .f32) (w : FVec Ideal S1024x1024 .f32)
  (md : FVec Ideal S6x1024 .f32) (g : FVec Ideal S1x1024 .f32)

theorem ms_eq (t : Fin 4096) : val_main_v7 (F := Ideal) x (ix2 t 0) = MS x t := by
  pointwise [val_main_v7, val_main_v6, val_main_v5, val_main_v4, val_main_v3, val_main_v2, val_main_v1, val_main_cst, val_main_cst_0, val_main_cst_1, MS]

theorem rs_eq (t : Fin 4096) : val_main_v8 (F := Ideal) x (ix2 t 0) = RS x t :=
  congrArg Ideal.rsqrt (ms_eq x t)

theorem xn_eq (t : Fin 4096) (d : Fin 1024) : val_main_v13 (F := Ideal) x (ix2 t d) = x (ix2 t d) * RS x t := by
  rw [← rs_eq]
  unfold val_main_v13 val_main_v12
  generalize val_main_v8 (F := Ideal) x = r
  pointwise []

theorem gt_eq (d : Fin 1024) : val_main_v0 (F := Ideal) md (ix2 0 d) = md (ix2 2 d) := by
  pointwise [val_main_v0]

theorem up_eq (t : Fin 4096) (d : Fin 1024) : val_main_v19 (F := Ideal) dx md (ix2 t d) = md (ix2 2 d) * dx (ix2 t d) := by
  unfold val_main_v19 val_main_v18
  have hs := gt_eq md
  generalize val_main_v0 (F := Ideal) md = s at hs ⊢
  pointwise []
  simp only [hs]

theorem sum_gate (d : Fin 1024) : val_main_v22 (F := Ideal) dx x g (ix2 0 d)
    = ∑ t : Fin 4096, dx (ix2 t d) * (x (ix2 t d) * RS x t * g (ix2 0 d)) := by
  unfold val_main_v22 val_main_v21 val_main_v20 val_main_v15 val_main_v14
  simp only [← xn_eq]
  generalize val_main_v13 (F := Ideal) x = n
  pointwise [val_main_cst_3]

theorem sum_gain (d : Fin 1024) : val_main_v25 (F := Ideal) dx x md (ix2 0 d)
    = ∑ t : Fin 4096, x (ix2 t d) * RS x t * (md (ix2 2 d) * dx (ix2 t d)) := by
  unfold val_main_v25 val_main_v24 val_main_v23
  simp only [← xn_eq, ← up_eq]
  generalize val_main_v13 (F := Ideal) x = n
  generalize val_main_v19 (F := Ideal) dx md = u
  pointwise [val_main_cst_4]

/-- The derivative of the norm's factor, times what it meets. -/
def RC (t : Fin 4096) : EReal :=
  Ideal.div ((∑ e : Fin 1024, x (ix2 t e) * (md (ix2 2 e) * dx (ix2 t e) * g (ix2 0 e)))
    * (Ideal.ofBits .f32 0xBF000000#32 * Ideal.div (RS x t) (MS x t))) (Ideal.ofBits .f32 0x44800000#32)

theorem rc_eq (t : Fin 4096) : val_main_v36 (F := Ideal) dx x md g (ix1 t) = RC dx x md g t := by
  unfold RC
  simp only [← up_eq, ← rs_eq, ← ms_eq]
  unfold val_main_v36 val_main_v35 val_main_v33 val_main_v30 val_main_v29 val_main_v28 val_main_v27 val_main_v26 val_main_v11 val_main_v9
  generalize val_main_v8 (F := Ideal) x = r
  generalize val_main_v7 (F := Ideal) x = r2
  generalize val_main_v19 (F := Ideal) dx md = u
  pointwise [val_main_cst_7, val_main_cst_6, val_main_cst_5, val_main_cst_2, val_main_v10, val_main_v34]
  simp only [Fin.sum_univ_one]

/-- The reference's gradient at the norm's input. -/
def RDY (i : S4096x1024.Idx) : EReal :=
  md (ix2 2 (i 1)) * dx i * g (ix2 0 (i 1)) * RS x (i 0) + x i * RC dx x md g (i 0) + RC dx x md g (i 0) * x i

theorem dy_eq (t : Fin 4096) (d : Fin 1024) : val_main_v41 (F := Ideal) dx x md g (ix2 t d) = RDY dx x md g (ix2 t d) := by
  unfold RDY
  simp only [ix2_0, ix2_1, ← up_eq, ← rs_eq, ← rc_eq]
  unfold val_main_v41 val_main_v40 val_main_v39 val_main_v38 val_main_v37 val_main_v32 val_main_v31 val_main_v27 val_main_v26
  generalize val_main_v36 (F := Ideal) dx x md g = c
  generalize val_main_v8 (F := Ideal) x = r
  generalize val_main_v19 (F := Ideal) dx md = u
  pointwise []

theorem dc_eq (t : Fin 4096) (d : Fin 1024) : val_main_v45 (F := Ideal) dx x w md g (ix2 t d) = DC (RDY dx x md g) w (ix2 t d) := by
  unfold DC
  simp only [ix2_0, ix2_1, ← dy_eq]
  unfold val_main_v45
  generalize val_main_v41 (F := Ideal) dx x md g = h
  pointwise []

theorem dw_eq (a b : Fin 1024) : val_main_v44 (F := Ideal) dx x cat md g (ix2 a b)
    = ∑ t : Fin 4096, RDY dx x md g (ix2 t b) * cat (ix2 t a) := by
  simp only [← dy_eq]
  unfold val_main_v44 val_main_v43
  generalize val_main_v41 (F := Ideal) dx x md g = h
  pointwise []

/-- The reference's rows of sums. -/
def RST (j : S8x1024.Idx) : EReal :=
  if (j 0 : ℕ) = 0 then ∑ t : Fin 4096, dx (ix2 t (j 1)) * (x (ix2 t (j 1)) * RS x t * g (ix2 0 (j 1)))
  else if (j 0 : ℕ) = 1 then ∑ t : Fin 4096, x (ix2 t (j 1)) * RS x t * (md (ix2 2 (j 1)) * dx (ix2 t (j 1)))
  else 0

theorem st_eq (k : Fin 8) (d : Fin 1024) : val_main_v47 (F := Ideal) dx x md g (ix2 k d) = RST dx x md g (ix2 k d) := by
  unfold RST val_main_v47 val_main_v46
  simp only [ix2_0, ix2_1, ← sum_gate, ← sum_gain]
  generalize val_main_v22 (F := Ideal) dx x g = a
  generalize val_main_v25 (F := Ideal) dx x md = b
  pointwise [val_main_cst_8]
  by_cases h0 : (k : ℕ) = 0
  · rw [dif_pos (by omega), if_pos h0]
    exact congrArg (fun z : Fin 1 => a (ix2 z d)) (Subsingleton.elim _ _)
  by_cases h1 : (k : ℕ) = 1
  · rw [dif_neg (by omega), dif_pos (by omega), if_neg h0, if_pos h1]
    exact congrArg (fun z : Fin 1 => b (ix2 z d)) (Subsingleton.elim _ _)
  · rw [dif_neg (by omega), dif_neg (by omega), if_neg h0, if_neg h1]

end Cert.MixOut.Ref

end
-- ==== Proof.OutClaim.lean ====
/-
  The gradient at the output projection: the kernel's functions are the reference's, for finite operands; and the claim.
-/
module

public import proofs.«01_k».proof.Proof.OutRef
public import proofs.«01_k».proof.Proof.BwdEq
public import proofs.«01_k».proof.Proof.Gen.Pre_finite_out
public import proofs.«01_k».proof.Defs

@[expose] public section

set_option maxRecDepth 16384

noncomputable section

open Idealize.ShloMosaic Idealize.ShloMosaic.TcCoe Idealize.SL.Sem
open Idealize.ShloMosaic.Pipeline (Dat)

namespace Cert.MixOut.Eq

open Cert.ReferenceOutIdeal Cert.MixOut.Ref Cert.Reals
open Cert.FfnBwd (RS)
open Cert.FfnBwd.Eq (ms ms_pos ms_real rs_real)

theorem dy_fun (D X : S4096x1024.Idx → ℝ) (M : S6x1024.Idx → ℝ) (G : S1x1024.Idx → ℝ) :
    DY (fun i => (D i : EReal)) (fun i => (X i : EReal)) (fun i => (G i : EReal)) (fun i => (M i : EReal))
    = RDY (fun i => (D i : EReal)) (fun i => (X i : EReal)) (fun i => (M i : EReal)) (fun i => (G i : EReal)) := by
  funext i
  obtain ⟨t, d, rfl⟩ : ∃ (t : Fin 4096) (d : Fin 1024), i = ix2 t d := ⟨i 0, i 1, eq_ix2 i⟩
  unfold DY RDY RC
  simp only [ix2_0, ix2_1]
  have hm := (ms_pos X t).ne'
  simp only [rs_real, ms_real, lit_neg_half, lit_1024, ← EReal.coe_mul, ← EReal.coe_add, coe_sum, div_real _ hm,
    div_real _ (show (1024 : ℝ) ≠ 0 by norm_num), ← EReal.coe_sub]
  refine congrArg (fun z : ℝ => (z : EReal)) ?_
  have e := rms_bwd (fun k : Fin 1024 => X (ix2 t k)) (fun k => D (ix2 t k) * M (ix2 2 k) * G (ix2 0 k)) (ms X t) (ms_pos X t) d 1024
  simp only [← mul_assoc] at e ⊢
  simp only [mul_comm (M _) (D _), mul_assoc, mul_left_comm (M _) (D _)] at e ⊢
  exact e

theorem st_fun (dx x md g) (j) : ST dx x g md j = RST dx x md g j := by
  unfold ST RST
  refine if_congr Iff.rfl rfl (if_congr Iff.rfl ?_ rfl)
  exact Finset.sum_congr rfl fun t _ => by rw [mul_comm (md _) (dx _), mul_comm]

end Cert.MixOut.Eq

namespace Cert.MixOut

open Cert.KernelOutIdeal in
/-- Where the operands are finite, they are real numbers and the kernel's gradient at the norm's input is the reference's. -/
theorem same (m : (ℓ : Loc nD τ sig) → Buf (Elt Ideal) ℓ) (c : Dev nD)
    (hpre : Cert.Pre_KernelOutIdeal_finite_out (hPre_finite_out := Cert.Pre_finite_out.Gen.facts) m) :
    DYA m c = Ref.RDY (dxA m c) (xA m c) (mdA m c) (gA m c) := by
  obtain ⟨h0, h1, h4, h5⟩ := hpre c
  obtain ⟨D, e0⟩ := Reals.real_of_finite _ _ h0
  obtain ⟨X, e1⟩ := Reals.real_of_finite _ _ h1
  obtain ⟨M, e4⟩ := Reals.real_of_finite _ _ h4
  obtain ⟨G, e5⟩ := Reals.real_of_finite _ _ h5
  unfold DYA
  rw [show dxA m c = _ from e0, show xA m c = _ from e1, show mdA m c = _ from e4, show gA m c = _ from e5]
  exact Eq.dy_fun D X M G

open Cert.ReferenceOutIdeal in
theorem ref_dc (dx : FVec Ideal S4096x1024 .f32) (x w md g) :
    Read.val_main_v45 (F := Ideal) dx x w md g = DC (Ref.RDY dx x md g) w := by
  funext i
  rw [eq_ix2 i]
  exact Ref.dc_eq dx x w md g _ _

open Cert.ReferenceOutIdeal in
theorem ref_st (dx : FVec Ideal S4096x1024 .f32) (x md g) :
    Read.val_main_v47 (F := Ideal) dx x md g = ST dx x g md := by
  funext i
  rw [Eq.st_fun, eq_ix2 i]
  exact Ref.st_eq dx x md g _ _

open Cert.ReferenceOutIdeal in
theorem ref_dw (dx : FVec Ideal S4096x1024 .f32) (x cat md g) :
    Read.val_main_v44 (F := Ideal) dx x cat md g = DW cat (Ref.RDY dx x md g) := by
  funext i
  rw [eq_ix2 i]
  refine (Ref.dw_eq dx x cat md g _ _).trans ?_
  exact Finset.sum_congr rfl fun t _ => mul_comm _ _

theorem algebraic : Cert.algebraic_KernelOutIdeal_ReferenceOutIdeal_pre_finite_out (hKernelOutIdeal := Cert.KernelOutIdeal.Gen.facts)
    (hReferenceOutIdeal := Cert.ReferenceOutIdeal.Gen.facts) (hPre_finite_out := Cert.Pre_finite_out.Gen.facts) := by
  intro m g m' g' hpre hagree
  refine ⟨fun c => DC (DYA m c) (wA m c), fun c => ST (dxA m c) (xA m c) (gA m c) (mdA m c), fun c => DW (catA m c) (DYA m c), ?_, ?_⟩
  · refine (θ_run _ _ _).mono (fun r h c => ?_) (Cert.KernelOutIdeal.Value.run_blocks m g)
    obtain ⟨a, b, k0, k1, k2, k3, k4, k5, w⟩ := h c
    exact ⟨a.trans (final6 m c), b.trans (final7 m c), w.trans (final_w m c _ _ last_point), k0, k1, k2, k3, k4, k5⟩
  · refine (θ_run _ _ _).mono (fun r h c => ?_) (Cert.ReferenceOutIdeal.Value.run m' g')
    obtain ⟨e0, e1, e2, e3, e4, e5⟩ := hagree c
    have a := same m c hpre
    refine ⟨(h c).1.trans ?_, (h c).2.1.trans ?_, (h c).2.2.1.trans ?_, (h c).2.2.2⟩
    · rw [Cert.ReferenceOutIdeal.Read.val_main_v45_eq, e0, e1, e3, e4, e5]
      exact (ref_dc _ _ _ _ _).trans (congrArg (fun f => DC f (wA m c)) a.symm)
    · rw [Cert.ReferenceOutIdeal.Read.val_main_v47_eq, e0, e1, e4, e5]
      exact ref_st _ _ _ _
    · rw [Cert.ReferenceOutIdeal.Read.val_main_v44_eq, e0, e1, e2, e4, e5]
      exact (ref_dw _ _ _ _ _).trans (congrArg (DW (catA m c)) a.symm)

end Cert.MixOut

end
-- ==== Proof.Step.lean ====
/-
  One entry of the optimiser's step, over the extended reals.
-/
module

public import proofs.«01_k».proof.Proof.Whole

@[expose] public section

set_option maxRecDepth 16384

noncomputable section

open Idealize.ShloMosaic Idealize.ShloMosaic.TcCoe Idealize.SL.Sem
open Idealize.ShloMosaic.Pipeline (Dat)

namespace Cert.Step

/-- The new first moment. -/
def mom (m g : EReal) : EReal := Ideal.ofBits .f32 0x3F666666#32 * m + Ideal.ofBits .f32 0x3DCCCCCD#32 * g

/-- The new second moment. -/
def sec (v g : EReal) : EReal := Ideal.ofBits .f32 0x3F7FBE77#32 * v + Ideal.ofBits .f32 0x3A83126F#32 * (g * g)

/-- The change of the weight. -/
def change (w g m v : EReal) : EReal :=
  Ideal.ofBits .f32 0xBA83126F#32 * (Ideal.div (Ideal.div (mom m g) (Ideal.ofBits .f32 0x3F26BD02#32))
    (Ideal.sqrt (Ideal.div (sec v g) (Ideal.ofBits .f32 0x3C231ACC#32)) + Ideal.ofBits .f32 0x322BCC77#32)
    + Ideal.ofBits .f32 0x3C23D70A#32 * w)

end Cert.Step

end
-- ==== Proof.StepAda.lean ====
/-
  The modulation weight: its gradient, eight rows deep, and the optimiser's step.
-/
module

public import proofs.«01_k».proof.Proof.Step
public import proofs.«01_k».proof.Proof.Gen.KernelAdaIdeal.Value
public import proofs.«01_k».proof.Proof.Gen.ReferenceAdaIdeal.Read
public import proofs.«01_k».proof.Proof.Gen.ReferenceAdaIdeal
public import proofs.«01_k».proof.Proof.Whole
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepAda

open Cert.Step

section

open Cert.KernelAdaIdeal Cert.KernelAdaIdeal.Gen

/-- A block of the gradient: the sum over the eight rows. -/
def gblk (x0 : FVec Ideal S256x8 .f32) (x1 : FVec Ideal S8x1536 .f32) (j : S256x1536.Idx) : EReal :=
  ∑ r : Fin 8, x0 (ix2 (j 0) r) * x1 (ix2 r (j 1))

theorem pay5_apply (v0 v2 v6 v8 v13 v15 v20 v22 v27 v29) (j : S256x1536.Idx) : k0_pay5 (F := Ideal) v0 v2 v6 v8 v13 v15 v20 v22 v27 v29 j
    = v0 (ix2 (j 0) 0) * v2 (ix2 0 (j 1)) + v6 (ix2 (j 0) 0) * v8 (ix2 0 (j 1)) + v13 (ix2 (j 0) 0) * v15 (ix2 0 (j 1))
      + v20 (ix2 (j 0) 0) * v22 (ix2 0 (j 1)) + v27 (ix2 (j 0) 0) * v29 (ix2 0 (j 1)) := by
  idx_vars j
  pointwise [k0_pay5]

theorem pay6_apply (v) (p : Fin 256) : k0_pay6 (F := Ideal) v (ix2 p 0) = v (ix2 p 0) := by
  pointwise [k0_pay6]

theorem pay7_apply (v33 v35 v36 v41 v43 v48 v50) (j : S256x1536.Idx) : k0_pay7 (F := Ideal) v33 v35 v36 v41 v43 v48 v50 j
    = v33 j + v35 (ix2 (j 0) 0) * v36 (ix2 0 (j 1)) + v41 (ix2 (j 0) 0) * v43 (ix2 0 (j 1)) + v48 (ix2 (j 0) 0) * v50 (ix2 0 (j 1)) := by
  idx_vars j
  pointwise [k0_pay7]

theorem ld_col (x : FVec Ideal S256x8 .f32) (o : ℕ) (inb) (p : Fin 256) (O : Fin 8) (h : o = O) :
    View.ld (Val := Elt Ideal) (e' := .f32) (S := S256x8) x (Rect.unit ![0, o] ![256, 1] inb) (ix2 p 0) = x (ix2 p O) := by
  refine congrArg x (funext fun a => Fin.ext ?_)
  match a with
  | ⟨0, _⟩ => exact (show 0 + 1 * (p : ℕ) = p by omega)
  | ⟨1, _⟩ => exact (show o + 1 * 0 = O by omega)

theorem ld_row (x : FVec Ideal S8x1536 .f32) (o : ℕ) (inb) (k : Fin 1536) (O : Fin 8) (h : o = O) :
    View.ld (Val := Elt Ideal) (e' := .f32) (S := S8x1536) x (Rect.unit ![o, 0] ![1, 1536] inb) (ix2 0 k) = x (ix2 O k) := by
  refine congrArg x (funext fun a => Fin.ext ?_)
  match a with
  | ⟨0, _⟩ => exact (show o + 1 * 0 = O by omega)
  | ⟨1, _⟩ => exact (show 0 + 1 * (k : ℕ) = k by omega)

variable (x0 : Vec Ideal S256x8 .f32) (x1 : Vec Ideal S8x1536 .f32) (x2 x3 x4 : Vec Ideal S256x1536 .f32)

theorem grad_blk (j : S256x1536.Idx) : k0_pay7 (F := Ideal) (k0_pay12 x0 x1 x2 x3 x4) (k0_pay13 x0 x1 x2 x3 x4) (View.ld x1 r0_11) (View.ld x0 r0_12) (View.ld x1 r0_13) (View.ld x0 r0_14) (View.ld x1 r0_15) j = gblk x0 x1 j := by
  obtain ⟨p, q, rfl⟩ : ∃ (p : Fin 256) (q : Fin 1536), j = ix2 p q := ⟨j 0, j 1, eq_ix2 j⟩
  unfold gblk k0_pay12 k0_pay13
  rw [pay7_apply, pay5_apply, Fin.sum_univ_eight]
  simp only [ix2_0, ix2_1, pay6_apply]
  simp only [ld_col x0 0 _ p 0 rfl, ld_col x0 1 _ p 1 rfl, ld_col x0 2 _ p 2 rfl, ld_col x0 3 _ p 3 rfl, ld_col x0 4 _ p 4 rfl, ld_col x0 5 _ p 5 rfl,
    ld_col x0 6 _ p 6 rfl, ld_col x0 7 _ p 7 rfl, ld_row x1 0 _ q 0 rfl, ld_row x1 1 _ q 1 rfl, ld_row x1 2 _ q 2 rfl, ld_row x1 3 _ q 3 rfl,
    ld_row x1 4 _ q 4 rfl, ld_row x1 5 _ q 5 rfl, ld_row x1 6 _ q 6 rfl, ld_row x1 7 _ q 7 rfl]

theorem mom_blk (v : Vec Ideal S256x1536 .f32) (j : S256x1536.Idx) : k0_pay8 (F := Ideal) (k0_pay12 x0 x1 x2 x3 x4) (k0_pay13 x0 x1 x2 x3 x4) (View.ld x1 r0_11) (View.ld x0 r0_12) (View.ld x1 r0_13) (View.ld x0 r0_14) (View.ld x1 r0_15) v j = mom (v j) (gblk x0 x1 j) := by
  rw [← grad_blk x0 x1 x2 x3 x4]
  rfl

theorem sec_blk (v : Vec Ideal S256x1536 .f32) (j : S256x1536.Idx) : k0_pay9 (F := Ideal) (k0_pay12 x0 x1 x2 x3 x4) (k0_pay13 x0 x1 x2 x3 x4) (View.ld x1 r0_11) (View.ld x0 r0_12) (View.ld x1 r0_13) (View.ld x0 r0_14) (View.ld x1 r0_15) v j = sec (v j) (gblk x0 x1 j) := by
  rw [← grad_blk x0 x1 x2 x3 x4]
  rfl

theorem pay1_apply (v) (j : S256x1536.Idx) : k0_pay1 (F := Ideal) v j = v j := by
  idx_vars j
  pointwise [k0_pay1]

theorem pay3_apply (v) (j : S256x1536.Idx) : k0_pay3 (F := Ideal) v j = v j := by
  idx_vars j
  pointwise [k0_pay3]

theorem pay4_apply (v) (j : S256x1536.Idx) : k0_pay4 (F := Ideal) v j = v j := by
  idx_vars j
  pointwise [k0_pay4]

theorem pay2_apply (w a b c) (j : S256x1536.Idx) : k0_pay2 (F := Ideal) w a b c j
    = Ideal.ofBits .f32 0xBA83126F#32 * (Ideal.div (a j) (b j + c) + Ideal.ofBits .f32 0x3C23D70A#32 * w j) := by
  idx_vars j
  pointwise [k0_pay2]

theorem change_blk (w v v' : Vec Ideal S256x1536 .f32) (j : S256x1536.Idx) :
    k0_pay2 (F := Ideal) w (k0_pay10 (k0_pay12 x0 x1 x2 x3 x4) (k0_pay13 x0 x1 x2 x3 x4) (View.ld x1 r0_11) (View.ld x0 r0_12) (View.ld x1 r0_13) (View.ld x0 r0_14) (View.ld x1 r0_15) v) (k0_pay11 (k0_pay12 x0 x1 x2 x3 x4) (k0_pay13 x0 x1 x2 x3 x4) (View.ld x1 r0_11) (View.ld x0 r0_12) (View.ld x1 r0_13) (View.ld x0 r0_14) (View.ld x1 r0_15) v') (Scalar.ofBits .f32 0x322BCC77#32) j
      = change (w j) (gblk x0 x1 j) (v j) (v' j) := by
  rw [pay2_apply]
  unfold change
  rw [← mom_blk x0 x1 x2 x3 x4 v, ← sec_blk x0 x1 x2 x3 x4 v']
  rfl

theorem r16 (x : S256x1536.Idx) : r0_16.idx x = x := by
  refine funext fun a => Fin.ext ?_
  match a with
  | ⟨0, _⟩ => exact (show 0 + 1 * (x 0 : ℕ) = (x 0 : ℕ) by omega)
  | ⟨1, _⟩ => exact (show 0 + 1 * (x 1 : ℕ) = (x 1 : ℕ) by omega)

/-- One store over the whole block leaves its value. -/
theorem canon_one (p : Vec Ideal S256x1536 .f32) (y : S256x1536.Idx) : View.canon (Val := Elt Ideal) (e := .f32) [⟨r0_16, p⟩] y = p y := by
  refine View.canon_apply_of_pieces p _ ?_ y (cover0_5 _ y)
  intro pc hpc
  rcases List.mem_cons.mp hpc with rfl | hpc
  · exact fun x => congrArg p (r16 x).symm
  nomatch hpc

variable (m : (ℓ : Loc nD τ sig) → Buf (Elt Ideal) ℓ) (c : Dev nD)

abbrev cA : FVec Ideal S8x1024 .f32 := m ((c : Thread nD τ).loc main_arg0)
abbrev dA : FVec Ideal S8x1536 .f32 := m ((c : Thread nD τ).loc main_arg1)
abbrev wA : FVec Ideal S1024x1536 .f32 := m ((c : Thread nD τ).loc main_arg2)
abbrev mA : FVec Ideal S1024x1536 .f32 := m ((c : Thread nD τ).loc main_arg3)
abbrev vA : FVec Ideal S1024x1536 .f32 := m ((c : Thread nD τ).loc main_arg4)

/-- The weight's gradient. -/
def GR (x : FVec Ideal S8x1024 .f32) (d : FVec Ideal S8x1536 .f32) (i : S1024x1536.Idx) : EReal :=
  ∑ r : Fin 8, x (ix2 r (i 0)) * d (ix2 r (i 1))

theorem idx : ∀ t : Fin cfg0.N, win0_0.index t = ![t.val, 0] ∧ win0_1.index t = ![0, 0] ∧ win0_2.index t = ![t.val, 0] ∧
    win0_3.index t = ![t.val, 0] ∧ win0_4.index t = ![t.val, 0] ∧ win0_5.index t = ![t.val, 0] ∧ win0_6.index t = ![t.val, 0] ∧
    win0_7.index t = ![t.val, 0] ∧ win0_8.index t = ![t.val, 0] :=
  (by decide +kernel : ∀ t : Fin grid0.N, _)

/-- The conditioning, transposed. -/
theorem c_host : (V m c main_v0 : FVec Ideal S1024x8 .f32) = transpose S1024x8 [1, 0] (cA m c) transposes_S8x1024_S1024x8_1_0 := by
  unfold V
  unfold_abbrev_sides
  after_results

theorem t_lt (t : Fin cfg0.N) : t.val < 4 := t.isLt

theorem c_blk (t : Fin cfg0.N) (p : Fin 256) (r : Fin 8) : iblk m c 0 t (ix2 p r) = cA m c (ix2 r ⟨256 * t.val + p, by have := t_lt t; omega⟩) := by
  have e : iblk m c 0 t (ix2 p r) = (V m c main_v0 : FVec Ideal S1024x8 .f32) (ix2 ⟨256 * t.val + p, by have := t_lt t; omega⟩ r) := by
    show V m c main_v0 _ = V m c main_v0 _
    refine congrArg (V m c main_v0) ?_
    blk_point [idx t]
  rw [e, c_host]
  generalize cA m c = x
  pointwise []

theorem d_blk (t : Fin cfg0.N) (r : Fin 8) (q : Fin 1536) : iblk m c 1 t (ix2 r q) = dA m c (ix2 r q) := by
  rw [show dA m c = V m c main_arg1 from (V_main_arg1 m c).symm]
  show V m c main_arg1 _ = V m c main_arg1 _
  refine congrArg (V m c main_arg1) ?_
  blk_point [idx t]

theorem g_blk5 (t : Fin cfg0.N) (y : S256x1536.Idx) : gblk (iblk m c 0 t) (iblk m c 1 t) y = GR (cA m c) (dA m c) (((cfg0.win 5).blk t).view.emb y) := by
  obtain ⟨p, q, rfl⟩ : ∃ (p : Fin 256) (q : Fin 1536), y = ix2 p q := ⟨y 0, y 1, eq_ix2 y⟩
  have e : ((cfg0.win 5).blk t).view.emb (ix2 p q) = ix2 (⟨256 * t.val + p, by have := t_lt t; omega⟩ : Fin 1024) q := by
    blk_point [idx t]
  rw [e]
  unfold gblk GR
  simp only [ix2_0, ix2_1, c_blk, d_blk]

theorem g_blk6 (t : Fin cfg0.N) (y : S256x1536.Idx) : gblk (iblk m c 0 t) (iblk m c 1 t) y = GR (cA m c) (dA m c) (((cfg0.win 6).blk t).view.emb y) := by
  obtain ⟨p, q, rfl⟩ : ∃ (p : Fin 256) (q : Fin 1536), y = ix2 p q := ⟨y 0, y 1, eq_ix2 y⟩
  have e : ((cfg0.win 6).blk t).view.emb (ix2 p q) = ix2 (⟨256 * t.val + p, by have := t_lt t; omega⟩ : Fin 1024) q := by
    blk_point [idx t]
  rw [e]
  unfold gblk GR
  simp only [ix2_0, ix2_1, c_blk, d_blk]

theorem blk2_6 (t : Fin cfg0.N) (y : S256x1536.Idx) : View.ld (Val := Elt Ideal) (iblk m c 2 t) r0_16 y = wA m c (((cfg0.win 6).blk t).view.emb y) := by
  rw [show wA m c = V m c main_arg2 from (V_main_arg2 m c).symm]
  show V m c main_arg2 _ = V m c main_arg2 _
  refine congrArg (V m c main_arg2) ?_
  blk_point [idx t]
  all_goals simp only [r16]

theorem blk3_6 (t : Fin cfg0.N) (y : S256x1536.Idx) : View.ld (Val := Elt Ideal) (iblk m c 3 t) r0_16 y = mA m c (((cfg0.win 6).blk t).view.emb y) := by
  rw [show mA m c = V m c main_arg3 from (V_main_arg3 m c).symm]
  show V m c main_arg3 _ = V m c main_arg3 _
  refine congrArg (V m c main_arg3) ?_
  blk_point [idx t]
  all_goals simp only [r16]

theorem blk4_6 (t : Fin cfg0.N) (y : S256x1536.Idx) : View.ld (Val := Elt Ideal) (iblk m c 4 t) r0_16 y = vA m c (((cfg0.win 6).blk t).view.emb y) := by
  rw [show vA m c = V m c main_arg4 from (V_main_arg4 m c).symm]
  show V m c main_arg4 _ = V m c main_arg4 _
  refine congrArg (V m c main_arg4) ?_
  blk_point [idx t]
  all_goals simp only [r16]

theorem g_blk7 (t : Fin cfg0.N) (y : S256x1536.Idx) : gblk (iblk m c 0 t) (iblk m c 1 t) y = GR (cA m c) (dA m c) (((cfg0.win 7).blk t).view.emb y) := by
  obtain ⟨p, q, rfl⟩ : ∃ (p : Fin 256) (q : Fin 1536), y = ix2 p q := ⟨y 0, y 1, eq_ix2 y⟩
  have e : ((cfg0.win 7).blk t).view.emb (ix2 p q) = ix2 (⟨256 * t.val + p, by have := t_lt t; omega⟩ : Fin 1024) q := by
    blk_point [idx t]
  rw [e]
  unfold gblk GR
  simp only [ix2_0, ix2_1, c_blk, d_blk]

theorem blk3_7 (t : Fin cfg0.N) (y : S256x1536.Idx) : View.ld (Val := Elt Ideal) (iblk m c 3 t) r0_16 y = mA m c (((cfg0.win 7).blk t).view.emb y) := by
  rw [show mA m c = V m c main_arg3 from (V_main_arg3 m c).symm]
  show V m c main_arg3 _ = V m c main_arg3 _
  refine congrArg (V m c main_arg3) ?_
  blk_point [idx t]
  all_goals simp only [r16]

theorem g_blk8 (t : Fin cfg0.N) (y : S256x1536.Idx) : gblk (iblk m c 0 t) (iblk m c 1 t) y = GR (cA m c) (dA m c) (((cfg0.win 8).blk t).view.emb y) := by
  obtain ⟨p, q, rfl⟩ : ∃ (p : Fin 256) (q : Fin 1536), y = ix2 p q := ⟨y 0, y 1, eq_ix2 y⟩
  have e : ((cfg0.win 8).blk t).view.emb (ix2 p q) = ix2 (⟨256 * t.val + p, by have := t_lt t; omega⟩ : Fin 1024) q := by
    blk_point [idx t]
  rw [e]
  unfold gblk GR
  simp only [ix2_0, ix2_1, c_blk, d_blk]

theorem blk4_8 (t : Fin cfg0.N) (y : S256x1536.Idx) : View.ld (Val := Elt Ideal) (iblk m c 4 t) r0_16 y = vA m c (((cfg0.win 8).blk t).view.emb y) := by
  rw [show vA m c = V m c main_arg4 from (V_main_arg4 m c).symm]
  show V m c main_arg4 _ = V m c main_arg4 _
  refine congrArg (V m c main_arg4) ?_
  blk_point [idx t]
  all_goals simp only [r16]

theorem final5 : (dats m 0 c).arrAt 5 cfg0.N = fun i => GR (cA m c) (dA m c) i := by
  refine (dats m 0 c).arrAt_eq_of_covers 5 _ (by decide +kernel) fun t _ y => ?_
  blk_simp
  rw [after0_5]
  unfold out0_5
  refine (canon_one _ y).trans (((pay1_apply _ _).trans (grad_blk _ _ _ _ _ _)).trans ?_)
  rw [g_blk5 m c t y]

theorem final6 : (dats m 0 c).arrAt 6 cfg0.N = fun i => change (wA m c i) (GR (cA m c) (dA m c) i) (mA m c i) (vA m c i) := by
  refine (dats m 0 c).arrAt_eq_of_covers 6 _ (by decide +kernel) fun t _ y => ?_
  blk_simp
  rw [after0_6]
  unfold out0_6
  refine (canon_one _ y).trans ((change_blk _ _ _ _ _ _ _ _ _).trans ?_)
  rw [g_blk6 m c t y, blk2_6 m c t y, blk3_6 m c t y, blk4_6 m c t y]

theorem final7 : (dats m 0 c).arrAt 7 cfg0.N = fun i => mom (mA m c i) (GR (cA m c) (dA m c) i) := by
  refine (dats m 0 c).arrAt_eq_of_covers 7 _ (by decide +kernel) fun t _ y => ?_
  blk_simp
  rw [after0_7]
  unfold out0_7
  refine (canon_one _ y).trans (((pay3_apply _ _).trans (mom_blk _ _ _ _ _ _ _)).trans ?_)
  rw [g_blk7 m c t y, blk3_7 m c t y]

theorem final8 : (dats m 0 c).arrAt 8 cfg0.N = fun i => sec (vA m c i) (GR (cA m c) (dA m c) i) := by
  refine (dats m 0 c).arrAt_eq_of_covers 8 _ (by decide +kernel) fun t _ y => ?_
  blk_simp
  rw [after0_8]
  unfold out0_8
  refine (canon_one _ y).trans (((pay4_apply _ _).trans (sec_blk _ _ _ _ _ _ _)).trans ?_)
  rw [g_blk8 m c t y, blk4_8 m c t y]

end

section

open Cert.ReferenceAdaIdeal Cert.ReferenceAdaIdeal.Gen Cert.ReferenceAdaIdeal.Read

variable (x : FVec Ideal S8x1024 .f32) (d : FVec Ideal S8x1536 .f32) (w v v' : FVec Ideal S1024x1536 .f32)

theorem ref_grad : val_main_v2 (F := Ideal) x d = GR x d := by
  funext i
  obtain ⟨p, q, rfl⟩ : ∃ (p : Fin 1024) (q : Fin 1536), i = ix2 p q := ⟨i 0, i 1, eq_ix2 i⟩
  unfold GR
  simp only [ix2_0, ix2_1]
  pointwise [val_main_v2, val_main_v1]
  exact Finset.sum_congr rfl fun _ _ => mul_comm _ _

theorem ref_change : val_main_v26 (F := Ideal) x d w v v' = fun i => change (w i) (GR x d i) (v i) (v' i) := by
  rw [← ref_grad]
  rfl

theorem ref_mom : val_main_v7 (F := Ideal) x d v = fun i => mom (v i) (GR x d i) := by
  rw [← ref_grad]
  rfl

theorem ref_sec : val_main_v13 (F := Ideal) x d v' = fun i => sec (v' i) (GR x d i) := by
  rw [← ref_grad]
  rfl

end

open Cert.KernelAdaIdeal in
theorem algebraic : Cert.algebraic_KernelAdaIdeal_ReferenceAdaIdeal (hKernelAdaIdeal := Cert.KernelAdaIdeal.Gen.facts)
    (hReferenceAdaIdeal := Cert.ReferenceAdaIdeal.Gen.facts) := by
  intro m g m' g' hpre hagree
  refine ⟨fun c i => GR (cA m c) (dA m c) i, fun c i => change (wA m c i) (GR (cA m c) (dA m c) i) (mA m c i) (vA m c i),
    fun c i => mom (mA m c i) (GR (cA m c) (dA m c) i), fun c i => sec (vA m c i) (GR (cA m c) (dA m c) i), ?_, ?_⟩
  · refine (θ_run _ _ _).mono (fun r h c => ?_) (Cert.KernelAdaIdeal.Value.run_blocks m g)
    exact ⟨(h c).1.trans (final5 m c), (h c).2.1.trans (final6 m c), (h c).2.2.1.trans (final7 m c), (h c).2.2.2.1.trans (final8 m c), (h c).2.2.2.2⟩
  · refine (θ_run _ _ _).mono (fun r h c => ?_) (Cert.ReferenceAdaIdeal.Value.run m' g')
    obtain ⟨e0, e1, e2, e3, e4⟩ := hagree c
    refine ⟨(h c).1.trans ?_, (h c).2.1.trans ?_, (h c).2.2.1.trans ?_, (h c).2.2.2.1.trans ?_, (h c).2.2.2.2⟩
    · rw [Cert.ReferenceAdaIdeal.Read.val_main_v2_eq, e0, e1]; exact ref_grad _ _
    · rw [Cert.ReferenceAdaIdeal.Read.val_main_v26_eq, e0, e1, e2, e3, e4]; exact ref_change _ _ _ _ _
    · rw [Cert.ReferenceAdaIdeal.Read.val_main_v7_eq, e0, e1, e3]; exact ref_mom _ _ _
    · rw [Cert.ReferenceAdaIdeal.Read.val_main_v13_eq, e0, e1, e4]; exact ref_sec _ _ _

end Cert.StepAda

end
-- ==== Proof.StepIn.lean ====
/-
  The optimiser's step of the input projection's weight.
-/
module

public import proofs.«01_k».proof.Proof.Step
public import proofs.«01_k».proof.Proof.Gen.AdamInIdeal.Value
public import proofs.«01_k».proof.Proof.Gen.AdamwInIdeal.Read
public import proofs.«01_k».proof.Proof.Gen.AdamwInIdeal
public import proofs.«01_k».proof.Proof.Whole
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepIn

open Cert.Step

section

open Cert.AdamInIdeal Cert.AdamInIdeal.Gen

variable (m : (ℓ : Loc nD τ sig) → Buf (Elt Ideal) ℓ) (c : Dev nD)

abbrev wA : FVec Ideal S1024x768 .f32 := m ((c : Thread nD τ).loc main_arg0)
abbrev gA : FVec Ideal S1024x768 .f32 := m ((c : Thread nD τ).loc main_arg1)
abbrev mA : FVec Ideal S1024x768 .f32 := m ((c : Thread nD τ).loc main_arg2)
abbrev vA : FVec Ideal S1024x768 .f32 := m ((c : Thread nD τ).loc main_arg3)

/-- The blocks the grid points read and write. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

/-- Block `t` of each operand, entry by entry. -/
theorem blk0_4 (t : Fin cfg0.N) (y : S512x768.Idx) : View.ld (Val := Elt Ideal) (iblk m c 0 t) r0_0 y = wA m c (((cfg0.win 4).blk t).view.emb y) := by
  blk_point [iblk, V, idx t, wA]

theorem blk1_4 (t : Fin cfg0.N) (y : S512x768.Idx) : View.ld (Val := Elt Ideal) (iblk m c 1 t) r0_0 y = gA m c (((cfg0.win 4).blk t).view.emb y) := by
  blk_point [iblk, V, idx t, gA]

theorem blk2_4 (t : Fin cfg0.N) (y : S512x768.Idx) : View.ld (Val := Elt Ideal) (iblk m c 2 t) r0_0 y = mA m c (((cfg0.win 4).blk t).view.emb y) := by
  blk_point [iblk, V, idx t, mA]

theorem blk3_4 (t : Fin cfg0.N) (y : S512x768.Idx) : View.ld (Val := Elt Ideal) (iblk m c 3 t) r0_0 y = vA m c (((cfg0.win 4).blk t).view.emb y) := by
  blk_point [iblk, V, idx t, vA]

theorem blk1_5 (t : Fin cfg0.N) (y : S512x768.Idx) : View.ld (Val := Elt Ideal) (iblk m c 1 t) r0_0 y = gA m c (((cfg0.win 5).blk t).view.emb y) := by
  blk_point [iblk, V, idx t, gA]

theorem blk2_5 (t : Fin cfg0.N) (y : S512x768.Idx) : View.ld (Val := Elt Ideal) (iblk m c 2 t) r0_0 y = mA m c (((cfg0.win 5).blk t).view.emb y) := by
  blk_point [iblk, V, idx t, mA]

theorem blk1_6 (t : Fin cfg0.N) (y : S512x768.Idx) : View.ld (Val := Elt Ideal) (iblk m c 1 t) r0_0 y = gA m c (((cfg0.win 6).blk t).view.emb y) := by
  blk_point [iblk, V, idx t, gA]

theorem blk3_6 (t : Fin cfg0.N) (y : S512x768.Idx) : View.ld (Val := Elt Ideal) (iblk m c 3 t) r0_0 y = vA m c (((cfg0.win 6).blk t).view.emb y) := by
  blk_point [iblk, V, idx t, vA]

theorem entry4 (P0 P1 P2 P3 : Vec Ideal S512x768 .f32) (y : S512x768.Idx) : Value.E4 P0 P1 P2 P3 y = change (P3 y) (P1 y) (P0 y) (P2 y) := by
  have h0 : Value.ix4_0 y = y := funext fun a => match a with | ⟨0, _⟩ => rfl | ⟨1, _⟩ => rfl
  have h1 : Value.ix4_1 y = y := funext fun a => match a with | ⟨0, _⟩ => rfl | ⟨1, _⟩ => rfl
  have h2 : Value.ix4_2 y = y := funext fun a => match a with | ⟨0, _⟩ => rfl | ⟨1, _⟩ => rfl
  have h3 : Value.ix4_3 y = y := funext fun a => match a with | ⟨0, _⟩ => rfl | ⟨1, _⟩ => rfl
  have h4 : Value.ix4_4 y = y := funext fun a => match a with | ⟨0, _⟩ => rfl | ⟨1, _⟩ => rfl
  have h5 : Value.ix4_5 y = y := funext fun a => match a with | ⟨0, _⟩ => rfl | ⟨1, _⟩ => rfl
  show change (P3 (Value.ix4_5 y)) (P1 (Value.ix4_1 y)) (P0 (Value.ix4_0 y)) (P2 (Value.ix4_2 y)) = _
  rw [h5, h1, h0, h2]

theorem final4 : (dats m 0 c).arrAt 4 cfg0.N = fun i => change (wA m c i) (gA m c i) (mA m c i) (vA m c i) := by
  refine (dats m 0 c).arrAt_eq_of_covers 4 _ (by decide +kernel) fun t _ y => ?_
  blk_simp
  rw [after0_4]
  unfold out0_4
  refine (Value.canon4_eq _ _ _ _ y).trans ((entry4 _ _ _ _ y).trans ?_)
  rw [← blk0_4 m c t y, ← blk1_4 m c t y, ← blk2_4 m c t y, ← blk3_4 m c t y]

theorem entry5 (P0 P1 : Vec Ideal S512x768 .f32) (y : S512x768.Idx) : Value.E5 P0 P1 y = mom (P0 y) (P1 y) := by
  have h0 : Value.ix5_0 y = y := funext fun a => match a with | ⟨0, _⟩ => rfl | ⟨1, _⟩ => rfl
  have h1 : Value.ix5_1 y = y := funext fun a => match a with | ⟨0, _⟩ => rfl | ⟨1, _⟩ => rfl
  show mom (P0 (Value.ix5_0 y)) (P1 (Value.ix5_1 y)) = _
  rw [h0, h1]

theorem final5 : (dats m 0 c).arrAt 5 cfg0.N = fun i => mom (mA m c i) (gA m c i) := by
  refine (dats m 0 c).arrAt_eq_of_covers 5 _ (by decide +kernel) fun t _ y => ?_
  blk_simp
  rw [after0_5]
  unfold out0_5
  refine (Value.canon5_eq _ _ y).trans ((entry5 _ _ y).trans ?_)
  rw [← blk1_5 m c t y, ← blk2_5 m c t y]

theorem entry6 (P0 P1 : Vec Ideal S512x768 .f32) (y : S512x768.Idx) : Value.E6 P0 P1 y = sec (P0 y) (P1 y) := by
  have h0 : Value.ix6_0 y = y := funext fun a => match a with | ⟨0, _⟩ => rfl | ⟨1, _⟩ => rfl
  have h1 : Value.ix6_1 y = y := funext fun a => match a with | ⟨0, _⟩ => rfl | ⟨1, _⟩ => rfl
  have h2 : Value.ix6_2 y = y := funext fun a => match a with | ⟨0, _⟩ => rfl | ⟨1, _⟩ => rfl
  show sec (P0 (Value.ix6_0 y)) (P1 (Value.ix6_1 y)) = _
  rw [h0, h1]

theorem final6 : (dats m 0 c).arrAt 6 cfg0.N = fun i => sec (vA m c i) (gA m c i) := by
  refine (dats m 0 c).arrAt_eq_of_covers 6 _ (by decide +kernel) fun t _ y => ?_
  blk_simp
  rw [after0_6]
  unfold out0_6
  refine (Value.canon6_eq _ _ y).trans ((entry6 _ _ y).trans ?_)
  rw [← blk1_6 m c t y, ← blk3_6 m c t y]

end

open Cert.AdamInIdeal in
theorem algebraic : Cert.algebraic_AdamInIdeal_AdamwInIdeal (hAdamInIdeal := Cert.AdamInIdeal.Gen.facts) (hAdamwInIdeal := Cert.AdamwInIdeal.Gen.facts) := by
  intro m g m' g' hpre hagree
  refine ⟨fun c i => change (wA m c i) (gA m c i) (mA m c i) (vA m c i), fun c i => mom (mA m c i) (gA m c i),
    fun c i => sec (vA m c i) (gA m c i), ?_, ?_⟩
  · refine (θ_run _ _ _).mono (fun r h c => ?_) (Cert.AdamInIdeal.Value.run_blocks m g)
    exact ⟨(h c).1.trans (final4 m c), (h c).2.1.trans (final5 m c), (h c).2.2.1.trans (final6 m c), (h c).2.2.2⟩
  · refine (θ_run _ _ _).mono (fun r h c => ?_) (Cert.AdamwInIdeal.Value.run m' g')
    obtain ⟨e0, e1, e2, e3⟩ := hagree c
    refine ⟨(h c).1.trans ?_, (h c).2.1.trans ?_, (h c).2.2.1.trans ?_, (h c).2.2.2⟩
    · rw [e0, e1, e2, e3]; rfl
    · rw [e1, e2]; rfl
    · rw [e1, e3]; rfl

end Cert.StepIn

end
-- ==== Proof.StepOut.lean ====
/-
  The optimiser's step of the output projection's weight.
-/
module

public import proofs.«01_k».proof.Proof.Step
public import proofs.«01_k».proof.Proof.Gen.AdamOutIdeal.Value
public import proofs.«01_k».proof.Proof.Gen.AdamwOutIdeal.Read
public import proofs.«01_k».proof.Proof.Gen.AdamwOutIdeal
public import proofs.«01_k».proof.Proof.Whole
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepOut

open Cert.Step

section

open Cert.AdamOutIdeal Cert.AdamOutIdeal.Gen

variable (m : (ℓ : Loc nD τ sig) → Buf (Elt Ideal) ℓ) (c : Dev nD)

abbrev wA : FVec Ideal S256x1024 .f32 := m ((c : Thread nD τ).loc main_arg0)
abbrev gA : FVec Ideal S256x1024 .f32 := m ((c : Thread nD τ).loc main_arg1)
abbrev mA : FVec Ideal S256x1024 .f32 := m ((c : Thread nD τ).loc main_arg2)
abbrev vA : FVec Ideal S256x1024 .f32 := m ((c : Thread nD τ).loc main_arg3)

/-- The blocks the grid points read and write. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

/-- Block `t` of each operand, entry by entry. -/
theorem blk0_4 (t : Fin cfg0.N) (y : S256x1024.Idx) : View.ld (Val := Elt Ideal) (iblk m c 0 t) r0_0 y = wA m c (((cfg0.win 4).blk t).view.emb y) := by
  blk_point [iblk, V, idx t, wA]

theorem blk1_4 (t : Fin cfg0.N) (y : S256x1024.Idx) : View.ld (Val := Elt Ideal) (iblk m c 1 t) r0_0 y = gA m c (((cfg0.win 4).blk t).view.emb y) := by
  blk_point [iblk, V, idx t, gA]

theorem blk2_4 (t : Fin cfg0.N) (y : S256x1024.Idx) : View.ld (Val := Elt Ideal) (iblk m c 2 t) r0_0 y = mA m c (((cfg0.win 4).blk t).view.emb y) := by
  blk_point [iblk, V, idx t, mA]

theorem blk3_4 (t : Fin cfg0.N) (y : S256x1024.Idx) : View.ld (Val := Elt Ideal) (iblk m c 3 t) r0_0 y = vA m c (((cfg0.win 4).blk t).view.emb y) := by
  blk_point [iblk, V, idx t, vA]

theorem blk1_5 (t : Fin cfg0.N) (y : S256x1024.Idx) : View.ld (Val := Elt Ideal) (iblk m c 1 t) r0_0 y = gA m c (((cfg0.win 5).blk t).view.emb y) := by
  blk_point [iblk, V, idx t, gA]

theorem blk2_5 (t : Fin cfg0.N) (y : S256x1024.Idx) : View.ld (Val := Elt Ideal) (iblk m c 2 t) r0_0 y = mA m c (((cfg0.win 5).blk t).view.emb y) := by
  blk_point [iblk, V, idx t, mA]

theorem blk1_6 (t : Fin cfg0.N) (y : S256x1024.Idx) : View.ld (Val := Elt Ideal) (iblk m c 1 t) r0_0 y = gA m c (((cfg0.win 6).blk t).view.emb y) := by
  blk_point [iblk, V, idx t, gA]

theorem blk3_6 (t : Fin cfg0.N) (y : S256x1024.Idx) : View.ld (Val := Elt Ideal) (iblk m c 3 t) r0_0 y = vA m c (((cfg0.win 6).blk t).view.emb y) := by
  blk_point [iblk, V, idx t, vA]

theorem entry4 (P0 P1 P2 P3 : Vec Ideal S256x1024 .f32) (y : S256x1024.Idx) : Value.E4 P0 P1 P2 P3 y = change (P3 y) (P1 y) (P0 y) (P2 y) := by
  have h0 : Value.ix4_0 y = y := funext fun a => match a with | ⟨0, _⟩ => rfl | ⟨1, _⟩ => rfl
  have h1 : Value.ix4_1 y = y := funext fun a => match a with | ⟨0, _⟩ => rfl | ⟨1, _⟩ => rfl
  have h2 : Value.ix4_2 y = y := funext fun a => match a with | ⟨0, _⟩ => rfl | ⟨1, _⟩ => rfl
  have h3 : Value.ix4_3 y = y := funext fun a => match a with | ⟨0, _⟩ => rfl | ⟨1, _⟩ => rfl
  have h4 : Value.ix4_4 y = y := funext fun a => match a with | ⟨0, _⟩ => rfl | ⟨1, _⟩ => rfl
  have h5 : Value.ix4_5 y = y := funext fun a => match a with | ⟨0, _⟩ => rfl | ⟨1, _⟩ => rfl
  show change (P3 (Value.ix4_5 y)) (P1 (Value.ix4_1 y)) (P0 (Value.ix4_0 y)) (P2 (Value.ix4_2 y)) = _
  rw [h5, h1, h0, h2]

theorem final4 : (dats m 0 c).arrAt 4 cfg0.N = fun i => change (wA m c i) (gA m c i) (mA m c i) (vA m c i) := by
  refine (dats m 0 c).arrAt_eq_of_covers 4 _ (by decide +kernel) fun t _ y => ?_
  blk_simp
  rw [after0_4]
  unfold out0_4
  refine (Value.canon4_eq _ _ _ _ y).trans ((entry4 _ _ _ _ y).trans ?_)
  rw [← blk0_4 m c t y, ← blk1_4 m c t y, ← blk2_4 m c t y, ← blk3_4 m c t y]

theorem entry5 (P0 P1 : Vec Ideal S256x1024 .f32) (y : S256x1024.Idx) : Value.E5 P0 P1 y = mom (P0 y) (P1 y) := by
  have h0 : Value.ix5_0 y = y := funext fun a => match a with | ⟨0, _⟩ => rfl | ⟨1, _⟩ => rfl
  have h1 : Value.ix5_1 y = y := funext fun a => match a with | ⟨0, _⟩ => rfl | ⟨1, _⟩ => rfl
  show mom (P0 (Value.ix5_0 y)) (P1 (Value.ix5_1 y)) = _
  rw [h0, h1]

theorem final5 : (dats m 0 c).arrAt 5 cfg0.N = fun i => mom (mA m c i) (gA m c i) := by
  refine (dats m 0 c).arrAt_eq_of_covers 5 _ (by decide +kernel) fun t _ y => ?_
  blk_simp
  rw [after0_5]
  unfold out0_5
  refine (Value.canon5_eq _ _ y).trans ((entry5 _ _ y).trans ?_)
  rw [← blk1_5 m c t y, ← blk2_5 m c t y]

theorem entry6 (P0 P1 : Vec Ideal S256x1024 .f32) (y : S256x1024.Idx) : Value.E6 P0 P1 y = sec (P0 y) (P1 y) := by
  have h0 : Value.ix6_0 y = y := funext fun a => match a with | ⟨0, _⟩ => rfl | ⟨1, _⟩ => rfl
  have h1 : Value.ix6_1 y = y := funext fun a => match a with | ⟨0, _⟩ => rfl | ⟨1, _⟩ => rfl
  have h2 : Value.ix6_2 y = y := funext fun a => match a with | ⟨0, _⟩ => rfl | ⟨1, _⟩ => rfl
  show sec (P0 (Value.ix6_0 y)) (P1 (Value.ix6_1 y)) = _
  rw [h0, h1]

theorem final6 : (dats m 0 c).arrAt 6 cfg0.N = fun i => sec (vA m c i) (gA m c i) := by
  refine (dats m 0 c).arrAt_eq_of_covers 6 _ (by decide +kernel) fun t _ y => ?_
  blk_simp
  rw [after0_6]
  unfold out0_6
  refine (Value.canon6_eq _ _ y).trans ((entry6 _ _ y).trans ?_)
  rw [← blk1_6 m c t y, ← blk3_6 m c t y]

end

open Cert.AdamOutIdeal in
theorem algebraic : Cert.algebraic_AdamOutIdeal_AdamwOutIdeal (hAdamOutIdeal := Cert.AdamOutIdeal.Gen.facts) (hAdamwOutIdeal := Cert.AdamwOutIdeal.Gen.facts) := by
  intro m g m' g' hpre hagree
  refine ⟨fun c i => change (wA m c i) (gA m c i) (mA m c i) (vA m c i), fun c i => mom (mA m c i) (gA m c i),
    fun c i => sec (vA m c i) (gA m c i), ?_, ?_⟩
  · refine (θ_run _ _ _).mono (fun r h c => ?_) (Cert.AdamOutIdeal.Value.run_blocks m g)
    exact ⟨(h c).1.trans (final4 m c), (h c).2.1.trans (final5 m c), (h c).2.2.1.trans (final6 m c), (h c).2.2.2⟩
  · refine (θ_run _ _ _).mono (fun r h c => ?_) (Cert.AdamwOutIdeal.Value.run m' g')
    obtain ⟨e0, e1, e2, e3⟩ := hagree c
    refine ⟨(h c).1.trans ?_, (h c).2.1.trans ?_, (h c).2.2.1.trans ?_, (h c).2.2.2⟩
    · rw [e0, e1, e2, e3]; rfl
    · rw [e1, e2]; rfl
    · rw [e1, e3]; rfl

end Cert.StepOut

end
-- ==== Proof.StepFfn.lean ====
/-
  The optimiser's step of a channel mixing weight.
-/
module

public import proofs.«01_k».proof.Proof.Step
public import proofs.«01_k».proof.Proof.Gen.AdamFfnIdeal.Value
public import proofs.«01_k».proof.Proof.Gen.AdamwFfnIdeal.Read
public import proofs.«01_k».proof.Proof.Gen.AdamwFfnIdeal
public import proofs.«01_k».proof.Proof.Whole
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepFfn

open Cert.Step

section

open Cert.AdamFfnIdeal Cert.AdamFfnIdeal.Gen

variable (m : (ℓ : Loc nD τ sig) → Buf (Elt Ideal) ℓ) (c : Dev nD)

abbrev wA : FVec Ideal S1024x1024 .f32 := m ((c : Thread nD τ).loc main_arg0)
abbrev gA : FVec Ideal S1024x1024 .f32 := m ((c : Thread nD τ).loc main_arg1)
abbrev mA : FVec Ideal S1024x1024 .f32 := m ((c : Thread nD τ).loc main_arg2)
abbrev vA : FVec Ideal S1024x1024 .f32 := m ((c : Thread nD τ).loc main_arg3)

/-- The blocks the grid points read and write. -/
theorem idx : ∀ t : Fin cfg0.N, win0_0.index t = ![t.val, 0] ∧ win0_1.index t = ![t.val, 0] ∧ win0_2.index t = ![t.val, 0] ∧
    win0_3.index t = ![t.val, 0] ∧ win0_4.index t = ![t.val, 0] ∧ win0_5.index t = ![t.val, 0] ∧ win0_6.index t = ![t.val, 0] :=
  (by decide +kernel : ∀ t : Fin grid0.N, _)

/-- Block `t` of each operand, entry by entry. -/
theorem blk0_4 (t : Fin cfg0.N) (y : S512x1024.Idx) : View.ld (Val := Elt Ideal) (iblk m c 0 t) r0_0 y = wA m c (((cfg0.win 4).blk t).view.emb y) := by
  blk_point [iblk, V, idx t, wA]

theorem blk1_4 (t : Fin cfg0.N) (y : S512x1024.Idx) : View.ld (Val := Elt Ideal) (iblk m c 1 t) r0_0 y = gA m c (((cfg0.win 4).blk t).view.emb y) := by
  blk_point [iblk, V, idx t, gA]

theorem blk2_4 (t : Fin cfg0.N) (y : S512x1024.Idx) : View.ld (Val := Elt Ideal) (iblk m c 2 t) r0_0 y = mA m c (((cfg0.win 4).blk t).view.emb y) := by
  blk_point [iblk, V, idx t, mA]

theorem blk3_4 (t : Fin cfg0.N) (y : S512x1024.Idx) : View.ld (Val := Elt Ideal) (iblk m c 3 t) r0_0 y = vA m c (((cfg0.win 4).blk t).view.emb y) := by
  blk_point [iblk, V, idx t, vA]

theorem blk1_5 (t : Fin cfg0.N) (y : S512x1024.Idx) : View.ld (Val := Elt Ideal) (iblk m c 1 t) r0_0 y = gA m c (((cfg0.win 5).blk t).view.emb y) := by
  blk_point [iblk, V, idx t, gA]

theorem blk2_5 (t : Fin cfg0.N) (y : S512x1024.Idx) : View.ld (Val := Elt Ideal) (iblk m c 2 t) r0_0 y = mA m c (((cfg0.win 5).blk t).view.emb y) := by
  blk_point [iblk, V, idx t, mA]

theorem blk1_6 (t : Fin cfg0.N) (y : S512x1024.Idx) : View.ld (Val := Elt Ideal) (iblk m c 1 t) r0_0 y = gA m c (((cfg0.win 6).blk t).view.emb y) := by
  blk_point [iblk, V, idx t, gA]

theorem blk3_6 (t : Fin cfg0.N) (y : S512x1024.Idx) : View.ld (Val := Elt Ideal) (iblk m c 3 t) r0_0 y = vA m c (((cfg0.win 6).blk t).view.emb y) := by
  blk_point [iblk, V, idx t, vA]

theorem entry4 (P0 P1 P2 P3 : Vec Ideal S512x1024 .f32) (y : S512x1024.Idx) : Value.E4 P0 P1 P2 P3 y = change (P3 y) (P1 y) (P0 y) (P2 y) := by
  have h0 : Value.ix4_0 y = y := funext fun a => match a with | ⟨0, _⟩ => rfl | ⟨1, _⟩ => rfl
  have h1 : Value.ix4_1 y = y := funext fun a => match a with | ⟨0, _⟩ => rfl | ⟨1, _⟩ => rfl
  have h2 : Value.ix4_2 y = y := funext fun a => match a with | ⟨0, _⟩ => rfl | ⟨1, _⟩ => rfl
  have h3 : Value.ix4_3 y = y := funext fun a => match a with | ⟨0, _⟩ => rfl | ⟨1, _⟩ => rfl
  have h4 : Value.ix4_4 y = y := funext fun a => match a with | ⟨0, _⟩ => rfl | ⟨1, _⟩ => rfl
  have h5 : Value.ix4_5 y = y := funext fun a => match a with | ⟨0, _⟩ => rfl | ⟨1, _⟩ => rfl
  show change (P3 (Value.ix4_5 y)) (P1 (Value.ix4_1 y)) (P0 (Value.ix4_0 y)) (P2 (Value.ix4_2 y)) = _
  rw [h5, h1, h0, h2]

theorem final4 : (dats m 0 c).arrAt 4 cfg0.N = fun i => change (wA m c i) (gA m c i) (mA m c i) (vA m c i) := by
  refine (dats m 0 c).arrAt_eq_of_covers 4 _ (by decide +kernel) fun t _ y => ?_
  blk_simp
  rw [after0_4]
  unfold out0_4
  refine (Value.canon4_eq _ _ _ _ y).trans ((entry4 _ _ _ _ y).trans ?_)
  rw [← blk0_4 m c t y, ← blk1_4 m c t y, ← blk2_4 m c t y, ← blk3_4 m c t y]

theorem entry5 (P0 P1 : Vec Ideal S512x1024 .f32) (y : S512x1024.Idx) : Value.E5 P0 P1 y = mom (P0 y) (P1 y) := by
  have h0 : Value.ix5_0 y = y := funext fun a => match a with | ⟨0, _⟩ => rfl | ⟨1, _⟩ => rfl
  have h1 : Value.ix5_1 y = y := funext fun a => match a with | ⟨0, _⟩ => rfl | ⟨1, _⟩ => rfl
  show mom (P0 (Value.ix5_0 y)) (P1 (Value.ix5_1 y)) = _
  rw [h0, h1]

theorem final5 : (dats m 0 c).arrAt 5 cfg0.N = fun i => mom (mA m c i) (gA m c i) := by
  refine (dats m 0 c).arrAt_eq_of_covers 5 _ (by decide +kernel) fun t _ y => ?_
  blk_simp
  rw [after0_5]
  unfold out0_5
  refine (Value.canon5_eq _ _ y).trans ((entry5 _ _ y).trans ?_)
  rw [← blk1_5 m c t y, ← blk2_5 m c t y]

theorem entry6 (P0 P1 : Vec Ideal S512x1024 .f32) (y : S512x1024.Idx) : Value.E6 P0 P1 y = sec (P0 y) (P1 y) := by
  have h0 : Value.ix6_0 y = y := funext fun a => match a with | ⟨0, _⟩ => rfl | ⟨1, _⟩ => rfl
  have h1 : Value.ix6_1 y = y := funext fun a => match a with | ⟨0, _⟩ => rfl | ⟨1, _⟩ => rfl
  have h2 : Value.ix6_2 y = y := funext fun a => match a with | ⟨0, _⟩ => rfl | ⟨1, _⟩ => rfl
  show sec (P0 (Value.ix6_0 y)) (P1 (Value.ix6_1 y)) = _
  rw [h0, h1]

theorem final6 : (dats m 0 c).arrAt 6 cfg0.N = fun i => sec (vA m c i) (gA m c i) := by
  refine (dats m 0 c).arrAt_eq_of_covers 6 _ (by decide +kernel) fun t _ y => ?_
  blk_simp
  rw [after0_6]
  unfold out0_6
  refine (Value.canon6_eq _ _ y).trans ((entry6 _ _ y).trans ?_)
  rw [← blk1_6 m c t y, ← blk3_6 m c t y]

end

open Cert.AdamFfnIdeal in
theorem algebraic : Cert.algebraic_AdamFfnIdeal_AdamwFfnIdeal (hAdamFfnIdeal := Cert.AdamFfnIdeal.Gen.facts) (hAdamwFfnIdeal := Cert.AdamwFfnIdeal.Gen.facts) := by
  intro m g m' g' hpre hagree
  refine ⟨fun c i => change (wA m c i) (gA m c i) (mA m c i) (vA m c i), fun c i => mom (mA m c i) (gA m c i),
    fun c i => sec (vA m c i) (gA m c i), ?_, ?_⟩
  · refine (θ_run _ _ _).mono (fun r h c => ?_) (Cert.AdamFfnIdeal.Value.run_blocks m g)
    exact ⟨(h c).1.trans (final4 m c), (h c).2.1.trans (final5 m c), (h c).2.2.1.trans (final6 m c), (h c).2.2.2⟩
  · refine (θ_run _ _ _).mono (fun r h c => ?_) (Cert.AdamwFfnIdeal.Value.run m' g')
    obtain ⟨e0, e1, e2, e3⟩ := hagree c
    refine ⟨(h c).1.trans ?_, (h c).2.1.trans ?_, (h c).2.2.1.trans ?_, (h c).2.2.2⟩
    · rw [e0, e1, e2, e3]; rfl
    · rw [e1, e2]; rfl
    · rw [e1, e3]; rfl

end Cert.StepFfn

end
-- ==== Proof.StepWdw.lean ====
/-
  The optimiser's step of the convolution's weight.
-/
module

public import proofs.«01_k».proof.Proof.Step
public import proofs.«01_k».proof.Proof.Gen.AdamWdwIdeal.Value
public import proofs.«01_k».proof.Proof.Gen.AdamwWdwIdeal.Read
public import proofs.«01_k».proof.Proof.Gen.AdamwWdwIdeal
public import proofs.«01_k».proof.Defs

@[expose] public section

set_option maxRecDepth 16384

noncomputable section

open Idealize.ShloMosaic Idealize.ShloMosaic.TcCoe Idealize.SL.Sem
open Idealize.ShloMosaic.Pipeline (Dat)

namespace Cert.StepWdw

open Cert.Step

open Cert.AdamWdwIdeal in
theorem algebraic : Cert.algebraic_AdamWdwIdeal_AdamwWdwIdeal (hAdamWdwIdeal := Cert.AdamWdwIdeal.Gen.facts) (hAdamwWdwIdeal := Cert.AdamwWdwIdeal.Gen.facts) := by
  intro m g m' g' hpre hagree
  refine ⟨fun c i => change (m ((c : Thread nD τ).loc main_arg0) i) (m ((c : Thread nD τ).loc main_arg1) i) (m ((c : Thread nD τ).loc main_arg2) i)
      (m ((c : Thread nD τ).loc main_arg3) i),
    fun c i => mom (m ((c : Thread nD τ).loc main_arg2) i) (m ((c : Thread nD τ).loc main_arg1) i),
    fun c i => sec (m ((c : Thread nD τ).loc main_arg3) i) (m ((c : Thread nD τ).loc main_arg1) i), ?_, ?_⟩
  · refine (θ_run _ _ _).mono (fun r h c => ?_) (Cert.AdamWdwIdeal.Value.run m g)
    exact ⟨(h c).1.trans rfl, (h c).2.1.trans rfl, (h c).2.2.1.trans rfl, (h c).2.2.2⟩
  · refine (θ_run _ _ _).mono (fun r h c => ?_) (Cert.AdamwWdwIdeal.Value.run m' g')
    obtain ⟨e0, e1, e2, e3⟩ := hagree c
    refine ⟨(h c).1.trans ?_, (h c).2.1.trans ?_, (h c).2.2.1.trans ?_, (h c).2.2.2⟩
    · rw [e0, e1, e2, e3]; rfl
    · rw [e1, e2]; rfl
    · rw [e1, e3]; rfl

end Cert.StepWdw

end
-- ==== Proof.lean ====
/-
  The claims about the calls of the step: of the channel mixing sub-layer, of the projections in and out of the token mixing
  sub-layer, and of the optimiser.  Each kernel and each reference ends, with its arguments unchanged and every semaphore at zero;
  each kernel and its reference leave the same arrays over the extended reals.
-/
module

public import proofs.«01_k».proof.Defs
public import proofs.«01_k».proof.Proof.Gen.Kernel.Frame
public import proofs.«01_k».proof.Proof.Gen.KernelUp.Frame
public import proofs.«01_k».proof.Proof.Gen.KernelDown.Frame
public import proofs.«01_k».proof.Proof.Gen.KernelFwd.Frame
public import proofs.«01_k».proof.Proof.BwdClaim
public import proofs.«01_k».proof.Proof.GradClaims
public import proofs.«01_k».proof.Proof.FwdClaim
public import proofs.«01_k».proof.Proof.Gen.KernelIn.Frame
public import proofs.«01_k».proof.Proof.Gen.KernelOut.Frame
public import proofs.«01_k».proof.Proof.Gen.KernelAda.Frame
public import proofs.«01_k».proof.Proof.Gen.AdamIn.Frame
public import proofs.«01_k».proof.Proof.Gen.AdamOut.Frame
public import proofs.«01_k».proof.Proof.Gen.AdamFfn.Frame
public import proofs.«01_k».proof.Proof.Gen.AdamWdw.Frame
public import proofs.«01_k».proof.Proof.InClaim
public import proofs.«01_k».proof.Proof.OutClaim
public import proofs.«01_k».proof.Proof.StepAda
public import proofs.«01_k».proof.Proof.StepIn
public import proofs.«01_k».proof.Proof.StepOut
public import proofs.«01_k».proof.Proof.StepFfn
public import proofs.«01_k».proof.Proof.StepWdw
public import Idealize.ShloMosaic.Adequacy
public import Idealize.ShloMosaic.Init

@[expose] public section

noncomputable section

namespace Cert.Proof

open Idealize.ShloMosaic Idealize.SL.Sem

/-- The reference of the sub-layer's backward pass is a straight line of host operations, and declares no semaphore. -/
theorem frame_Reference : Cert.quiescent_ReferenceIdeal (hReferenceIdeal := Cert.ReferenceIdeal.Gen.facts) := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

/-- The reference of the up projection's gradient is a straight line of host operations, and declares no semaphore. -/
theorem frame_ReferenceUp : Cert.quiescent_ReferenceUpIdeal (hReferenceUpIdeal := Cert.ReferenceUpIdeal.Gen.facts) := fun m ρ _ =>
  (θ_run Cert.ReferenceUpIdeal.defs _ _).mono (fun r h => ⟨fun c => (h c).2.2, Idealize.ShloMosaic.sem_eq_zero_of_no_sems (by decide) r.2⟩)
    (Cert.ReferenceUpIdeal.Value.run (F := Ideal) m ρ)

/-- The reference of the down projection's gradient is a straight line of host operations, and declares no semaphore. -/
theorem frame_ReferenceDown : Cert.quiescent_ReferenceDownIdeal (hReferenceDownIdeal := Cert.ReferenceDownIdeal.Gen.facts) := fun m ρ _ =>
  (θ_run Cert.ReferenceDownIdeal.defs _ _).mono (fun r h => ⟨fun c => (h c).2.2, Idealize.ShloMosaic.sem_eq_zero_of_no_sems (by decide) r.2⟩)
    (Cert.ReferenceDownIdeal.Value.run (F := Ideal) m ρ)

/-- The reference of the sub-layer's forward pass is a straight line of host operations, and declares no semaphore. -/
theorem frame_ReferenceFwd : Cert.quiescent_ReferenceFwdIdeal (hReferenceFwdIdeal := Cert.ReferenceFwdIdeal.Gen.facts) := fun m ρ _ =>
  (θ_run Cert.ReferenceFwdIdeal.defs _ _).mono (fun r h => ⟨fun c => (h c).2.2.2.2, Idealize.ShloMosaic.sem_eq_zero_of_no_sems (by decide) r.2⟩)
    (Cert.ReferenceFwdIdeal.Value.run (F := Ideal) m ρ)

/-- The reference of the input projection's backward pass is a straight line of host operations, and declares no semaphore. -/
theorem frame_ReferenceIn : Cert.quiescent_ReferenceInIdeal (hReferenceInIdeal := Cert.ReferenceInIdeal.Gen.facts) := fun m ρ _ =>
  (θ_run Cert.ReferenceInIdeal.defs _ _).mono (fun r h => ⟨fun c => (h c).2.2, Idealize.ShloMosaic.sem_eq_zero_of_no_sems (by decide) r.2⟩)
    (Cert.ReferenceInIdeal.Value.run (F := Ideal) m ρ)

/-- The reference of the output projection's backward pass is a straight line of host operations, and declares no semaphore. -/
theorem frame_ReferenceOut : Cert.quiescent_ReferenceOutIdeal (hReferenceOutIdeal := Cert.ReferenceOutIdeal.Gen.facts) := fun m ρ _ =>
  (θ_run Cert.ReferenceOutIdeal.defs _ _).mono (fun r h => ⟨fun c => (h c).2.2.2, Idealize.ShloMosaic.sem_eq_zero_of_no_sems (by decide) r.2⟩)
    (Cert.ReferenceOutIdeal.Value.run (F := Ideal) m ρ)

/-- The reference of the modulation weight's gradient and step is a straight line of host operations, and declares no semaphore. -/
theorem frame_ReferenceAda : Cert.quiescent_ReferenceAdaIdeal (hReferenceAdaIdeal := Cert.ReferenceAdaIdeal.Gen.facts) := fun m ρ _ =>
  (θ_run Cert.ReferenceAdaIdeal.defs _ _).mono (fun r h => ⟨fun c => (h c).2.2.2.2, Idealize.ShloMosaic.sem_eq_zero_of_no_sems (by decide) r.2⟩)
    (Cert.ReferenceAdaIdeal.Value.run (F := Ideal) m ρ)

/-- The reference of the optimiser's step at the input projection's shape is a straight line of host operations, and declares no semaphore. -/
theorem frame_AdamwIn : Cert.quiescent_AdamwInIdeal (hAdamwInIdeal := Cert.AdamwInIdeal.Gen.facts) := fun m ρ _ =>
  (θ_run Cert.AdamwInIdeal.defs _ _).mono (fun r h => ⟨fun c => (h c).2.2.2, Idealize.ShloMosaic.sem_eq_zero_of_no_sems (by decide) r.2⟩)
    (Cert.AdamwInIdeal.Value.run (F := Ideal) m ρ)

/-- The reference of the optimiser's step at the output projection's shape is a straight line of host operations, and declares no semaphore. -/
theorem frame_AdamwOut : Cert.quiescent_AdamwOutIdeal (hAdamwOutIdeal := Cert.AdamwOutIdeal.Gen.facts) := fun m ρ _ =>
  (θ_run Cert.AdamwOutIdeal.defs _ _).mono (fun r h => ⟨fun c => (h c).2.2.2, Idealize.ShloMosaic.sem_eq_zero_of_no_sems (by decide) r.2⟩)
    (Cert.AdamwOutIdeal.Value.run (F := Ideal) m ρ)

/-- The reference of the optimiser's step at a channel mixing weight's shape is a straight line of host operations, and declares no semaphore. -/
theorem frame_AdamwFfn : Cert.quiescent_AdamwFfnIdeal (hAdamwFfnIdeal := Cert.AdamwFfnIdeal.Gen.facts) := fun m ρ _ =>
  (θ_run Cert.AdamwFfnIdeal.defs _ _).mono (fun r h => ⟨fun c => (h c).2.2.2, Idealize.ShloMosaic.sem_eq_zero_of_no_sems (by decide) r.2⟩)
    (Cert.AdamwFfnIdeal.Value.run (F := Ideal) m ρ)

/-- The reference of the optimiser's step at the convolution weight's shape is a straight line of host operations, and declares no semaphore. -/
theorem frame_AdamwWdw : Cert.quiescent_AdamwWdwIdeal (hAdamwWdwIdeal := Cert.AdamwWdwIdeal.Gen.facts) := fun m ρ _ =>
  (θ_run Cert.AdamwWdwIdeal.defs _ _).mono (fun r h => ⟨fun c => (h c).2.2.2, Idealize.ShloMosaic.sem_eq_zero_of_no_sems (by decide) r.2⟩)
    (Cert.AdamwWdwIdeal.Value.run (F := Ideal) m ρ)

theorem claim : Cert.Claim :=
  ⟨Cert.Kernel.Gen.facts, Cert.KernelIdeal.Gen.facts, Cert.ReferenceIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelFwd.Gen.facts, Cert.KernelFwdIdeal.Gen.facts, Cert.ReferenceFwdIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelAda.Gen.facts, Cert.KernelAdaIdeal.Gen.facts, Cert.ReferenceAdaIdeal.Gen.facts,
    Cert.AdamIn.Gen.facts, Cert.AdamInIdeal.Gen.facts, Cert.AdamwInIdeal.Gen.facts,
    Cert.AdamOut.Gen.facts, Cert.AdamOutIdeal.Gen.facts, Cert.AdamwOutIdeal.Gen.facts,
    Cert.AdamFfn.Gen.facts, Cert.AdamFfnIdeal.Gen.facts, Cert.AdamwFfnIdeal.Gen.facts,
    Cert.AdamWdw.Gen.facts, Cert.AdamWdwIdeal.Gen.facts, Cert.AdamwWdwIdeal.Gen.facts,
    Cert.Pre_finite.Gen.facts, Cert.Pre_finite_fwd.Gen.facts, Cert.Pre_finite_in.Gen.facts,
    Cert.Pre_finite_out.Gen.facts,
    fun m ρ _ => Cert.Kernel.Gen.frame m ρ,
    fun m ρ _ => Cert.KernelIdeal.Gen.frame m ρ,
    fun m ρ _ => Cert.KernelIdeal.Gen.frame m ρ,
    frame_Reference,
    fun m ρ _ => frame_Reference m ρ trivial,
    fun m ρ _ => Cert.KernelUp.Gen.frame m ρ,
    fun m ρ _ => Cert.KernelUpIdeal.Gen.frame m ρ,
    frame_ReferenceUp,
    fun m ρ _ => Cert.KernelDown.Gen.frame m ρ,
    fun m ρ _ => Cert.KernelDownIdeal.Gen.frame m ρ,
    frame_ReferenceDown,
    fun m ρ _ => Cert.KernelFwd.Gen.frame m ρ,
    fun m ρ _ => Cert.KernelFwdIdeal.Gen.frame m ρ,
    fun m ρ _ => Cert.KernelFwdIdeal.Gen.frame m ρ,
    frame_ReferenceFwd,
    fun m ρ _ => frame_ReferenceFwd m ρ trivial,
    fun m ρ _ => Cert.KernelIn.Gen.frame m ρ,
    fun m ρ _ => Cert.KernelInIdeal.Gen.frame m ρ,
    fun m ρ _ => Cert.KernelInIdeal.Gen.frame m ρ,
    frame_ReferenceIn,
    fun m ρ _ => frame_ReferenceIn m ρ trivial,
    fun m ρ _ => Cert.KernelOut.Gen.frame m ρ,
    fun m ρ _ => Cert.KernelOutIdeal.Gen.frame m ρ,
    fun m ρ _ => Cert.KernelOutIdeal.Gen.frame m ρ,
    frame_ReferenceOut,
    fun m ρ _ => frame_ReferenceOut m ρ trivial,
    fun m ρ _ => Cert.KernelAda.Gen.frame m ρ,
    fun m ρ _ => Cert.KernelAdaIdeal.Gen.frame m ρ,
    frame_ReferenceAda,
    fun m ρ _ => Cert.AdamIn.Gen.frame m ρ,
    fun m ρ _ => Cert.AdamInIdeal.Gen.frame m ρ,
    frame_AdamwIn,
    fun m ρ _ => Cert.AdamOut.Gen.frame m ρ,
    fun m ρ _ => Cert.AdamOutIdeal.Gen.frame m ρ,
    frame_AdamwOut,
    fun m ρ _ => Cert.AdamFfn.Gen.frame m ρ,
    fun m ρ _ => Cert.AdamFfnIdeal.Gen.frame m ρ,
    frame_AdamwFfn,
    fun m ρ _ => Cert.AdamWdw.Gen.frame m ρ,
    fun m ρ _ => Cert.AdamWdwIdeal.Gen.frame m ρ,
    frame_AdamwWdw,
    trivial,
    Cert.FfnBwd.algebraic,
    trivial,
    Cert.GradUp.algebraic,
    trivial,
    Cert.GradDown.algebraic,
    trivial,
    Cert.FfnFwd.algebraic,
    trivial,
    Cert.MixIn.algebraic,
    trivial,
    Cert.MixOut.algebraic,
    trivial,
    Cert.StepAda.algebraic,
    trivial,
    Cert.StepIn.algebraic,
    trivial,
    Cert.StepOut.algebraic,
    trivial,
    Cert.StepFfn.algebraic,
    trivial,
    Cert.StepWdw.algebraic⟩

end Cert.Proof

end
